-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v35)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v35) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v35)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v35) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v74) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v60)) (v1 : (c : Dev Cert.Kernel5Ideal.nD) → Buf (Elt Ideal) ((c.tc : Thread Cert.Kernel5Ideal.nD Cert.Kernel5Ideal.τ).loc Cert.Kernel5Ideal.main_v62)) (v2 : (c : Dev Cert.Kernel5Ideal.nD) → Buf (Elt Ideal) ((c.tc : Thread Cert.Kernel5Ideal.nD Cert.Kernel5Ideal.τ).loc Cert.Kernel5Ideal.main_v64)) (v3 : (c : Dev Cert.Kernel5Ideal.nD) → Buf (Elt Ideal) ((c.tc : Thread Cert.Kernel5Ideal.nD Cert.Kernel5Ideal.τ).loc Cert.Kernel5Ideal.main_v66)) (v4 : (c : Dev Cert.Kernel5Ideal.nD) → Buf (Elt Ideal) ((c.tc : Thread Cert.Kernel5Ideal.nD Cert.Kernel5Ideal.τ).loc Cert.Kernel5Ideal.main_v67)) (v5 : (c : Dev Cert.Kernel5Ideal.nD) → Buf (Elt Ideal) ((c.tc : Thread Cert.Kernel5Ideal.nD Cert.Kernel5Ideal.τ).loc Cert.Kernel5Ideal.main_v68)) (v6 : (c : Dev Cert.Kernel5Ideal.nD) → Buf (Elt Ideal) ((c.tc : Thread Cert.Kernel5Ideal.nD Cert.Kernel5Ideal.τ).loc Cert.Kernel5Ideal.main_v69)) (v7 : (c : Dev Cert.Kernel5Ideal.nD) → Buf (Elt Ideal) ((c.tc : Thread Cert.Kernel5Ideal.nD Cert.Kernel5Ideal.τ).loc Cert.Kernel5Ideal.main_v70)) (v8 : (c : Dev Cert.Kernel5Ideal.nD) → Buf (Elt Ideal) ((c.tc : Thread Cert.Kernel5Ideal.nD Cert.Kernel5Ideal.τ).loc Cert.Kernel5Ideal.main_v71)) (v9 : (c : Dev Cert.Kernel5Ideal.nD) → Buf (Elt Ideal) ((c.tc : Thread Cert.Kernel5Ideal.nD Cert.Kernel5Ideal.τ).loc Cert.Kernel5Ideal.main_v73)) (v10 : (c : Dev Cert.Kernel5Ideal.nD) → Buf (Elt Ideal) ((c.tc : Thread Cert.Kernel5Ideal.nD Cert.Kernel5Ideal.τ).loc Cert.Kernel5Ideal.main_v75)) (v11 : (c : Dev Cert.Kernel5Ideal.nD) → Buf (Elt Ideal) ((c.tc : Thread Cert.Kernel5Ideal.nD Cert.Kernel5Ideal.τ).loc Cert.Kernel5Ideal.main_v77)) (v12 : (c : Dev Cert.Kernel5Ideal.nD) → Buf (Elt Ideal) ((c.tc : Thread Cert.Kernel5Ideal.nD Cert.Kernel5Ideal.τ).loc Cert.Kernel5Ideal.main_v79)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v60) = v0 c
          ∧ r.2.mem ((c.tc : Thread Cert.Kernel5Ideal.nD Cert.Kernel5Ideal.τ).loc Cert.Kernel5Ideal.main_v62) = v1 c
          ∧ r.2.mem ((c.tc : Thread Cert.Kernel5Ideal.nD Cert.Kernel5Ideal.τ).loc Cert.Kernel5Ideal.main_v64) = v2 c
          ∧ r.2.mem ((c.tc : Thread Cert.Kernel5Ideal.nD Cert.Kernel5Ideal.τ).loc Cert.Kernel5Ideal.main_v66) = v3 c
          ∧ r.2.mem ((c.tc : Thread Cert.Kernel5Ideal.nD Cert.Kernel5Ideal.τ).loc Cert.Kernel5Ideal.main_v67) = v4 c
          ∧ r.2.mem ((c.tc : Thread Cert.Kernel5Ideal.nD Cert.Kernel5Ideal.τ).loc Cert.Kernel5Ideal.main_v68) = v5 c
          ∧ r.2.mem ((c.tc : Thread Cert.Kernel5Ideal.nD Cert.Kernel5Ideal.τ).loc Cert.Kernel5Ideal.main_v69) = v6 c
          ∧ r.2.mem ((c.tc : Thread Cert.Kernel5Ideal.nD Cert.Kernel5Ideal.τ).loc Cert.Kernel5Ideal.main_v70) = v7 c
          ∧ r.2.mem ((c.tc : Thread Cert.Kernel5Ideal.nD Cert.Kernel5Ideal.τ).loc Cert.Kernel5Ideal.main_v71) = v8 c
          ∧ r.2.mem ((c.tc : Thread Cert.Kernel5Ideal.nD Cert.Kernel5Ideal.τ).loc Cert.Kernel5Ideal.main_v73) = v9 c
          ∧ r.2.mem ((c.tc : Thread Cert.Kernel5Ideal.nD Cert.Kernel5Ideal.τ).loc Cert.Kernel5Ideal.main_v75) = v10 c
          ∧ r.2.mem ((c.tc : Thread Cert.Kernel5Ideal.nD Cert.Kernel5Ideal.τ).loc Cert.Kernel5Ideal.main_v77) = v11 c
          ∧ r.2.mem ((c.tc : Thread Cert.Kernel5Ideal.nD Cert.Kernel5Ideal.τ).loc Cert.Kernel5Ideal.main_v79) = v12 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_v21) = v1 c
          ∧ r.2.mem ((c.tc : Thread Cert.Reference5Ideal.nD Cert.Reference5Ideal.τ).loc Cert.Reference5Ideal.main_v23) = v2 c
          ∧ r.2.mem ((c.tc : Thread Cert.Reference5Ideal.nD Cert.Reference5Ideal.τ).loc Cert.Reference5Ideal.main_v25) = v3 c
          ∧ r.2.mem ((c.tc : Thread Cert.Reference5Ideal.nD Cert.Reference5Ideal.τ).loc Cert.Reference5Ideal.main_v26) = v4 c
          ∧ r.2.mem ((c.tc : Thread Cert.Reference5Ideal.nD Cert.Reference5Ideal.τ).loc Cert.Reference5Ideal.main_v29) = v5 c
          ∧ r.2.mem ((c.tc : Thread Cert.Reference5Ideal.nD Cert.Reference5Ideal.τ).loc Cert.Reference5Ideal.main_v32) = v6 c
          ∧ r.2.mem ((c.tc : Thread Cert.Reference5Ideal.nD Cert.Reference5Ideal.τ).loc Cert.Reference5Ideal.main_v9) = v7 c
          ∧ r.2.mem ((c.tc : Thread Cert.Reference5Ideal.nD Cert.Reference5Ideal.τ).loc Cert.Reference5Ideal.main_v10) = v8 c
          ∧ r.2.mem ((c.tc : Thread Cert.Reference5Ideal.nD Cert.Reference5Ideal.τ).loc Cert.Reference5Ideal.main_v34) = v9 c
          ∧ r.2.mem ((c.tc : Thread Cert.Reference5Ideal.nD Cert.Reference5Ideal.τ).loc Cert.Reference5Ideal.main_v11) = v10 c
          ∧ r.2.mem ((c.tc : Thread Cert.Reference5Ideal.nD Cert.Reference5Ideal.τ).loc Cert.Reference5Ideal.main_v15) = v11 c
          ∧ r.2.mem ((c.tc : Thread Cert.Reference5Ideal.nD Cert.Reference5Ideal.τ).loc Cert.Reference5Ideal.main_v35) = v12 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v11_0)) (v1 : (c : Dev Cert.Kernel6Ideal.nD) → Buf (Elt Ideal) ((c.tc : Thread Cert.Kernel6Ideal.nD Cert.Kernel6Ideal.τ).loc Cert.Kernel6Ideal.main_v11_1)) (v2 : (c : Dev Cert.Kernel6Ideal.nD) → Buf (Elt Ideal) ((c.tc : Thread Cert.Kernel6Ideal.nD Cert.Kernel6Ideal.τ).loc Cert.Kernel6Ideal.main_v12)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11_0) = v0 c
          ∧ r.2.mem ((c.tc : Thread Cert.Kernel6Ideal.nD Cert.Kernel6Ideal.τ).loc Cert.Kernel6Ideal.main_v11_1) = v1 c
          ∧ r.2.mem ((c.tc : Thread Cert.Kernel6Ideal.nD Cert.Kernel6Ideal.τ).loc Cert.Kernel6Ideal.main_v12) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v48) = v0 c
          ∧ r.2.mem ((c.tc : Thread Cert.Reference6Ideal.nD Cert.Reference6Ideal.τ).loc Cert.Reference6Ideal.main_v49) = v1 c
          ∧ r.2.mem ((c.tc : Thread Cert.Reference6Ideal.nD Cert.Reference6Ideal.τ).loc Cert.Reference6Ideal.main_v1) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v26) = v0 c
          ∧ r.2.mem ((c.tc : Thread Cert.Reference7Ideal.nD Cert.Reference7Ideal.τ).loc Cert.Reference7Ideal.main_v27) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S16384x2560 : Shape := ⟨2, ![16384, 2560]⟩
abbrev S16384x1024 : Shape := ⟨2, ![16384, 1024]⟩
abbrev S16384x128 : Shape := ⟨2, ![16384, 128]⟩
abbrev S16384x512 : Shape := ⟨2, ![16384, 512]⟩
abbrev S16384x4x256 : Shape := ⟨3, ![16384, 4, 256]⟩
abbrev S16384x4x128 : Shape := ⟨3, ![16384, 4, 128]⟩
abbrev S16384x4 : Shape := ⟨2, ![16384, 4]⟩
abbrev S_ : Shape := ⟨0, ![]⟩

class Facts : Prop where
  slices_S16384x2560_S16384x512_0_2048 : S16384x2560.Slices ![0, 2048] S16384x512
  bitsLt_bf16_f32 : FTy.bits .bf16 < FTy.bits .f32
  shapeCasts_S16384x1024_S16384x4x256 : S16384x1024.ShapeCasts S16384x4x256
  slices_S16384x4x256_S16384x4x128_0_0_0 : S16384x4x256.Slices ![0, 0, 0] S16384x4x128
  slices_S16384x128_S16384x4_0_32 : S16384x128.Slices ![0, 32] S16384x4
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x4x128 : S_.BroadcastsInDim S16384x4x128 (![] : Fin 0 → Fin S16384x4x128.rank)
  reducesTo_S16384x4x128_S_d0_1_2 : S16384x4x128.ReducesTo [0, 1, 2] S_
  bcast_S_S16384x4 : S_.BroadcastsInDim S16384x4 (![] : Fin 0 → Fin S16384x4.rank)
  reducesTo_S16384x4_S_d0_1 : S16384x4.ReducesTo [0, 1] S_

variable [Facts]

def fn_part1 {F : FTy → Type} [FloatOps F] (main_v13 : IVec S_ 1) (main_v17 : IVec S_ 1) : IVec S_ 1 :=
  let main_v18 : IVec S_ 1 := andi main_v13 main_v17
  main_v18

def fn {F : FTy → Type} [FloatOps F] (main_arg0 : FVec F S16384x2560 .bf16) (main_arg1 : FVec F S16384x1024 .f32) (main_arg2 : FVec F S16384x128 .f32) : IVec S_ 1 :=
  let main_v0 : FVec F S16384x512 .bf16 := (extractStridedSlice S16384x512 ![0, 2048] · slices_S16384x2560_S16384x512_0_2048) main_arg0
  let main_v1 : FVec F S16384x512 .f32 := (extf .f32 · bitsLt_bf16_f32) main_v0
  let main_v2 : FVec F S16384x4x256 .f32 := shapeCast S16384x4x256 main_arg1 shapeCasts_S16384x1024_S16384x4x256
  let main_v3 : FVec F S16384x4x128 .f32 := (extractStridedSlice S16384x4x128 ![0, 0, 0] · slices_S16384x4x256_S16384x4x128_0_0_0) main_v2
  let main_v4 : FVec F S16384x4 .f32 := (extractStridedSlice S16384x4 ![0, 32] · slices_S16384x128_S16384x4_0_32) main_arg2
  let main_v5 : FVec F S16384x512 .f32 := Host.absf main_v1
  let main_cst : FVec F S_ .f32 := constant S_ .f32 0x7F800000#32
  let main_v6 : FVec F S16384x512 .f32 := broadcastInDim S16384x512 ![] bcast_S_S16384x512 main_cst
  let main_v7 : IVec S16384x512 1 := cmpf .olt main_v5 main_v6
  let main_c : IVec S_ 1 := constantI S_ 1 1#1
  let main_v8 : IVec S_ 1 := (fun x v => Host.reduce IntOp.andi x v reducesTo_S16384x512_S_d0_1 h_S_) main_v7 main_c
  let main_v9 : FVec F S16384x4x128 .f32 := Host.absf main_v3
  let main_cst_0 : FVec F S_ .f32 := constant S_ .f32 0x7F800000#32
  let main_v10 : FVec F S16384x4x128 .f32 := broadcastInDim S16384x4x128 ![] bcast_S_S16384x4x128 main_cst_0
  let main_v11 : IVec S16384x4x128 1 := cmpf .olt main_v9 main_v10
  let main_c_1 : IVec S_ 1 := constantI S_ 1 1#1
  let main_v12 : IVec S_ 1 := (fun x v => Host.reduce IntOp.andi x v reducesTo_S16384x4x128_S_d0_1_2 h_S_) main_v11 main_c_1
  let main_v13 : IVec S_ 1 := andi main_v8 main_v12
  let main_v14 : FVec F S16384x4 .f32 := Host.absf main_v4
  let main_cst_2 : FVec F S_ .f32 := constant S_ .f32 0x7F800000#32
  let main_v15 : FVec F S16384x4 .f32 := broadcastInDim S16384x4 ![] bcast_S_S16384x4 main_cst_2
  let main_v16 : IVec S16384x4 1 := cmpf .olt main_v14 main_v15
  let main_c_3 : IVec S_ 1 := constantI S_ 1 1#1
  let main_v17 : IVec S_ 1 := (fun x v => Host.reduce IntOp.andi x v reducesTo_S16384x4_S_d0_1 h_S_) main_v16 main_c_3
  fn_part1 (F := F) main_v13 main_v17
-- ==== Kernel.lean ====
abbrev S16384x2560 : Shape := ⟨2, ![16384, 2560]⟩
abbrev S16384x1024 : Shape := ⟨2, ![16384, 1024]⟩
abbrev S16384x128 : Shape := ⟨2, ![16384, 128]⟩
abbrev S16384x4 : Shape := ⟨2, ![16384, 4]⟩
abbrev S8x2048x4 : Shape := ⟨3, ![8, 2048, 4]⟩
abbrev S8x4x2048 : Shape := ⟨3, ![8, 4, 2048]⟩
abbrev S32x1x2048 : Shape := ⟨3, ![32, 1, 2048]⟩
abbrev S16384x512 : Shape := ⟨2, ![16384, 512]⟩
abbrev S256x128 : Shape := ⟨2, ![256, 128]⟩
abbrev S2048x256 : Shape := ⟨2, ![2048, 256]⟩
abbrev S1x1x2048 : Shape := ⟨3, ![1, 1, 2048]⟩
abbrev S2048x128 : Shape := ⟨2, ![2048, 128]⟩
abbrev S256 : Shape := ⟨1, ![256]⟩
abbrev S256x1 : Shape := ⟨2, ![256, 1]⟩
abbrev S512x128 : Shape := ⟨2, ![512, 128]⟩
abbrev S256x512 : Shape := ⟨2, ![256, 512]⟩
abbrev S1x1x512 : Shape := ⟨3, ![1, 1, 512]⟩
abbrev S1x512 : Shape := ⟨2, ![1, 512]⟩
abbrev S1024x128 : Shape := ⟨2, ![1024, 128]⟩
abbrev S256x1024 : Shape := ⟨2, ![256, 1024]⟩
abbrev S1x1x1024 : Shape := ⟨3, ![1, 1, 1024]⟩
abbrev S1x1024 : Shape := ⟨2, ![1, 1024]⟩
abbrev S1536x128 : Shape := ⟨2, ![1536, 128]⟩
abbrev S256x1536 : Shape := ⟨2, ![256, 1536]⟩
abbrev S1x1x1536 : Shape := ⟨3, ![1, 1, 1536]⟩
abbrev S1x1536 : Shape := ⟨2, ![1, 1536]⟩
abbrev S256x2048 : Shape := ⟨2, ![256, 2048]⟩
abbrev S1x2048 : Shape := ⟨2, ![1, 2048]⟩

abbrev nBuf : Space → Nat
  | .hbm => 8
  | .vmem => 12
  | .smem => 0
  | _ => 0

abbrev bufTy : (tb : Table) → Fin (tcTables nBuf tb) → BufTy
  | .hbm, ⟨0, _⟩ => ⟨S16384x2560, .bf16⟩
  | .hbm, ⟨1, _⟩ => ⟨S16384x1024, .f32⟩
  | .hbm, ⟨2, _⟩ => ⟨S16384x128, .f32⟩
  | .hbm, ⟨3, _⟩ => ⟨S16384x4, .f32⟩
  | .hbm, ⟨4, _⟩ => ⟨S8x2048x4, .f32⟩
  | .hbm, ⟨5, _⟩ => ⟨S8x4x2048, .f32⟩
  | .hbm, ⟨6, _⟩ => ⟨S32x1x2048, .f32⟩
  | .hbm, ⟨7, _⟩ => ⟨S16384x512, .bf16⟩
  | .local _ .vmem, ⟨0, _⟩ => ⟨S256x128, .bf16⟩
  | .local _ .vmem, ⟨1, _⟩ => ⟨S256x128, .bf16⟩
  | .local _ .vmem, ⟨2, _⟩ => ⟨S2048x256, .f32⟩
  | .local _ .vmem, ⟨3, _⟩ => ⟨S2048x256, .f32⟩
  | .local _ .vmem, ⟨4, _⟩ => ⟨S256x128, .f32⟩
  | .local _ .vmem, ⟨5, _⟩ => ⟨S256x128, .f32⟩
  | .local _ .vmem, ⟨6, _⟩ => ⟨S1x1x2048, .f32⟩
  | .local _ .vmem, ⟨7, _⟩ => ⟨S1x1x2048, .f32⟩
  | .local _ .vmem, ⟨8, _⟩ => ⟨S256x128, .bf16⟩
  | .local _ .vmem, ⟨9, _⟩ => ⟨S256x128, .bf16⟩
  | .local _ .vmem, ⟨10, _⟩ => ⟨S2048x128, .bf16⟩
  | .local _ .vmem, ⟨11, _⟩ => ⟨S2048x128, .bf16⟩
  | _, _ => ⟨S16384x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c0_i32_1 : BitVec 32 := 0#32
  let v4 : BitVec 1 := Scalar.cmpi .sgt arg2 c0_i32_1
  let v5 : BitVec 32 := Scalar.extui v4
  let c0_i32_2 : BitVec 32 := 0#32
  let v6 : BitVec 1 := Scalar.cmpi .slt arg2 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi arg2 c2_i32
  let c0_i32_5 : BitVec 32 := 0#32
  let v16 : BitVec 1 := Scalar.cmpi .ne v15 c0_i32_5
  let v17 : BitVec 1 := Scalar.andi v14 v16
  let v3 : BitVec 32 := Scalar.divsi arg2 c2_i32
  let c1_i32 : BitVec 32 := 1#32
  let v18 : BitVec 32 := Scalar.subi v3 c1_i32
  let v19 : BitVec 32 := Scalar.select v17 v18 v3
  let c0_i32_6 : BitVec 32 := 0#32
  let v20 : BitVec 1 := Scalar.cmpi .eq v19 c0_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg2 : BitVec 32 := BitVec.ofNat 32 (i 2).val
  let c0_i32_9 : BitVec 32 := 0#32
  let v24 : BitVec 1 := Scalar.cmpi .sgt arg2 c0_i32_9
  let v25 : BitVec 32 := Scalar.extui v24
  let c0_i32_10 : BitVec 32 := 0#32
  let v26 : BitVec 1 := Scalar.cmpi .slt arg2 c0_i32_10
  let v27 : BitVec 32 := Scalar.extui v26
  let v28 : BitVec 32 := Scalar.subi v25 v27
  let c2_i32_8 : BitVec 32 := 2#32
  let c0_i32_11 : BitVec 32 := 0#32
  let v29 : BitVec 1 := Scalar.cmpi .sgt c2_i32_8 c0_i32_11
  let v30 : BitVec 32 := Scalar.extui v29
  let c0_i32_12 : BitVec 32 := 0#32
  let v31 : BitVec 1 := Scalar.cmpi .slt c2_i32_8 c0_i32_12
  let v32 : BitVec 32 := Scalar.extui v31
  let v33 : BitVec 32 := Scalar.subi v30 v32
  let v34 : BitVec 1 := Scalar.cmpi .ne v28 v33
  let v35 : BitVec 32 := Scalar.remsi arg2 c2_i32_8
  let c0_i32_13 : BitVec 32 := 0#32
  let v36 : BitVec 1 := Scalar.cmpi .ne v35 c0_i32_13
  let v37 : BitVec 1 := Scalar.andi v34 v36
  let v23 : BitVec 32 := Scalar.divsi arg2 c2_i32_8
  let c1_i32_14 : BitVec 32 := 1#32
  let v38 : BitVec 32 := Scalar.subi v23 c1_i32_14
  let v39 : BitVec 32 := Scalar.select v37 v38 v23
  let c1_i32_15 : BitVec 32 := 1#32
  let v40 : BitVec 1 := Scalar.cmpi .eq v39 c1_i32_15
  let v41 : BitVec 32 := Scalar.extui v40
  let c0_i32_16 : BitVec 32 := 0#32
  let v42 : BitVec 1 := Scalar.cmpi .ne v41 c0_i32_16
  v42

def k0_cond4 (i : grid0.Coords) : BitVec 1 :=
  let arg2 : BitVec 32 := BitVec.ofNat 32 (i 2).val
  let c0_i32_18 : BitVec 32 := 0#32
  let v44 : BitVec 1 := Scalar.cmpi .sgt arg2 c0_i32_18
  let v45 : BitVec 32 := Scalar.extui v44
  let c0_i32_19 : BitVec 32 := 0#32
  let v46 : BitVec 1 := Scalar.cmpi .slt arg2 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi arg2 c2_i32_17
  let c0_i32_22 : BitVec 32 := 0#32
  let v56 : BitVec 1 := Scalar.cmpi .ne v55 c0_i32_22
  let v57 : BitVec 1 := Scalar.andi v54 v56
  let v43 : BitVec 32 := Scalar.divsi arg2 c2_i32_17
  let c1_i32_23 : BitVec 32 := 1#32
  let v58 : BitVec 32 := Scalar.subi v43 c1_i32_23
  let v59 : BitVec 32 := Scalar.select v57 v58 v43
  let c2_i32_24 : BitVec 32 := 2#32
  let v60 : BitVec 1 := Scalar.cmpi .eq v59 c2_i32_24
  let v61 : BitVec 32 := Scalar.extui v60
  let c0_i32_25 : BitVec 32 := 0#32
  let v62 : BitVec 1 := Scalar.cmpi .ne v61 c0_i32_25
  v62

def k0_cond5 (i : grid0.Coords) : BitVec 1 :=
  let arg2 : BitVec 32 := BitVec.ofNat 32 (i 2).val
  let c0_i32_27 : BitVec 32 := 0#32
  let v64 : BitVec 1 := Scalar.cmpi .sgt arg2 c0_i32_27
  let v65 : BitVec 32 := Scalar.extui v64
  let c0_i32_28 : BitVec 32 := 0#32
  let v66 : BitVec 1 := Scalar.cmpi .slt arg2 c0_i32_28
  let v67 : BitVec 32 := Scalar.extui v66
  let v68 : BitVec 32 := Scalar.subi v65 v67
  let c2_i32_26 : BitVec 32 := 2#32
  let c0_i32_29 : BitVec 32 := 0#32
  let v69 : BitVec 1 := Scalar.cmpi .sgt c2_i32_26 c0_i32_29
  let v70 : BitVec 32 := Scalar.extui v69
  let c0_i32_30 : BitVec 32 := 0#32
  let v71 : BitVec 1 := Scalar.cmpi .slt c2_i32_26 c0_i32_30
  let v72 : BitVec 32 := Scalar.extui v71
  let v73 : BitVec 32 := Scalar.subi v70 v72
  let v74 : BitVec 1 := Scalar.cmpi .ne v68 v73
  let v75 : BitVec 32 := Scalar.remsi arg2 c2_i32_26
  let c0_i32_31 : BitVec 32 := 0#32
  let v76 : BitVec 1 := Scalar.cmpi .ne v75 c0_i32_31
  let v77 : BitVec 1 := Scalar.andi v74 v76
  let v63 : BitVec 32 := Scalar.divsi arg2 c2_i32_26
  let c1_i32_32 : BitVec 32 := 1#32
  let v78 : BitVec 32 := Scalar.subi v63 c1_i32_32
  let v79 : BitVec 32 := Scalar.select v77 v78 v63
  let c3_i32 : BitVec 32 := 3#32
  let v80 : BitVec 1 := Scalar.cmpi .eq v79 c3_i32
  let v81 : BitVec 32 := Scalar.extui v80
  let c0_i32_33 : BitVec 32 := 0#32
  let v82 : BitVec 1 := Scalar.cmpi .ne v81 c0_i32_33
  v82

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S16384x2560 : Shape := ⟨2, ![16384, 2560]⟩
abbrev S16384x1024 : Shape := ⟨2, ![16384, 1024]⟩
abbrev S16384x128 : Shape := ⟨2, ![16384, 128]⟩
abbrev S16384x512 : Shape := ⟨2, ![16384, 512]⟩
abbrev S8x2048x4x128 : Shape := ⟨4, ![8, 2048, 4, 128]⟩
abbrev S8x2048x4x256 : Shape := ⟨4, ![8, 2048, 4, 256]⟩
abbrev S16384x4 : Shape := ⟨2, ![16384, 4]⟩
abbrev S8x2048x4 : Shape := ⟨3, ![8, 2048, 4]⟩
abbrev S8x4x2048x2048 : Shape := ⟨4, ![8, 4, 2048, 2048]⟩
abbrev S_ : Shape := ⟨0, ![]⟩
abbrev S8x4x2048 : Shape := ⟨3, ![8, 4, 2048]⟩
abbrev S8x4x2048x1 : Shape := ⟨4, ![8, 4, 2048, 1]⟩
abbrev S8x4x1x2048 : Shape := ⟨4, ![8, 4, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x4x128x2048 : Shape := ⟨4, ![8, 4, 128, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16384x2560, .bf16⟩
  | .hbm, ⟨1, _⟩ => ⟨S16384x1024, .f32⟩
  | .hbm, ⟨2, _⟩ => ⟨S16384x128, .f32⟩
  | .hbm, ⟨3, _⟩ => ⟨S16384x512, .bf16⟩
  | .hbm, ⟨4, _⟩ => ⟨S16384x512, .f32⟩
  | .hbm, ⟨5, _⟩ => ⟨S8x2048x4x128, .f32⟩
  | .hbm, ⟨6, _⟩ => ⟨S8x2048x4x256, .f32⟩
  | .hbm, ⟨7, _⟩ => ⟨S8x2048x4x128, .f32⟩
  | .hbm, ⟨8, _⟩ => ⟨S8x2048x4x128, .f32⟩
  | .hbm, ⟨9, _⟩ => ⟨S16384x4, .f32⟩
  | .hbm, ⟨10, _⟩ => ⟨S8x2048x4, .f32⟩
  | .hbm, ⟨11, _⟩ => ⟨S8x4x2048x2048, .f32⟩
  | .hbm, ⟨12, _⟩ => ⟨S_, .f32⟩
  | .hbm, ⟨13, _⟩ => ⟨S8x4x2048x2048, .f32⟩
  | .hbm, ⟨14, _⟩ => ⟨S8x4x2048x2048, .f32⟩
  | .hbm, ⟨15, _⟩ => ⟨S8x4x2048, .f32⟩
  | .hbm, ⟨16, _⟩ => ⟨S8x4x2048x1, .f32⟩
  | .hbm, ⟨17, _⟩ => ⟨S8x4x2048x2048, .f32⟩
  | .hbm, ⟨18, _⟩ => ⟨S8x4x2048x2048, .f32⟩
  | .hbm, ⟨19, _⟩ => ⟨S8x4x2048, .f32⟩
  | .hbm, ⟨20, _⟩ => ⟨S8x4x1x2048, .f32⟩
  | .hbm, ⟨21, _⟩ => ⟨S8x4x2048x2048, .f32⟩
  | .hbm, ⟨22, _⟩ => ⟨S8x4x2048x2048, .f32⟩
  | .hbm, ⟨23, _⟩ => ⟨S2048, .i32⟩
  | .hbm, ⟨24, _⟩ => ⟨S2048, .i32⟩
  | .hbm, ⟨25, _⟩ => ⟨S1x2048, .i32⟩
  | .hbm, ⟨26, _⟩ => ⟨S2048x1, .i32⟩
  | .hbm, ⟨27, _⟩ => ⟨S2048x2048, .i32⟩
  | .hbm, ⟨28, _⟩ => ⟨S2048x2048, .i32⟩
  | .hbm, ⟨29, _⟩ => ⟨S2048x2048, .i1⟩
  | .hbm, ⟨30, _⟩ => ⟨S_, .f32⟩
  | .hbm, ⟨31, _⟩ => ⟨S_, .f32⟩
  | .hbm, ⟨32, _⟩ => ⟨S8x4x2048x2048, .i1⟩
  | .hbm, ⟨33, _⟩ => ⟨S8x4x2048x2048, .f32⟩
  | .hbm, ⟨34, _⟩ => ⟨S8x4x2048x2048, .f32⟩
  | .hbm, ⟨35, _⟩ => ⟨S_, .f32⟩
  | .hbm, ⟨36, _⟩ => ⟨S8x4x2048, .f32⟩
  | .hbm, ⟨37, _⟩ => ⟨S_, .f32⟩
  | .hbm, ⟨38, _⟩ => ⟨S8x4x2048, .f32⟩
  | .hbm, ⟨39, _⟩ => ⟨S8x4x2048, .f32⟩
  | .hbm, ⟨40, _⟩ => ⟨S8x4x2048x1, .f32⟩
  | .hbm, ⟨41, _⟩ => ⟨S8x4x2048x2048, .f32⟩
  | .hbm, ⟨42, _⟩ => ⟨S8x4x2048x2048, .f32⟩
  | .hbm, ⟨43, _⟩ => ⟨S8x4x2048x2048, .f32⟩
  | .hbm, ⟨44, _⟩ => ⟨S_, .f32⟩
  | .hbm, ⟨45, _⟩ => ⟨S8x4x2048, .f32⟩
  | .hbm, ⟨46, _⟩ => ⟨S8x4x2048x1, .f32⟩
  | .hbm, ⟨47, _⟩ => ⟨S8x4x2048x2048, .f32⟩
  | .hbm, ⟨48, _⟩ => ⟨S8x4x2048x2048, .f32⟩
  | .hbm, ⟨49, _⟩ => ⟨S8x4x128x2048, .f32⟩
  | .hbm, ⟨50, _⟩ => ⟨S8x2048x4x128, .f32⟩
  | .hbm, ⟨51, _⟩ => ⟨S16384x512, .f32⟩
  | .hbm, ⟨52, _⟩ => ⟨S16384x512, .bf16⟩
  | _, _ => ⟨S16384x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Kernel2.lean ====
abbrev S16384x2048 : Shape := ⟨2, ![16384, 2048]⟩
abbrev S16384x512 : Shape := ⟨2, ![16384, 512]⟩
abbrev S16384x1024 : Shape := ⟨2, ![16384, 1024]⟩
abbrev S2048x8192 : Shape := ⟨2, ![2048, 8192]⟩
abbrev S8192 : Shape := ⟨1, ![8192]⟩
abbrev S512x2048 : Shape := ⟨2, ![512, 2048]⟩
abbrev S1024x2048 : Shape := ⟨2, ![1024, 2048]⟩
abbrev S1x8192 : Shape := ⟨2, ![1, 8192]⟩
abbrev S1024x512 : Shape := ⟨2, ![1024, 512]⟩
abbrev S1024x1024 : Shape := ⟨2, ![1024, 1024]⟩
abbrev S2048x256 : Shape := ⟨2, ![2048, 256]⟩
abbrev S1x256 : Shape := ⟨2, ![1, 256]⟩
abbrev S512x256 : Shape := ⟨2, ![512, 256]⟩
abbrev S1024x256 : Shape := ⟨2, ![1024, 256]⟩

abbrev nBuf : Space → Nat
  | .hbm => 19
  | .vmem => 36
  | .smem => 0
  | _ => 0

abbrev bufTy : (tb : Table) → Fin (tcTables nBuf tb) → BufTy
  | .hbm, ⟨0, _⟩ => ⟨S16384x2048, .f32⟩
  | .hbm, ⟨1, _⟩ => ⟨S16384x512, .bf16⟩
  | .hbm, ⟨2, _⟩ => ⟨S16384x512, .bf16⟩
  | .hbm, ⟨3, _⟩ => ⟨S16384x1024, .bf16⟩
  | .hbm, ⟨4, _⟩ => ⟨S16384x512, .bf16⟩
  | .hbm, ⟨5, _⟩ => ⟨S2048x8192, .f32⟩
  | .hbm, ⟨6, _⟩ => ⟨S8192, .f32⟩
  | .hbm, ⟨7, _⟩ => ⟨S512x2048, .f32⟩
  | .hbm, ⟨8, _⟩ => ⟨S512x2048, .f32⟩
  | .hbm, ⟨9, _⟩ => ⟨S1024x2048, .f32⟩
  | .hbm, ⟨10, _⟩ => ⟨S512x2048, .f32⟩
  | .hbm, ⟨11, _⟩ => ⟨S512x2048, .bf16⟩
  | .hbm, ⟨12, _⟩ => ⟨S512x2048, .bf16⟩
  | .hbm, ⟨13, _⟩ => ⟨S1024x2048, .bf16⟩
  | .hbm, ⟨14, _⟩ => ⟨S512x2048, .bf16⟩
  | .hbm, ⟨15, _⟩ => ⟨S16384x2048, .bf16⟩
  | .hbm, ⟨16, _⟩ => ⟨S2048x8192, .bf16⟩
  | .hbm, ⟨17, _⟩ => ⟨S1x8192, .f32⟩
  | .hbm, ⟨18, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S512x256, .bf16⟩
  | .local _ .vmem, ⟨27, _⟩ => ⟨S512x256, .bf16⟩
  | .local _ .vmem, ⟨28, _⟩ => ⟨S512x256, .bf16⟩
  | .local _ .vmem, ⟨29, _⟩ => ⟨S512x256, .bf16⟩
  | .local _ .vmem, ⟨30, _⟩ => ⟨S1024x256, .bf16⟩
  | .local _ .vmem, ⟨31, _⟩ => ⟨S1024x256, .bf16⟩
  | .local _ .vmem, ⟨32, _⟩ => ⟨S512x256, .bf16⟩
  | .local _ .vmem, ⟨33, _⟩ => ⟨S512x256, .bf16⟩
  | .local _ .vmem, ⟨34, _⟩ => ⟨S1024x256, .bf16⟩
  | .local _ .vmem, ⟨35, _⟩ => ⟨S1024x256, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S1024x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference2Ideal.lean ====
abbrev S16384x2048 : Shape := ⟨2, ![16384, 2048]⟩
abbrev S16384x512 : Shape := ⟨2, ![16384, 512]⟩
abbrev S16384x1024 : Shape := ⟨2, ![16384, 1024]⟩
abbrev S2048x8192 : Shape := ⟨2, ![2048, 8192]⟩
abbrev S8192 : Shape := ⟨1, ![8192]⟩
abbrev S512x2048 : Shape := ⟨2, ![512, 2048]⟩
abbrev S1024x2048 : Shape := ⟨2, ![1024, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 86
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x512, .bf16⟩
  | .hbm, ⟨2, _⟩ => ⟨S16384x512, .bf16⟩
  | .hbm, ⟨3, _⟩ => ⟨S16384x1024, .bf16⟩
  | .hbm, ⟨4, _⟩ => ⟨S16384x512, .bf16⟩
  | .hbm, ⟨5, _⟩ => ⟨S2048x8192, .f32⟩
  | .hbm, ⟨6, _⟩ => ⟨S8192, .f32⟩
  | .hbm, ⟨7, _⟩ => ⟨S512x2048, .f32⟩
  | .hbm, ⟨8, _⟩ => ⟨S512x2048, .f32⟩
  | .hbm, ⟨9, _⟩ => ⟨S1024x2048, .f32⟩
  | .hbm, ⟨10, _⟩ => ⟨S512x2048, .f32⟩
  | .hbm, ⟨11, _⟩ => ⟨S2048x2048, .f32⟩
  | .hbm, ⟨12, _⟩ => ⟨S16384x2048, .f32⟩
  | .hbm, ⟨13, _⟩ => ⟨S2048, .f32⟩
  | .hbm, ⟨14, _⟩ => ⟨S1x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S16384x512, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S2048x2048, .f32⟩
  | .hbm, ⟨32, _⟩ => ⟨S16384x2048, .f32⟩
  | .hbm, ⟨33, _⟩ => ⟨S2048, .f32⟩
  | .hbm, ⟨34, _⟩ => ⟨S1x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384x2048, .f32⟩
  | .hbm, ⟨44, _⟩ => ⟨S16384x2048, .f32⟩
  | .hbm, ⟨45, _⟩ => ⟨S16384x512, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S2048x2048, .f32⟩
  | .hbm, ⟨50, _⟩ => ⟨S16384x2048, .f32⟩
  | .hbm, ⟨51, _⟩ => ⟨S2048, .f32⟩
  | .hbm, ⟨52, _⟩ => ⟨S1x2048, .f32⟩
  | .hbm, ⟨53, _⟩ => ⟨S16384x2048, .f32⟩
  | .hbm, ⟨54, _⟩ => ⟨S16384x2048, .f32⟩
  | .hbm, ⟨55, _⟩ => ⟨S16384x2048, .f32⟩
  | .hbm, ⟨56, _⟩ => ⟨S16384x2048, .f32⟩
  | .hbm, ⟨57, _⟩ => ⟨S_, .f32⟩
  | .hbm, ⟨58, _⟩ => ⟨S16384x2048, .f32⟩
  | .hbm, ⟨59, _⟩ => ⟨S16384x2048, .f32⟩
  | .hbm, ⟨60, _⟩ => ⟨S_, .f32⟩
  | .hbm, ⟨61, _⟩ => ⟨S16384x2048, .f32⟩
  | .hbm, ⟨62, _⟩ => ⟨S16384x2048, .f32⟩
  | .hbm, ⟨63, _⟩ => ⟨S16384x1024, .f32⟩
  | .hbm, ⟨64, _⟩ => ⟨S16384x2048, .f32⟩
  | .hbm, ⟨65, _⟩ => ⟨S16384x2048, .f32⟩
  | .hbm, ⟨66, _⟩ => ⟨S16384x2048, .f32⟩
  | .hbm, ⟨67, _⟩ => ⟨S2048x2048, .f32⟩
  | .hbm, ⟨68, _⟩ => ⟨S16384x2048, .f32⟩
  | .hbm, ⟨69, _⟩ => ⟨S2048, .f32⟩
  | .hbm, ⟨70, _⟩ => ⟨S1x2048, .f32⟩
  | .hbm, ⟨71, _⟩ => ⟨S16384x2048, .f32⟩
  | .hbm, ⟨72, _⟩ => ⟨S16384x2048, .f32⟩
  | .hbm, ⟨73, _⟩ => ⟨S16384x2048, .f32⟩
  | .hbm, ⟨74, _⟩ => ⟨S16384x2048, .f32⟩
  | .hbm, ⟨75, _⟩ => ⟨S_, .f32⟩
  | .hbm, ⟨76, _⟩ => ⟨S16384x2048, .f32⟩
  | .hbm, ⟨77, _⟩ => ⟨S16384x2048, .f32⟩
  | .hbm, ⟨78, _⟩ => ⟨S_, .f32⟩
  | .hbm, ⟨79, _⟩ => ⟨S16384x2048, .f32⟩
  | .hbm, ⟨80, _⟩ => ⟨S16384x2048, .f32⟩
  | .hbm, ⟨81, _⟩ => ⟨S16384x512, .f32⟩
  | .hbm, ⟨82, _⟩ => ⟨S16384x2048, .f32⟩
  | .hbm, ⟨83, _⟩ => ⟨S16384x2048, .f32⟩
  | .hbm, ⟨84, _⟩ => ⟨S16384x2048, .f32⟩
  | .hbm, ⟨85, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_4 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_6 : Ref sig .tc := ⟨.hbm, 75, rfl⟩
abbrev main_v57 : Ref sig .tc := ⟨.hbm, 76, rfl⟩
abbrev main_v58 : Ref sig .tc := ⟨.hbm, 77, rfl⟩
abbrev main_cst_7 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]
-- ==== Kernel3.lean ====
abbrev S32 : Shape := ⟨1, ![32]⟩
abbrev S82432x2048 : Shape := ⟨2, ![82432, 2048]⟩
abbrev S2x32x2048x2048 : Shape := ⟨4, ![2, 32, 2048, 2048]⟩
abbrev S2x32x2048 : Shape := ⟨3, ![2, 32, 2048]⟩
abbrev S_ : Shape := ⟨0, ![]⟩
abbrev S161 : Shape := ⟨1, ![161]⟩
abbrev S161x1 : Shape := ⟨2, ![161, 1]⟩
abbrev S1x32 : Shape := ⟨2, ![1, 32]⟩
abbrev S161x32 : Shape := ⟨2, ![161, 32]⟩
abbrev S1 : Shape := ⟨1, ![1]⟩
abbrev S160 : Shape := ⟨1, ![160]⟩
abbrev S2x32x1x2048 : Shape := ⟨4, ![2, 32, 1, 2048]⟩
abbrev S512x2048 : Shape := ⟨2, ![512, 2048]⟩
abbrev S1x1x2048x1024 : Shape := ⟨4, ![1, 1, 2048, 1024]⟩
abbrev S1x1x1x1024 : Shape := ⟨4, ![1, 1, 1, 1024]⟩
abbrev S512x1024 : Shape := ⟨2, ![512, 1024]⟩
abbrev S2048x1024 : Shape := ⟨2, ![2048, 1024]⟩
abbrev S1x1024 : Shape := ⟨2, ![1, 1024]⟩

abbrev nBuf : Space → Nat
  | .hbm => 65
  | .vmem => 9
  | .smem => 2
  | _ => 0

abbrev bufTy : (tb : Table) → Fin (tcTables nBuf tb) → BufTy
  | .hbm, ⟨0, _⟩ => ⟨S32, .i32⟩
  | .hbm, ⟨1, _⟩ => ⟨S82432x2048, .bf16⟩
  | .hbm, ⟨2, _⟩ => ⟨S2x32x2048x2048, .f32⟩
  | .hbm, ⟨3, _⟩ => ⟨S2x32x2048, .f32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S32, .i1⟩
  | .hbm, ⟨24, _⟩ => ⟨S_, .i32⟩
  | .hbm, ⟨25, _⟩ => ⟨S32, .i32⟩
  | .hbm, ⟨26, _⟩ => ⟨S32, .i32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S_, .i32⟩
  | .hbm, ⟨32, _⟩ => ⟨S_, .i32⟩
  | .hbm, ⟨33, _⟩ => ⟨S32, .i32⟩
  | .hbm, ⟨34, _⟩ => ⟨S161, .i32⟩
  | .hbm, ⟨35, _⟩ => ⟨S_, .i32⟩
  | .hbm, ⟨36, _⟩ => ⟨S161, .i32⟩
  | .hbm, ⟨37, _⟩ => ⟨S161, .i32⟩
  | .hbm, ⟨38, _⟩ => ⟨S161x1, .i32⟩
  | .hbm, ⟨39, _⟩ => ⟨S1x32, .i32⟩
  | .hbm, ⟨40, _⟩ => ⟨S161x32, .i32⟩
  | .hbm, ⟨41, _⟩ => ⟨S161x32, .i32⟩
  | .hbm, ⟨42, _⟩ => ⟨S161x32, .i1⟩
  | .hbm, ⟨43, _⟩ => ⟨S161x32, .i32⟩
  | .hbm, ⟨44, _⟩ => ⟨S_, .i32⟩
  | .hbm, ⟨45, _⟩ => ⟨S161, .i32⟩
  | .hbm, ⟨46, _⟩ => ⟨S_, .i32⟩
  | .hbm, ⟨47, _⟩ => ⟨S161, .i32⟩
  | .hbm, ⟨48, _⟩ => ⟨S1, .i32⟩
  | .hbm, ⟨49, _⟩ => ⟨S_, .i32⟩
  | .hbm, ⟨50, _⟩ => ⟨S161, .i32⟩
  | .hbm, ⟨51, _⟩ => ⟨S161, .i1⟩
  | .hbm, ⟨52, _⟩ => ⟨S161, .i32⟩
  | .hbm, ⟨53, _⟩ => ⟨S_, .i32⟩
  | .hbm, ⟨54, _⟩ => ⟨S1, .i32⟩
  | .hbm, ⟨55, _⟩ => ⟨S160, .i32⟩
  | .hbm, ⟨56, _⟩ => ⟨S160, .i32⟩
  | .hbm, ⟨57, _⟩ => ⟨S160, .i1⟩
  | .hbm, ⟨58, _⟩ => ⟨S160, .i32⟩
  | .hbm, ⟨59, _⟩ => ⟨S161, .i32⟩
  | .hbm, ⟨60, _⟩ => ⟨S_, .i32⟩
  | .hbm, ⟨61, _⟩ => ⟨S161, .i32⟩
  | .hbm, ⟨62, _⟩ => ⟨S161, .i32⟩
  | .hbm, ⟨63, _⟩ => ⟨S2x32x1x2048, .f32⟩
  | .hbm, ⟨64, _⟩ => ⟨S82432x2048, .f32⟩
  | .local _ .vmem, ⟨0, _⟩ => ⟨S512x2048, .bf16⟩
  | .local _ .vmem, ⟨1, _⟩ => ⟨S512x2048, .bf16⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S512x1024, .f32⟩
  | .local _ .vmem, ⟨7, _⟩ => ⟨S512x1024, .f32⟩
  | .local _ .vmem, ⟨8, _⟩ => ⟨S2048x1024, .bf16⟩
  | .local _ .smem, ⟨0, _⟩ => ⟨S161, .i32⟩
  | .local _ .smem, ⟨1, _⟩ => ⟨S161, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_2 : Ref sig .tc := ⟨.hbm, 28, rfl⟩
abbrev main_v5 : Ref sig .tc := ⟨.hbm, 29, rfl⟩
abbrev main_v6 : Ref sig .tc := ⟨.hbm, 30, rfl⟩
abbrev main_call1_call0_c : Ref sig .tc := ⟨.hbm, 31, rfl⟩
abbrev main_call1_call0_v0 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_4 : Ref sig .tc := ⟨.hbm, 44, rfl⟩
abbrev main_v17 : Ref sig .tc := ⟨.hbm, 45, rfl⟩
abbrev main_c_5 : Ref sig .tc := ⟨.hbm, 46, rfl⟩
abbrev main_v18 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_6 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_7 : Ref sig .tc := ⟨.hbm, 60, rfl⟩
abbrev main_v31 : Ref sig .tc := ⟨.hbm, 61, rfl⟩
abbrev main_v32 : Ref sig .tc := ⟨.hbm, 62, rfl⟩
abbrev main_v34 : Ref sig .tc := ⟨.hbm, 63, rfl⟩
abbrev main_v35 : Ref sig .tc := ⟨.hbm, 64, rfl⟩
abbrev main_v19 : Ref sig .tc := ⟨.smem, 0, rfl⟩
abbrev main_v33 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 161], ![false, false]⟩

abbrev pre0 : Pipeline.Prefetch sig := ⟨2, ![main_v19.idx, main_v33.idx], fun | 0 => main_v19.names | 1 => main_v33.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond2 (v1 : BitVec 32) : BitVec 1 :=
  let c1_i32 : BitVec 32 := 1#32
  let v6 : BitVec 32 := Scalar.andi v1 c1_i32
  let c0_i32_1 : BitVec 32 := 0#32
  let v7 : BitVec 1 := Scalar.cmpi .ne v6 c0_i32_1
  let v8 : BitVec 32 := Scalar.extui v7
  let c0_i32_2 : BitVec 32 := 0#32
  let v9 : BitVec 1 := Scalar.cmpi .ne v8 c0_i32_2
  v9

def k0_cond3 (v1 : BitVec 32) : BitVec 1 :=
  let c1_i32_3 : BitVec 32 := 1#32
  let v10 : BitVec 32 := Scalar.andi v1 c1_i32_3
  let c0_i32_4 : BitVec 32 := 0#32
  let v11 : BitVec 1 := Scalar.cmpi .eq v10 c0_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S32 : Shape := ⟨1, ![32]⟩
abbrev S82432x2048 : Shape := ⟨2, ![82432, 2048]⟩
abbrev S2x32x2048x2048 : Shape := ⟨4, ![2, 32, 2048, 2048]⟩
abbrev S2x32x2048 : Shape := ⟨3, ![2, 32, 2048]⟩
abbrev S_ : Shape := ⟨0, ![]⟩
abbrev S161 : Shape := ⟨1, ![161]⟩
abbrev S161x1 : Shape := ⟨2, ![161, 1]⟩
abbrev S1x32 : Shape := ⟨2, ![1, 32]⟩
abbrev S161x32 : Shape := ⟨2, ![161, 32]⟩
abbrev S161x512x2048 : Shape := ⟨3, ![161, 512, 2048]⟩
abbrev S1x32x2048x2048 : Shape := ⟨4, ![1, 32, 2048, 2048]⟩
abbrev S32x2048x2048 : Shape := ⟨3, ![32, 2048, 2048]⟩
abbrev S161x2048x2048 : Shape := ⟨3, ![161, 2048, 2048]⟩
abbrev S1x32x2048 : Shape := ⟨3, ![1, 32, 2048]⟩
abbrev S32x2048 : Shape := ⟨2, ![32, 2048]⟩
abbrev S161x2048 : Shape := ⟨2, ![161, 2048]⟩
abbrev S161x1x2048 : Shape := ⟨3, ![161, 1, 2048]⟩
abbrev S1 : Shape := ⟨1, ![1]⟩
abbrev S161x1x1 : Shape := ⟨3, ![161, 1, 1]⟩

abbrev nBuf : Space → Nat
  | .hbm => 88
  | .vmem => 0
  | .smem => 0
  | _ => 0

abbrev bufTy : (tb : Table) → Fin (tcTables nBuf tb) → BufTy
  | .hbm, ⟨0, _⟩ => ⟨S32, .i32⟩
  | .hbm, ⟨1, _⟩ => ⟨S82432x2048, .bf16⟩
  | .hbm, ⟨2, _⟩ => ⟨S2x32x2048x2048, .f32⟩
  | .hbm, ⟨3, _⟩ => ⟨S2x32x2048, .f32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S32, .i1⟩
  | .hbm, ⟨24, _⟩ => ⟨S_, .i32⟩
  | .hbm, ⟨25, _⟩ => ⟨S32, .i32⟩
  | .hbm, ⟨26, _⟩ => ⟨S32, .i32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S_, .i32⟩
  | .hbm, ⟨32, _⟩ => ⟨S_, .i32⟩
  | .hbm, ⟨33, _⟩ => ⟨S32, .i32⟩
  | .hbm, ⟨34, _⟩ => ⟨S161, .i32⟩
  | .hbm, ⟨35, _⟩ => ⟨S_, .i32⟩
  | .hbm, ⟨36, _⟩ => ⟨S161, .i32⟩
  | .hbm, ⟨37, _⟩ => ⟨S161, .i32⟩
  | .hbm, ⟨38, _⟩ => ⟨S161x1, .i32⟩
  | .hbm, ⟨39, _⟩ => ⟨S1x32, .i32⟩
  | .hbm, ⟨40, _⟩ => ⟨S161x32, .i32⟩
  | .hbm, ⟨41, _⟩ => ⟨S161x32, .i32⟩
  | .hbm, ⟨42, _⟩ => ⟨S161x32, .i1⟩
  | .hbm, ⟨43, _⟩ => ⟨S161x32, .i32⟩
  | .hbm, ⟨44, _⟩ => ⟨S_, .i32⟩
  | .hbm, ⟨45, _⟩ => ⟨S161, .i32⟩
  | .hbm, ⟨46, _⟩ => ⟨S_, .i32⟩
  | .hbm, ⟨47, _⟩ => ⟨S161, .i32⟩
  | .hbm, ⟨48, _⟩ => ⟨S161, .i32⟩
  | .hbm, ⟨49, _⟩ => ⟨S82432x2048, .f32⟩
  | .hbm, ⟨50, _⟩ => ⟨S161x512x2048, .f32⟩
  | .hbm, ⟨51, _⟩ => ⟨S1x32x2048x2048, .f32⟩
  | .hbm, ⟨52, _⟩ => ⟨S32x2048x2048, .f32⟩
  | .hbm, ⟨53, _⟩ => ⟨S_, .i32⟩
  | .hbm, ⟨54, _⟩ => ⟨S161, .i32⟩
  | .hbm, ⟨55, _⟩ => ⟨S161, .i1⟩
  | .hbm, ⟨56, _⟩ => ⟨S_, .i32⟩
  | .hbm, ⟨57, _⟩ => ⟨S161, .i32⟩
  | .hbm, ⟨58, _⟩ => ⟨S161, .i32⟩
  | .hbm, ⟨59, _⟩ => ⟨S161, .i32⟩
  | .hbm, ⟨60, _⟩ => ⟨S161x1, .i32⟩
  | .hbm, ⟨61, _⟩ => ⟨S161x2048x2048, .f32⟩
  | .hbm, ⟨62, _⟩ => ⟨S161x512x2048, .f32⟩
  | .hbm, ⟨63, _⟩ => ⟨S1x32x2048, .f32⟩
  | .hbm, ⟨64, _⟩ => ⟨S32x2048, .f32⟩
  | .hbm, ⟨65, _⟩ => ⟨S_, .i32⟩
  | .hbm, ⟨66, _⟩ => ⟨S161, .i32⟩
  | .hbm, ⟨67, _⟩ => ⟨S161, .i1⟩
  | .hbm, ⟨68, _⟩ => ⟨S_, .i32⟩
  | .hbm, ⟨69, _⟩ => ⟨S161, .i32⟩
  | .hbm, ⟨70, _⟩ => ⟨S161, .i32⟩
  | .hbm, ⟨71, _⟩ => ⟨S161, .i32⟩
  | .hbm, ⟨72, _⟩ => ⟨S161x1, .i32⟩
  | .hbm, ⟨73, _⟩ => ⟨S161x2048, .f32⟩
  | .hbm, ⟨74, _⟩ => ⟨S161x1x2048, .f32⟩
  | .hbm, ⟨75, _⟩ => ⟨S161x512x2048, .f32⟩
  | .hbm, ⟨76, _⟩ => ⟨S161x512x2048, .f32⟩
  | .hbm, ⟨77, _⟩ => ⟨S1, .i32⟩
  | .hbm, ⟨78, _⟩ => ⟨S_, .i32⟩
  | .hbm, ⟨79, _⟩ => ⟨S161, .i32⟩
  | .hbm, ⟨80, _⟩ => ⟨S161, .i1⟩
  | .hbm, ⟨81, _⟩ => ⟨S161x1x1, .i1⟩
  | .hbm, ⟨82, _⟩ => ⟨S_, .f32⟩
  | .hbm, ⟨83, _⟩ => ⟨S_, .f32⟩
  | .hbm, ⟨84, _⟩ => ⟨S161x512x2048, .i1⟩
  | .hbm, ⟨85, _⟩ => ⟨S161x512x2048, .f32⟩
  | .hbm, ⟨86, _⟩ => ⟨S161x512x2048, .f32⟩
  | .hbm, ⟨87, _⟩ => ⟨S82432x2048, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_2 : Ref sig .tc := ⟨.hbm, 28, rfl⟩
abbrev main_v5 : Ref sig .tc := ⟨.hbm, 29, rfl⟩
abbrev main_v6 : Ref sig .tc := ⟨.hbm, 30, rfl⟩
abbrev main_call1_call0_c : Ref sig .tc := ⟨.hbm, 31, rfl⟩
abbrev main_call1_call0_v0 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_4 : Ref sig .tc := ⟨.hbm, 44, rfl⟩
abbrev main_v17 : Ref sig .tc := ⟨.hbm, 45, rfl⟩
abbrev main_c_5 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_6 : Ref sig .tc := ⟨.hbm, 53, rfl⟩
abbrev main_v24 : Ref sig .tc := ⟨.hbm, 54, rfl⟩
abbrev main_v25 : Ref sig .tc := ⟨.hbm, 55, rfl⟩
abbrev main_c_7 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_c_8 : Ref sig .tc := ⟨.hbm, 65, rfl⟩
abbrev main_v34 : Ref sig .tc := ⟨.hbm, 66, rfl⟩
abbrev main_v35 : Ref sig .tc := ⟨.hbm, 67, rfl⟩
abbrev main_c_9 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_v49 : Ref sig .tc := ⟨.hbm, 86, rfl⟩
abbrev main_v50 : Ref sig .tc := ⟨.hbm, 87, rfl⟩

abbrev nD : Nat := 1
abbrev τ : Topo := Topo.v7x

variable {F : FTy → Type} [FloatOps F]
-- ==== Kernel4.lean ====
abbrev S32 : Shape := ⟨1, ![32]⟩
abbrev S82432x1024 : Shape := ⟨2, ![82432, 1024]⟩
abbrev S2x32x2048x4096 : Shape := ⟨4, ![2, 32, 2048, 4096]⟩
abbrev S2x32x4096 : Shape := ⟨3, ![2, 32, 4096]⟩
abbrev S_ : Shape := ⟨0, ![]⟩
abbrev S161 : Shape := ⟨1, ![161]⟩
abbrev S161x1 : Shape := ⟨2, ![161, 1]⟩
abbrev S1x32 : Shape := ⟨2, ![1, 32]⟩
abbrev S161x32 : Shape := ⟨2, ![161, 32]⟩
abbrev S1 : Shape := ⟨1, ![1]⟩
abbrev S160 : Shape := ⟨1, ![160]⟩
abbrev S2x32x1x4096 : Shape := ⟨4, ![2, 32, 1, 4096]⟩
abbrev S82432x2048 : Shape := ⟨2, ![82432, 2048]⟩
abbrev S512x1024 : Shape := ⟨2, ![512, 1024]⟩
abbrev S1x1x2048x512 : Shape := ⟨4, ![1, 1, 2048, 512]⟩
abbrev S1x1x1x512 : Shape := ⟨4, ![1, 1, 1, 512]⟩
abbrev S512x512 : Shape := ⟨2, ![512, 512]⟩
abbrev S2048x512 : Shape := ⟨2, ![2048, 512]⟩
abbrev S512x2048 : Shape := ⟨2, ![512, 2048]⟩
abbrev S1x512 : Shape := ⟨2, ![1, 512]⟩

abbrev nBuf : Space → Nat
  | .hbm => 65
  | .vmem => 14
  | .smem => 2
  | _ => 0

abbrev bufTy : (tb : Table) → Fin (tcTables nBuf tb) → BufTy
  | .hbm, ⟨0, _⟩ => ⟨S32, .i32⟩
  | .hbm, ⟨1, _⟩ => ⟨S82432x1024, .i32⟩
  | .hbm, ⟨2, _⟩ => ⟨S2x32x2048x4096, .f32⟩
  | .hbm, ⟨3, _⟩ => ⟨S2x32x4096, .f32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S32, .i1⟩
  | .hbm, ⟨24, _⟩ => ⟨S_, .i32⟩
  | .hbm, ⟨25, _⟩ => ⟨S32, .i32⟩
  | .hbm, ⟨26, _⟩ => ⟨S32, .i32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S_, .i32⟩
  | .hbm, ⟨32, _⟩ => ⟨S_, .i32⟩
  | .hbm, ⟨33, _⟩ => ⟨S32, .i32⟩
  | .hbm, ⟨34, _⟩ => ⟨S161, .i32⟩
  | .hbm, ⟨35, _⟩ => ⟨S_, .i32⟩
  | .hbm, ⟨36, _⟩ => ⟨S161, .i32⟩
  | .hbm, ⟨37, _⟩ => ⟨S161, .i32⟩
  | .hbm, ⟨38, _⟩ => ⟨S161x1, .i32⟩
  | .hbm, ⟨39, _⟩ => ⟨S1x32, .i32⟩
  | .hbm, ⟨40, _⟩ => ⟨S161x32, .i32⟩
  | .hbm, ⟨41, _⟩ => ⟨S161x32, .i32⟩
  | .hbm, ⟨42, _⟩ => ⟨S161x32, .i1⟩
  | .hbm, ⟨43, _⟩ => ⟨S161x32, .i32⟩
  | .hbm, ⟨44, _⟩ => ⟨S_, .i32⟩
  | .hbm, ⟨45, _⟩ => ⟨S161, .i32⟩
  | .hbm, ⟨46, _⟩ => ⟨S_, .i32⟩
  | .hbm, ⟨47, _⟩ => ⟨S161, .i32⟩
  | .hbm, ⟨48, _⟩ => ⟨S1, .i32⟩
  | .hbm, ⟨49, _⟩ => ⟨S_, .i32⟩
  | .hbm, ⟨50, _⟩ => ⟨S161, .i32⟩
  | .hbm, ⟨51, _⟩ => ⟨S161, .i1⟩
  | .hbm, ⟨52, _⟩ => ⟨S161, .i32⟩
  | .hbm, ⟨53, _⟩ => ⟨S_, .i32⟩
  | .hbm, ⟨54, _⟩ => ⟨S1, .i32⟩
  | .hbm, ⟨55, _⟩ => ⟨S160, .i32⟩
  | .hbm, ⟨56, _⟩ => ⟨S160, .i32⟩
  | .hbm, ⟨57, _⟩ => ⟨S160, .i1⟩
  | .hbm, ⟨58, _⟩ => ⟨S160, .i32⟩
  | .hbm, ⟨59, _⟩ => ⟨S161, .i32⟩
  | .hbm, ⟨60, _⟩ => ⟨S_, .i32⟩
  | .hbm, ⟨61, _⟩ => ⟨S161, .i32⟩
  | .hbm, ⟨62, _⟩ => ⟨S161, .i32⟩
  | .hbm, ⟨63, _⟩ => ⟨S2x32x1x4096, .f32⟩
  | .hbm, ⟨64, _⟩ => ⟨S82432x2048, .bf16⟩
  | .local _ .vmem, ⟨0, _⟩ => ⟨S512x1024, .i32⟩
  | .local _ .vmem, ⟨1, _⟩ => ⟨S512x1024, .i32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1x1x512, .f32⟩
  | .local _ .vmem, ⟨9, _⟩ => ⟨S1x1x1x512, .f32⟩
  | .local _ .vmem, ⟨10, _⟩ => ⟨S512x512, .bf16⟩
  | .local _ .vmem, ⟨11, _⟩ => ⟨S512x512, .bf16⟩
  | .local _ .vmem, ⟨12, _⟩ => ⟨S2048x512, .bf16⟩
  | .local _ .vmem, ⟨13, _⟩ => ⟨S2048x512, .bf16⟩
  | .local _ .smem, ⟨0, _⟩ => ⟨S161, .i32⟩
  | .local _ .smem, ⟨1, _⟩ => ⟨S161, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_2 : Ref sig .tc := ⟨.hbm, 28, rfl⟩
abbrev main_v5 : Ref sig .tc := ⟨.hbm, 29, rfl⟩
abbrev main_v6 : Ref sig .tc := ⟨.hbm, 30, rfl⟩
abbrev main_call1_call0_c : Ref sig .tc := ⟨.hbm, 31, rfl⟩
abbrev main_call1_call0_v0 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_4 : Ref sig .tc := ⟨.hbm, 44, rfl⟩
abbrev main_v17 : Ref sig .tc := ⟨.hbm, 45, rfl⟩
abbrev main_c_5 : Ref sig .tc := ⟨.hbm, 46, rfl⟩
abbrev main_v18 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_6 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_7 : Ref sig .tc := ⟨.hbm, 60, rfl⟩
abbrev main_v31 : Ref sig .tc := ⟨.hbm, 61, rfl⟩
abbrev main_v32 : Ref sig .tc := ⟨.hbm, 62, rfl⟩
abbrev main_v34 : Ref sig .tc := ⟨.hbm, 63, rfl⟩
abbrev main_v35 : Ref sig .tc := ⟨.hbm, 64, rfl⟩
abbrev main_v19 : Ref sig .tc := ⟨.smem, 0, rfl⟩
abbrev main_v33 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 161], ![false, false]⟩

abbrev pre0 : Pipeline.Prefetch sig := ⟨2, ![main_v19.idx, main_v33.idx], fun | 0 => main_v19.names | 1 => main_v33.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond2 (v1 : BitVec 32) : BitVec 1 :=
  let c1_i32 : BitVec 32 := 1#32
  let v6 : BitVec 32 := Scalar.andi v1 c1_i32
  let c0_i32_1 : BitVec 32 := 0#32
  let v7 : BitVec 1 := Scalar.cmpi .ne v6 c0_i32_1
  let v8 : BitVec 32 := Scalar.extui v7
  let c0_i32_2 : BitVec 32 := 0#32
  let v9 : BitVec 1 := Scalar.cmpi .ne v8 c0_i32_2
  v9

def k0_cond3 (v1 : BitVec 32) : BitVec 1 :=
  let c1_i32_3 : BitVec 32 := 1#32
  let v10 : BitVec 32 := Scalar.andi v1 c1_i32_3
  let c0_i32_4 : BitVec 32 := 0#32
  let v11 : BitVec 1 := Scalar.cmpi .eq v10 c0_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c4_i32 : BitVec 32 := 4#32
  let v2 : BitVec 32 := Scalar.addi c4_i32 arg0
  let c0_i32 : BitVec 32 := 0#32
  let c0_i32_0 : BitVec 32 := 0#32
  let c0_i32_1 : BitVec 32 := 0#32
  ![c0_i32.toNat, v1.toNat, c0_i32_0.toNat, v2.toNat]

def cc0_transform_3 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_4 (k0_off1_inb : ∀ i : grid0.Coords, ∀ a, (k0_off1 i) a + S1.size a ≤ S161.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S161) ![v0.toNat] S1.size (k0_off1_inb i)) numel1_S1
  let c4_i32 : BitVec 32 := 4#32
  let v2 : BitVec 32 := Scalar.addi c4_i32 arg0
  let c0_i32 : BitVec 32 := 0#32
  let c0_i32_0 : BitVec 32 := 0#32
  let c0_i32_1 : BitVec 32 := 0#32
  ![c0_i32.toNat, v1.toNat, c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S32 : Shape := ⟨1, ![32]⟩
abbrev S82432x1024 : Shape := ⟨2, ![82432, 1024]⟩
abbrev S2x32x2048x4096 : Shape := ⟨4, ![2, 32, 2048, 4096]⟩
abbrev S2x32x4096 : Shape := ⟨3, ![2, 32, 4096]⟩
abbrev S_ : Shape := ⟨0, ![]⟩
abbrev S161 : Shape := ⟨1, ![161]⟩
abbrev S161x1 : Shape := ⟨2, ![161, 1]⟩
abbrev S1x32 : Shape := ⟨2, ![1, 32]⟩
abbrev S161x32 : Shape := ⟨2, ![161, 32]⟩
abbrev S82432x2048 : Shape := ⟨2, ![82432, 2048]⟩
abbrev S161x512x2048 : Shape := ⟨3, ![161, 512, 2048]⟩
abbrev S1x32x2048x4096 : Shape := ⟨4, ![1, 32, 2048, 4096]⟩
abbrev S32x2048x4096 : Shape := ⟨3, ![32, 2048, 4096]⟩
abbrev S161x2048x4096 : Shape := ⟨3, ![161, 2048, 4096]⟩
abbrev S161x512x4096 : Shape := ⟨3, ![161, 512, 4096]⟩
abbrev S1x32x4096 : Shape := ⟨3, ![1, 32, 4096]⟩
abbrev S32x4096 : Shape := ⟨2, ![32, 4096]⟩
abbrev S161x4096 : Shape := ⟨2, ![161, 4096]⟩
abbrev S161x1x4096 : Shape := ⟨3, ![161, 1, 4096]⟩
abbrev S1 : Shape := ⟨1, ![1]⟩
abbrev S161x1x1 : Shape := ⟨3, ![161, 1, 1]⟩

abbrev nBuf : Space → Nat
  | .hbm => 126
  | .vmem => 0
  | .smem => 0
  | _ => 0

abbrev bufTy : (tb : Table) → Fin (tcTables nBuf tb) → BufTy
  | .hbm, ⟨0, _⟩ => ⟨S32, .i32⟩
  | .hbm, ⟨1, _⟩ => ⟨S82432x1024, .i32⟩
  | .hbm, ⟨2, _⟩ => ⟨S2x32x2048x4096, .f32⟩
  | .hbm, ⟨3, _⟩ => ⟨S2x32x4096, .f32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S32, .i1⟩
  | .hbm, ⟨24, _⟩ => ⟨S_, .i32⟩
  | .hbm, ⟨25, _⟩ => ⟨S32, .i32⟩
  | .hbm, ⟨26, _⟩ => ⟨S32, .i32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S_, .i32⟩
  | .hbm, ⟨32, _⟩ => ⟨S_, .i32⟩
  | .hbm, ⟨33, _⟩ => ⟨S32, .i32⟩
  | .hbm, ⟨34, _⟩ => ⟨S161, .i32⟩
  | .hbm, ⟨35, _⟩ => ⟨S_, .i32⟩
  | .hbm, ⟨36, _⟩ => ⟨S161, .i32⟩
  | .hbm, ⟨37, _⟩ => ⟨S161, .i32⟩
  | .hbm, ⟨38, _⟩ => ⟨S161x1, .i32⟩
  | .hbm, ⟨39, _⟩ => ⟨S1x32, .i32⟩
  | .hbm, ⟨40, _⟩ => ⟨S161x32, .i32⟩
  | .hbm, ⟨41, _⟩ => ⟨S161x32, .i32⟩
  | .hbm, ⟨42, _⟩ => ⟨S161x32, .i1⟩
  | .hbm, ⟨43, _⟩ => ⟨S161x32, .i32⟩
  | .hbm, ⟨44, _⟩ => ⟨S_, .i32⟩
  | .hbm, ⟨45, _⟩ => ⟨S161, .i32⟩
  | .hbm, ⟨46, _⟩ => ⟨S_, .i32⟩
  | .hbm, ⟨47, _⟩ => ⟨S161, .i32⟩
  | .hbm, ⟨48, _⟩ => ⟨S161, .i32⟩
  | .hbm, ⟨49, _⟩ => ⟨S_, .i32⟩
  | .hbm, ⟨50, _⟩ => ⟨S82432x1024, .i32⟩
  | .hbm, ⟨51, _⟩ => ⟨S82432x1024, .i32⟩
  | .hbm, ⟨52, _⟩ => ⟨S82432x1024, .f32⟩
  | .hbm, ⟨53, _⟩ => ⟨S_, .i32⟩
  | .hbm, ⟨54, _⟩ => ⟨S82432x1024, .i32⟩
  | .hbm, ⟨55, _⟩ => ⟨S82432x1024, .i32⟩
  | .hbm, ⟨56, _⟩ => ⟨S82432x1024, .f32⟩
  | .hbm, ⟨57, _⟩ => ⟨S82432x2048, .f32⟩
  | .hbm, ⟨58, _⟩ => ⟨S161x512x2048, .f32⟩
  | .hbm, ⟨59, _⟩ => ⟨S1x32x2048x4096, .f32⟩
  | .hbm, ⟨60, _⟩ => ⟨S32x2048x4096, .f32⟩
  | .hbm, ⟨61, _⟩ => ⟨S_, .i32⟩
  | .hbm, ⟨62, _⟩ => ⟨S161, .i32⟩
  | .hbm, ⟨63, _⟩ => ⟨S161, .i1⟩
  | .hbm, ⟨64, _⟩ => ⟨S_, .i32⟩
  | .hbm, ⟨65, _⟩ => ⟨S161, .i32⟩
  | .hbm, ⟨66, _⟩ => ⟨S161, .i32⟩
  | .hbm, ⟨67, _⟩ => ⟨S161, .i32⟩
  | .hbm, ⟨68, _⟩ => ⟨S161x1, .i32⟩
  | .hbm, ⟨69, _⟩ => ⟨S161x2048x4096, .f32⟩
  | .hbm, ⟨70, _⟩ => ⟨S161x512x4096, .f32⟩
  | .hbm, ⟨71, _⟩ => ⟨S1x32x4096, .f32⟩
  | .hbm, ⟨72, _⟩ => ⟨S32x4096, .f32⟩
  | .hbm, ⟨73, _⟩ => ⟨S_, .i32⟩
  | .hbm, ⟨74, _⟩ => ⟨S161, .i32⟩
  | .hbm, ⟨75, _⟩ => ⟨S161, .i1⟩
  | .hbm, ⟨76, _⟩ => ⟨S_, .i32⟩
  | .hbm, ⟨77, _⟩ => ⟨S161, .i32⟩
  | .hbm, ⟨78, _⟩ => ⟨S161, .i32⟩
  | .hbm, ⟨79, _⟩ => ⟨S161, .i32⟩
  | .hbm, ⟨80, _⟩ => ⟨S161x1, .i32⟩
  | .hbm, ⟨81, _⟩ => ⟨S161x4096, .f32⟩
  | .hbm, ⟨82, _⟩ => ⟨S161x1x4096, .f32⟩
  | .hbm, ⟨83, _⟩ => ⟨S161x512x4096, .f32⟩
  | .hbm, ⟨84, _⟩ => ⟨S161x512x4096, .f32⟩
  | .hbm, ⟨85, _⟩ => ⟨S161x512x2048, .f32⟩
  | .hbm, ⟨86, _⟩ => ⟨S161x512x2048, .f32⟩
  | .hbm, ⟨87, _⟩ => ⟨S_, .f32⟩
  | .hbm, ⟨88, _⟩ => ⟨S161x512x2048, .f32⟩
  | .hbm, ⟨89, _⟩ => ⟨S161x512x2048, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S161x512x2048, .f32⟩
  | .hbm, ⟨94, _⟩ => ⟨S161x512x2048, .f32⟩
  | .hbm, ⟨95, _⟩ => ⟨S_, .f32⟩
  | .hbm, ⟨96, _⟩ => ⟨S161x512x2048, .f32⟩
  | .hbm, ⟨97, _⟩ => ⟨S161x512x2048, .f32⟩
  | .hbm, ⟨98, _⟩ => ⟨S_, .f32⟩
  | .hbm, ⟨99, _⟩ => ⟨S161x512x2048, .f32⟩
  | .hbm, ⟨100, _⟩ => ⟨S161x512x2048, .f32⟩
  | .hbm, ⟨101, _⟩ => ⟨S161x512x2048, .f32⟩
  | .hbm, ⟨102, _⟩ => ⟨S161x512x2048, .f32⟩
  | .hbm, ⟨103, _⟩ => ⟨S_, .f32⟩
  | .hbm, ⟨104, _⟩ => ⟨S161x512x2048, .f32⟩
  | .hbm, ⟨105, _⟩ => ⟨S161x512x2048, .f32⟩
  | .hbm, ⟨106, _⟩ => ⟨S_, .f32⟩
  | .hbm, ⟨107, _⟩ => ⟨S161x512x2048, .f32⟩
  | .hbm, ⟨108, _⟩ => ⟨S161x512x2048, .f32⟩
  | .hbm, ⟨109, _⟩ => ⟨S161x512x2048, .f32⟩
  | .hbm, ⟨110, _⟩ => ⟨S_, .f32⟩
  | .hbm, ⟨111, _⟩ => ⟨S161x512x2048, .f32⟩
  | .hbm, ⟨112, _⟩ => ⟨S161x512x2048, .f32⟩
  | .hbm, ⟨113, _⟩ => ⟨S161x512x2048, .f32⟩
  | .hbm, ⟨114, _⟩ => ⟨S1, .i32⟩
  | .hbm, ⟨115, _⟩ => ⟨S_, .i32⟩
  | .hbm, ⟨116, _⟩ => ⟨S161, .i32⟩
  | .hbm, ⟨117, _⟩ => ⟨S161, .i1⟩
  | .hbm, ⟨118, _⟩ => ⟨S161x1x1, .i1⟩
  | .hbm, ⟨119, _⟩ => ⟨S_, .f32⟩
  | .hbm, ⟨120, _⟩ => ⟨S_, .f32⟩
  | .hbm, ⟨121, _⟩ => ⟨S161x512x2048, .i1⟩
  | .hbm, ⟨122, _⟩ => ⟨S161x512x2048, .f32⟩
  | .hbm, ⟨123, _⟩ => ⟨S161x512x2048, .f32⟩
  | .hbm, ⟨124, _⟩ => ⟨S82432x2048, .f32⟩
  | .hbm, ⟨125, _⟩ => ⟨S82432x2048, .bf16⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_2 : Ref sig .tc := ⟨.hbm, 28, rfl⟩
abbrev main_v5 : Ref sig .tc := ⟨.hbm, 29, rfl⟩
abbrev main_v6 : Ref sig .tc := ⟨.hbm, 30, rfl⟩
abbrev main_call1_call0_c : Ref sig .tc := ⟨.hbm, 31, rfl⟩
abbrev main_call1_call0_v0 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_4 : Ref sig .tc := ⟨.hbm, 44, rfl⟩
abbrev main_v17 : Ref sig .tc := ⟨.hbm, 45, rfl⟩
abbrev main_c_5 : Ref sig .tc := ⟨.hbm, 46, rfl⟩
abbrev main_v18 : Ref sig .tc := ⟨.hbm, 47, rfl⟩
abbrev main_v19 : Ref sig .tc := ⟨.hbm, 48, rfl⟩
abbrev main_c_6 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c_7 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_8 : Ref sig .tc := ⟨.hbm, 61, rfl⟩
abbrev main_v30 : Ref sig .tc := ⟨.hbm, 62, rfl⟩
abbrev main_v31 : Ref sig .tc := ⟨.hbm, 63, rfl⟩
abbrev main_c_9 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_c_10 : Ref sig .tc := ⟨.hbm, 73, rfl⟩
abbrev main_v40 : Ref sig .tc := ⟨.hbm, 74, rfl⟩
abbrev main_v41 : Ref sig .tc := ⟨.hbm, 75, rfl⟩
abbrev main_c_11 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst : Ref sig .tc := ⟨.hbm, 87, rfl⟩
abbrev main_v52 : Ref sig .tc := ⟨.hbm, 88, rfl⟩
abbrev main_v53 : Ref sig .tc := ⟨.hbm, 89, rfl⟩
abbrev main_cst_12 : Ref sig .tc := ⟨.hbm, 90, rfl⟩
abbrev main_cst_13 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_v54 : Ref sig .tc := ⟨.hbm, 97, rfl⟩
abbrev main_cst_14 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_15 : Ref sig .tc := ⟨.hbm, 103, rfl⟩
abbrev main_v59 : Ref sig .tc := ⟨.hbm, 104, rfl⟩
abbrev main_v60 : Ref sig .tc := ⟨.hbm, 105, rfl⟩
abbrev main_cst_16 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_17 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_cst_18 : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩

abbrev nD : Nat := 1
abbrev τ : Topo := Topo.v7x

variable {F : FTy → Type} [FloatOps F]
-- ==== Kernel5.lean ====
abbrev S8x2048x2048 : Shape := ⟨3, ![8, 2048, 2048]⟩
abbrev S2048x7524 : Shape := ⟨2, ![2048, 7524]⟩
abbrev S16384x2048 : Shape := ⟨2, ![16384, 2048]⟩
abbrev S2048x512 : Shape := ⟨2, ![2048, 512]⟩
abbrev S2048x256 : Shape := ⟨2, ![2048, 256]⟩
abbrev S2048x1024 : Shape := ⟨2, ![2048, 1024]⟩
abbrev S2048x64 : Shape := ⟨2, ![2048, 64]⟩
abbrev S2048x16 : Shape := ⟨2, ![2048, 16]⟩
abbrev S2048x1536 : Shape := ⟨2, ![2048, 1536]⟩
abbrev S2048x4 : Shape := ⟨2, ![2048, 4]⟩
abbrev S_ : Shape := ⟨0, ![]⟩
abbrev S2048x92 : Shape := ⟨2, ![2048, 92]⟩
abbrev S2048x2560 : Shape := ⟨2, ![2048, 2560]⟩
abbrev S2048x320 : Shape := ⟨2, ![2048, 320]⟩
abbrev S2048x128 : Shape := ⟨2, ![2048, 128]⟩
abbrev S16384x2560 : Shape := ⟨2, ![16384, 2560]⟩
abbrev S1024x2048 : Shape := ⟨2, ![1024, 2048]⟩
abbrev S1024x512 : Shape := ⟨2, ![1024, 512]⟩
abbrev S16384x320 : Shape := ⟨2, ![16384, 320]⟩
abbrev S1024x320 : Shape := ⟨2, ![1024, 320]⟩
abbrev S16384x1024 : Shape := ⟨2, ![16384, 1024]⟩
abbrev S16384x1536 : Shape := ⟨2, ![16384, 1536]⟩
abbrev S16384x128 : Shape := ⟨2, ![16384, 128]⟩
abbrev S1024x128 : Shape := ⟨2, ![1024, 128]⟩
abbrev S8x2048x16x64 : Shape := ⟨4, ![8, 2048, 16, 64]⟩
abbrev S16384x512 : Shape := ⟨2, ![16384, 512]⟩
abbrev S8x2048x4x128 : Shape := ⟨4, ![8, 2048, 4, 128]⟩
abbrev S8x2048x320 : Shape := ⟨3, ![8, 2048, 320]⟩
abbrev S8x2048x4x256 : Shape := ⟨4, ![8, 2048, 4, 256]⟩
abbrev S8x2048x1024 : Shape := ⟨3, ![8, 2048, 1024]⟩
abbrev S8x2048x1536 : Shape := ⟨3, ![8, 2048, 1536]⟩
abbrev S16384x16 : Shape := ⟨2, ![16384, 16]⟩
abbrev S8x2048x16 : Shape := ⟨3, ![8, 2048, 16]⟩
abbrev S16384x4 : Shape := ⟨2, ![16384, 4]⟩
abbrev S8x2048x4 : Shape := ⟨3, ![8, 2048, 4]⟩
abbrev S8x3x1536 : Shape := ⟨3, ![8, 3, 1536]⟩

abbrev nBuf : Space → Nat
  | .hbm => 85
  | .vmem => 40
  | .smem => 0
  | _ => 0

abbrev bufTy : (tb : Table) → Fin (tcTables nBuf tb) → BufTy
  | .hbm, ⟨0, _⟩ => ⟨S8x2048x2048, .f32⟩
  | .hbm, ⟨1, _⟩ => ⟨S2048x7524, .f32⟩
  | .hbm, ⟨2, _⟩ => ⟨S16384x2048, .f32⟩
  | .hbm, ⟨3, _⟩ => ⟨S16384x2048, .bf16⟩
  | .hbm, ⟨4, _⟩ => ⟨S2048x512, .f32⟩
  | .hbm, ⟨5, _⟩ => ⟨S2048x256, .f32⟩
  | .hbm, ⟨6, _⟩ => ⟨S2048x1024, .f32⟩
  | .hbm, ⟨7, _⟩ => ⟨S2048x64, .f32⟩
  | .hbm, ⟨8, _⟩ => ⟨S2048x16, .f32⟩
  | .hbm, ⟨9, _⟩ => ⟨S2048x1536, .f32⟩
  | .hbm, ⟨10, _⟩ => ⟨S2048x1024, .f32⟩
  | .hbm, ⟨11, _⟩ => ⟨S2048x1536, .f32⟩
  | .hbm, ⟨12, _⟩ => ⟨S2048x16, .f32⟩
  | .hbm, ⟨13, _⟩ => ⟨S2048x1536, .f32⟩
  | .hbm, ⟨14, _⟩ => ⟨S2048x4, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S_, .f32⟩
  | .hbm, ⟨22, _⟩ => ⟨S2048x92, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x2560, .f32⟩
  | .hbm, ⟨27, _⟩ => ⟨S2048x2560, .bf16⟩
  | .hbm, ⟨28, _⟩ => ⟨S2048x320, .f32⟩
  | .hbm, ⟨29, _⟩ => ⟨S2048x320, .bf16⟩
  | .hbm, ⟨30, _⟩ => ⟨S2048x128, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S2048x128, .f32⟩
  | .hbm, ⟨35, _⟩ => ⟨S2048x128, .f32⟩
  | .hbm, ⟨36, _⟩ => ⟨S2048x128, .f32⟩
  | .hbm, ⟨37, _⟩ => ⟨S2048x128, .f32⟩
  | .hbm, ⟨38, _⟩ => ⟨S2048x1024, .f32⟩
  | .hbm, ⟨39, _⟩ => ⟨S2048x1024, .bf16⟩
  | .hbm, ⟨40, _⟩ => ⟨S2048x128, .f32⟩
  | .hbm, ⟨41, _⟩ => ⟨S2048x128, .f32⟩
  | .hbm, ⟨42, _⟩ => ⟨S2048x128, .f32⟩
  | .hbm, ⟨43, _⟩ => ⟨S2048x128, .f32⟩
  | .hbm, ⟨44, _⟩ => ⟨S2048x128, .f32⟩
  | .hbm, ⟨45, _⟩ => ⟨S2048x128, .f32⟩
  | .hbm, ⟨46, _⟩ => ⟨S2048x128, .f32⟩
  | .hbm, ⟨47, _⟩ => ⟨S2048x128, .f32⟩
  | .hbm, ⟨48, _⟩ => ⟨S2048x1024, .f32⟩
  | .hbm, ⟨49, _⟩ => ⟨S2048x1024, .bf16⟩
  | .hbm, ⟨50, _⟩ => ⟨S2048x1024, .bf16⟩
  | .hbm, ⟨51, _⟩ => ⟨S2048x1536, .bf16⟩
  | .hbm, ⟨52, _⟩ => ⟨S_, .f32⟩
  | .hbm, ⟨53, _⟩ => ⟨S2048x16, .f32⟩
  | .hbm, ⟨54, _⟩ => ⟨S2048x16, .f32⟩
  | .hbm, ⟨55, _⟩ => ⟨S2048x128, .f32⟩
  | .hbm, ⟨56, _⟩ => ⟨S2048x128, .bf16⟩
  | .hbm, ⟨57, _⟩ => ⟨S16384x2560, .bf16⟩
  | .hbm, ⟨58, _⟩ => ⟨S16384x320, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1536, .f32⟩
  | .hbm, ⟨63, _⟩ => ⟨S16384x128, .f32⟩
  | .hbm, ⟨64, _⟩ => ⟨S16384x1024, .bf16⟩
  | .hbm, ⟨65, _⟩ => ⟨S8x2048x16x64, .bf16⟩
  | .hbm, ⟨66, _⟩ => ⟨S16384x512, .bf16⟩
  | .hbm, ⟨67, _⟩ => ⟨S8x2048x4x128, .bf16⟩
  | .hbm, ⟨68, _⟩ => ⟨S16384x512, .bf16⟩
  | .hbm, ⟨69, _⟩ => ⟨S8x2048x4x128, .bf16⟩
  | .hbm, ⟨70, _⟩ => ⟨S16384x512, .bf16⟩
  | .hbm, ⟨71, _⟩ => ⟨S8x2048x4x128, .bf16⟩
  | .hbm, ⟨72, _⟩ => ⟨S8x2048x320, .f32⟩
  | .hbm, ⟨73, _⟩ => ⟨S8x2048x4x256, .f32⟩
  | .hbm, ⟨74, _⟩ => ⟨S8x2048x4x256, .f32⟩
  | .hbm, ⟨75, _⟩ => ⟨S8x2048x1024, .f32⟩
  | .hbm, ⟨76, _⟩ => ⟨S8x2048x1536, .f32⟩
  | .hbm, ⟨77, _⟩ => ⟨S16384x16, .f32⟩
  | .hbm, ⟨78, _⟩ => ⟨S8x2048x16, .f32⟩
  | .hbm, ⟨79, _⟩ => ⟨S16384x16, .f32⟩
  | .hbm, ⟨80, _⟩ => ⟨S8x2048x16, .f32⟩
  | .hbm, ⟨81, _⟩ => ⟨S16384x4, .f32⟩
  | .hbm, ⟨82, _⟩ => ⟨S8x2048x4, .f32⟩
  | .hbm, ⟨83, _⟩ => ⟨S8x2048x1536, .f32⟩
  | .hbm, ⟨84, _⟩ => ⟨S8x3x1536, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x2048, .bf16⟩
  | .local _ .vmem, ⟨7, _⟩ => ⟨S1024x2048, .bf16⟩
  | .local _ .vmem, ⟨8, _⟩ => ⟨S2048x320, .bf16⟩
  | .local _ .vmem, ⟨9, _⟩ => ⟨S1024x320, .f32⟩
  | .local _ .vmem, ⟨10, _⟩ => ⟨S1024x320, .f32⟩
  | .local _ .vmem, ⟨11, _⟩ => ⟨S1024x2048, .bf16⟩
  | .local _ .vmem, ⟨12, _⟩ => ⟨S1024x2048, .bf16⟩
  | .local _ .vmem, ⟨13, _⟩ => ⟨S2048x512, .bf16⟩
  | .local _ .vmem, ⟨14, _⟩ => ⟨S2048x512, .bf16⟩
  | .local _ .vmem, ⟨15, _⟩ => ⟨S1024x512, .f32⟩
  | .local _ .vmem, ⟨16, _⟩ => ⟨S1024x512, .f32⟩
  | .local _ .vmem, ⟨17, _⟩ => ⟨S1024x2048, .bf16⟩
  | .local _ .vmem, ⟨18, _⟩ => ⟨S1024x2048, .bf16⟩
  | .local _ .vmem, ⟨19, _⟩ => ⟨S2048x512, .bf16⟩
  | .local _ .vmem, ⟨20, _⟩ => ⟨S2048x512, .bf16⟩
  | .local _ .vmem, ⟨21, _⟩ => ⟨S1024x512, .f32⟩
  | .local _ .vmem, ⟨22, _⟩ => ⟨S1024x512, .f32⟩
  | .local _ .vmem, ⟨23, _⟩ => ⟨S1024x2048, .bf16⟩
  | .local _ .vmem, ⟨24, _⟩ => ⟨S1024x2048, .bf16⟩
  | .local _ .vmem, ⟨25, _⟩ => ⟨S2048x512, .bf16⟩
  | .local _ .vmem, ⟨26, _⟩ => ⟨S2048x512, .bf16⟩
  | .local _ .vmem, ⟨27, _⟩ => ⟨S1024x512, .f32⟩
  | .local _ .vmem, ⟨28, _⟩ => ⟨S1024x512, .f32⟩
  | .local _ .vmem, ⟨29, _⟩ => ⟨S1024x2048, .bf16⟩
  | .local _ .vmem, ⟨30, _⟩ => ⟨S1024x2048, .bf16⟩
  | .local _ .vmem, ⟨31, _⟩ => ⟨S2048x512, .bf16⟩
  | .local _ .vmem, ⟨32, _⟩ => ⟨S2048x512, .bf16⟩
  | .local _ .vmem, ⟨33, _⟩ => ⟨S1024x512, .f32⟩
  | .local _ .vmem, ⟨34, _⟩ => ⟨S1024x512, .f32⟩
  | .local _ .vmem, ⟨35, _⟩ => ⟨S1024x2048, .bf16⟩
  | .local _ .vmem, ⟨36, _⟩ => ⟨S1024x2048, .bf16⟩
  | .local _ .vmem, ⟨37, _⟩ => ⟨S2048x128, .bf16⟩
  | .local _ .vmem, ⟨38, _⟩ => ⟨S1024x128, .f32⟩
  | .local _ .vmem, ⟨39, _⟩ => ⟨S1024x128, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_cst : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_cst_1 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg2_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem2_1 : DmaSem sig := 34
abbrev cc6_sem0_0 : DmaSem sig := 35
abbrev cc6_sem0_1 : DmaSem sig := 36
abbrev cc6_sem1_0 : DmaSem sig := 37
abbrev cc6_sem2_0 : DmaSem sig := 38
abbrev cc6_sem2_1 : DmaSem sig := 39

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2048x320 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1024x320 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![16, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![16, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2048x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![16, 3], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S2048x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![16, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S1024x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 1 → Memref sig .tc .vmem S2048x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 2 → Memref sig .tc .vmem S1024x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]
-- ==== Reference5Ideal.lean ====
abbrev S8x2048x2048 : Shape := ⟨3, ![8, 2048, 2048]⟩
abbrev S2048x7524 : Shape := ⟨2, ![2048, 7524]⟩
abbrev S8x2048x7524 : Shape := ⟨3, ![8, 2048, 7524]⟩
abbrev S8x2048x512 : Shape := ⟨3, ![8, 2048, 512]⟩
abbrev S8x2048x256 : Shape := ⟨3, ![8, 2048, 256]⟩
abbrev S8x2048x1024 : Shape := ⟨3, ![8, 2048, 1024]⟩
abbrev S8x2048x64 : Shape := ⟨3, ![8, 2048, 64]⟩
abbrev S8x2048x16 : Shape := ⟨3, ![8, 2048, 16]⟩
abbrev S8x2048x1536 : Shape := ⟨3, ![8, 2048, 1536]⟩
abbrev S8x2048x4 : Shape := ⟨3, ![8, 2048, 4]⟩
abbrev S8x2048x16x64 : Shape := ⟨4, ![8, 2048, 16, 64]⟩
abbrev S_ : Shape := ⟨0, ![]⟩
abbrev S8x2048x4x128 : Shape := ⟨4, ![8, 2048, 4, 128]⟩
abbrev S8x2048x320 : Shape := ⟨3, ![8, 2048, 320]⟩
abbrev S8x2048x4x256 : Shape := ⟨4, ![8, 2048, 4, 256]⟩
abbrev S8x3x1536 : Shape := ⟨3, ![8, 3, 1536]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x7524, .f32⟩
  | .hbm, ⟨2, _⟩ => ⟨S8x2048x7524, .f32⟩
  | .hbm, ⟨3, _⟩ => ⟨S8x2048x512, .f32⟩
  | .hbm, ⟨4, _⟩ => ⟨S8x2048x256, .f32⟩
  | .hbm, ⟨5, _⟩ => ⟨S8x2048x1024, .f32⟩
  | .hbm, ⟨6, _⟩ => ⟨S8x2048x64, .f32⟩
  | .hbm, ⟨7, _⟩ => ⟨S8x2048x16, .f32⟩
  | .hbm, ⟨8, _⟩ => ⟨S8x2048x512, .f32⟩
  | .hbm, ⟨9, _⟩ => ⟨S8x2048x512, .f32⟩
  | .hbm, ⟨10, _⟩ => ⟨S8x2048x512, .f32⟩
  | .hbm, ⟨11, _⟩ => ⟨S8x2048x1024, .f32⟩
  | .hbm, ⟨12, _⟩ => ⟨S8x2048x1536, .f32⟩
  | .hbm, ⟨13, _⟩ => ⟨S8x2048x16, .f32⟩
  | .hbm, ⟨14, _⟩ => ⟨S8x2048x512, .f32⟩
  | .hbm, ⟨15, _⟩ => ⟨S8x2048x512, .f32⟩
  | .hbm, ⟨16, _⟩ => ⟨S8x2048x512, .f32⟩
  | .hbm, ⟨17, _⟩ => ⟨S8x2048x4, .f32⟩
  | .hbm, ⟨18, _⟩ => ⟨S8x2048x16x64, .f32⟩
  | .hbm, ⟨19, _⟩ => ⟨S_, .f32⟩
  | .hbm, ⟨20, _⟩ => ⟨S8x2048x16x64, .f32⟩
  | .hbm, ⟨21, _⟩ => ⟨S8x2048x16x64, .f32⟩
  | .hbm, ⟨22, _⟩ => ⟨S8x2048x16x64, .bf16⟩
  | .hbm, ⟨23, _⟩ => ⟨S8x2048x4x128, .f32⟩
  | .hbm, ⟨24, _⟩ => ⟨S8x2048x4x128, .bf16⟩
  | .hbm, ⟨25, _⟩ => ⟨S8x2048x4x128, .f32⟩
  | .hbm, ⟨26, _⟩ => ⟨S8x2048x4x128, .bf16⟩
  | .hbm, ⟨27, _⟩ => ⟨S8x2048x4x128, .f32⟩
  | .hbm, ⟨28, _⟩ => ⟨S8x2048x4x128, .bf16⟩
  | .hbm, ⟨29, _⟩ => ⟨S8x2048x320, .f32⟩
  | .hbm, ⟨30, _⟩ => ⟨S8x2048x4x128, .f32⟩
  | .hbm, ⟨31, _⟩ => ⟨S8x2048x4x128, .f32⟩
  | .hbm, ⟨32, _⟩ => ⟨S8x2048x4x256, .f32⟩
  | .hbm, ⟨33, _⟩ => ⟨S8x2048x4x128, .f32⟩
  | .hbm, ⟨34, _⟩ => ⟨S8x2048x4x128, .f32⟩
  | .hbm, ⟨35, _⟩ => ⟨S8x2048x4x256, .f32⟩
  | .hbm, ⟨36, _⟩ => ⟨S_, .f32⟩
  | .hbm, ⟨37, _⟩ => ⟨S8x2048x16, .f32⟩
  | .hbm, ⟨38, _⟩ => ⟨S8x2048x16, .f32⟩
  | .hbm, ⟨39, _⟩ => ⟨S8x3x1536, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_cst_0 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩

abbrev nD : Nat := 1
abbrev τ : Topo := Topo.v7x

variable {F : FTy → Type} [FloatOps F]
-- ==== Kernel6.lean ====
abbrev S16384x2048 : Shape := ⟨2, ![16384, 2048]⟩
abbrev S8x256x2048 : Shape := ⟨3, ![8, 256, 2048]⟩
abbrev S2048x1024 : Shape := ⟨2, ![2048, 1024]⟩
abbrev S2048x512 : Shape := ⟨2, ![2048, 512]⟩
abbrev S512x2048 : Shape := ⟨2, ![512, 2048]⟩
abbrev S2048 : Shape := ⟨1, ![2048]⟩
abbrev S2048x2048 : Shape := ⟨2, ![2048, 2048]⟩
abbrev S1024x2048 : Shape := ⟨2, ![1024, 2048]⟩
abbrev S1024x512 : Shape := ⟨2, ![1024, 512]⟩
abbrev S16384x512 : Shape := ⟨2, ![16384, 512]⟩
abbrev S512x512 : Shape := ⟨2, ![512, 512]⟩
abbrev S256x1024 : Shape := ⟨2, ![256, 1024]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S1x2048 : Shape := ⟨2, ![1, 2048]⟩
abbrev S8x256x4x256 : Shape := ⟨4, ![8, 256, 4, 256]⟩

abbrev nBuf : Space → Nat
  | .hbm => 21
  | .vmem => 28
  | .smem => 0
  | _ => 0

abbrev bufTy : (tb : Table) → Fin (tcTables nBuf tb) → BufTy
  | .hbm, ⟨0, _⟩ => ⟨S16384x2048, .f32⟩
  | .hbm, ⟨1, _⟩ => ⟨S8x256x2048, .f32⟩
  | .hbm, ⟨2, _⟩ => ⟨S2048x1024, .f32⟩
  | .hbm, ⟨3, _⟩ => ⟨S2048x512, .f32⟩
  | .hbm, ⟨4, _⟩ => ⟨S512x2048, .f32⟩
  | .hbm, ⟨5, _⟩ => ⟨S2048, .f32⟩
  | .hbm, ⟨6, _⟩ => ⟨S2048, .f32⟩
  | .hbm, ⟨7, _⟩ => ⟨S2048x2048, .f32⟩
  | .hbm, ⟨8, _⟩ => ⟨S2048x2048, .bf16⟩
  | .hbm, ⟨9, _⟩ => ⟨S2048x1024, .bf16⟩
  | .hbm, ⟨10, _⟩ => ⟨S2048x1024, .f32⟩
  | .hbm, ⟨11, _⟩ => ⟨S16384x2048, .bf16⟩
  | .hbm, ⟨12, _⟩ => ⟨S2048x512, .bf16⟩
  | .hbm, ⟨13, _⟩ => ⟨S16384x512, .bf16⟩
  | .hbm, ⟨14, _⟩ => ⟨S16384x512, .bf16⟩
  | .hbm, ⟨15, _⟩ => ⟨S512x2048, .bf16⟩
  | .hbm, ⟨16, _⟩ => ⟨S1x2048, .f32⟩
  | .hbm, ⟨17, _⟩ => ⟨S1x2048, .f32⟩
  | .hbm, ⟨18, _⟩ => ⟨S16384x2048, .f32⟩
  | .hbm, ⟨19, _⟩ => ⟨S16384x2048, .bf16⟩
  | .hbm, ⟨20, _⟩ => ⟨S8x256x4x256, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | .local _ .vmem, ⟨7, _⟩ => ⟨S1024x2048, .bf16⟩
  | .local _ .vmem, ⟨8, _⟩ => ⟨S2048x512, .bf16⟩
  | .local _ .vmem, ⟨9, _⟩ => ⟨S1024x512, .bf16⟩
  | .local _ .vmem, ⟨10, _⟩ => ⟨S1024x512, .bf16⟩
  | .local _ .vmem, ⟨11, _⟩ => ⟨S512x512, .bf16⟩
  | .local _ .vmem, ⟨12, _⟩ => ⟨S512x512, .bf16⟩
  | .local _ .vmem, ⟨13, _⟩ => ⟨S256x1024, .f32⟩
  | .local _ .vmem, ⟨14, _⟩ => ⟨S256x1024, .f32⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x2048, .bf16⟩
  | .local _ .vmem, ⟨20, _⟩ => ⟨S512x2048, .f32⟩
  | .local _ .vmem, ⟨21, _⟩ => ⟨S512x2048, .f32⟩
  | .local _ .vmem, ⟨22, _⟩ => ⟨S1x2048, .f32⟩
  | .local _ .vmem, ⟨23, _⟩ => ⟨S1x2048, .f32⟩
  | .local _ .vmem, ⟨24, _⟩ => ⟨S512x2048, .f32⟩
  | .local _ .vmem, ⟨25, _⟩ => ⟨S512x2048, .f32⟩
  | .local _ .vmem, ⟨26, _⟩ => ⟨S512x2048, .bf16⟩
  | .local _ .vmem, ⟨27, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc3_stg6_0 : Ref sig .tc := ⟨.vmem, 26, rfl⟩
abbrev cc3_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem4_0 : DmaSem sig := 23
abbrev cc3_sem5_0 : DmaSem sig := 24
abbrev cc3_sem5_1 : DmaSem sig := 25
abbrev cc3_sem6_0 : DmaSem sig := 26
abbrev cc3_sem6_1 : DmaSem sig := 27

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2048x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S512x2048 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]
-- ==== Reference6Ideal.lean ====
abbrev S16384x2048 : Shape := ⟨2, ![16384, 2048]⟩
abbrev S8x256x2048 : Shape := ⟨3, ![8, 256, 2048]⟩
abbrev S2048x1024 : Shape := ⟨2, ![2048, 1024]⟩
abbrev S2048x512 : Shape := ⟨2, ![2048, 512]⟩
abbrev S512x2048 : Shape := ⟨2, ![512, 2048]⟩
abbrev S2048 : Shape := ⟨1, ![2048]⟩
abbrev S8x256x1024 : Shape := ⟨3, ![8, 256, 1024]⟩
abbrev S8x256x4x256 : Shape := ⟨4, ![8, 256, 4, 256]⟩
abbrev S16384x512 : Shape := ⟨2, ![16384, 512]⟩
abbrev S8x2048x4x128 : Shape := ⟨4, ![8, 2048, 4, 128]⟩
abbrev S8x256x4x128 : Shape := ⟨4, ![8, 256, 4, 128]⟩
abbrev S8x4x2048x256 : Shape := ⟨4, ![8, 4, 2048, 256]⟩
abbrev S_ : Shape := ⟨0, ![]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 67
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x256x2048, .f32⟩
  | .hbm, ⟨2, _⟩ => ⟨S2048x1024, .f32⟩
  | .hbm, ⟨3, _⟩ => ⟨S2048x512, .f32⟩
  | .hbm, ⟨4, _⟩ => ⟨S512x2048, .f32⟩
  | .hbm, ⟨5, _⟩ => ⟨S2048, .f32⟩
  | .hbm, ⟨6, _⟩ => ⟨S2048, .f32⟩
  | .hbm, ⟨7, _⟩ => ⟨S8x256x1024, .f32⟩
  | .hbm, ⟨8, _⟩ => ⟨S8x256x4x256, .f32⟩
  | .hbm, ⟨9, _⟩ => ⟨S16384x512, .f32⟩
  | .hbm, ⟨10, _⟩ => ⟨S8x2048x4x128, .f32⟩
  | .hbm, ⟨11, _⟩ => ⟨S8x256x4x128, .f32⟩
  | .hbm, ⟨12, _⟩ => ⟨S8x4x2048x256, .f32⟩
  | .hbm, ⟨13, _⟩ => ⟨S_, .f32⟩
  | .hbm, ⟨14, _⟩ => ⟨S8x4x2048x256, .f32⟩
  | .hbm, ⟨15, _⟩ => ⟨S8x4x2048x256, .f32⟩
  | .hbm, ⟨16, _⟩ => ⟨S_, .f32⟩
  | .hbm, ⟨17, _⟩ => ⟨S8x4x2048, .f32⟩
  | .hbm, ⟨18, _⟩ => ⟨S_, .f32⟩
  | .hbm, ⟨19, _⟩ => ⟨S8x4x2048, .f32⟩
  | .hbm, ⟨20, _⟩ => ⟨S8x4x2048, .f32⟩
  | .hbm, ⟨21, _⟩ => ⟨S8x4x2048x1, .f32⟩
  | .hbm, ⟨22, _⟩ => ⟨S8x4x2048x256, .f32⟩
  | .hbm, ⟨23, _⟩ => ⟨S8x4x2048x256, .f32⟩
  | .hbm, ⟨24, _⟩ => ⟨S8x4x2048x256, .f32⟩
  | .hbm, ⟨25, _⟩ => ⟨S_, .f32⟩
  | .hbm, ⟨26, _⟩ => ⟨S8x4x2048, .f32⟩
  | .hbm, ⟨27, _⟩ => ⟨S8x4x2048x1, .f32⟩
  | .hbm, ⟨28, _⟩ => ⟨S8x4x2048x256, .f32⟩
  | .hbm, ⟨29, _⟩ => ⟨S8x4x2048x256, .f32⟩
  | .hbm, ⟨30, _⟩ => ⟨S8x256x4x128, .f32⟩
  | .hbm, ⟨31, _⟩ => ⟨S8x4x128x2048, .f32⟩
  | .hbm, ⟨32, _⟩ => ⟨S8x2048x4x128, .f32⟩
  | .hbm, ⟨33, _⟩ => ⟨S16384x512, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S16384x2048, .f32⟩
  | .hbm, ⟨59, _⟩ => ⟨S16384x2048, .f32⟩
  | .hbm, ⟨60, _⟩ => ⟨S1x2048, .f32⟩
  | .hbm, ⟨61, _⟩ => ⟨S16384x2048, .f32⟩
  | .hbm, ⟨62, _⟩ => ⟨S16384x2048, .f32⟩
  | .hbm, ⟨63, _⟩ => ⟨S1x2048, .f32⟩
  | .hbm, ⟨64, _⟩ => ⟨S16384x2048, .f32⟩
  | .hbm, ⟨65, _⟩ => ⟨S16384x2048, .f32⟩
  | .hbm, ⟨66, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel7.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S16384x2048, .f32⟩
  | .hbm, ⟨9, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x2048, .f32⟩
  | .hbm, ⟨31, _⟩ => ⟨S16384x2048, .f32⟩
  | .hbm, ⟨32, _⟩ => ⟨S1x2048, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Proof.Fox.Softmax.lean ====
module

public import Idealize.ShloMosaic.PureOps.Ideal
public import Mathlib.Data.Finset.Fold
public import Mathlib.Data.Finset.Lattice.Fold

/-! A row of causal softmax attention over the extended reals: the keys past the query carry the score minus infinity, so the row
over the first `K` keys is the row over all the keys as soon as those `K` hold every visible key and the visible scores are
real numbers. -/

@[expose] public section
noncomputable section

namespace Cert.Fox

open Idealize.ShloMosaic

/-- An extended real that is a real number. -/
def Real' (x : EReal) : Prop := ∃ r : ℝ, x = (r : EReal)

theorem Real'.ne_top {x : EReal} (h : Real' x) : x ≠ ⊤ := by obtain ⟨r, rfl⟩ := h; exact EReal.coe_ne_top r
theorem Real'.ne_bot {x : EReal} (h : Real' x) : x ≠ ⊥ := by obtain ⟨r, rfl⟩ := h; exact EReal.coe_ne_bot r

theorem Real'.mul {x y : EReal} (hx : Real' x) (hy : Real' y) : Real' (x * y) := by
  obtain ⟨a, rfl⟩ := hx; obtain ⟨b, rfl⟩ := hy; exact ⟨a * b, (EReal.coe_mul a b).symm⟩
theorem Real'.add {x y : EReal} (hx : Real' x) (hy : Real' y) : Real' (x + y) := by
  obtain ⟨a, rfl⟩ := hx; obtain ⟨b, rfl⟩ := hy; exact ⟨a + b, (EReal.coe_add a b).symm⟩
theorem Real'.sub {x y : EReal} (hx : Real' x) (hy : Real' y) : Real' (x - y) := by
  obtain ⟨a, rfl⟩ := hx; obtain ⟨b, rfl⟩ := hy; exact ⟨a - b, (EReal.coe_sub a b).symm⟩
/-- A finite sum of real numbers is a real number. -/
theorem Real'.sum {ι : Type} (s : Finset ι) (f : ι → EReal) (h : ∀ i ∈ s, Real' (f i)) : Real' (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A number whose absolute value lies below plus infinity is real. -/
theorem Real'.of_abs {x : EReal} (h : max x (-x) < ⊤) : Real' x := by
  refine ⟨x.toReal, (EReal.coe_toReal ?_ ?_).symm⟩
  · rintro rfl; simp at h
  · rintro rfl; simp at h

/-- The score of key `k` for a query that sees the keys up to `n`: its logit, or minus infinity. -/
def score (n : ℕ) (L : ℕ → EReal) (k : ℕ) : EReal := if k ≤ n then L k else ⊥

/-- The largest score of the first `K` keys. -/
def top (K n : ℕ) (L : ℕ → EReal) : EReal := Finset.univ.fold max ⊥ fun k : Fin K => score n L k

/-- The sum of the exponentials of the scores of the first `K` keys. -/
def mass (K n : ℕ) (L : ℕ → EReal) : EReal := ∑ k : Fin K, Ideal.exp (score n L k - top K n L)

/-- The softmax weight of key `k` among the first `K` keys. -/
def weight (K n : ℕ) (L : ℕ → EReal) (k : ℕ) : EReal := Ideal.div (Ideal.exp (score n L k - top K n L)) (mass K n L)

/-- One entry of the attention over the first `K` keys: the values weighted by the softmax. -/
def attn (K n : ℕ) (L v : ℕ → EReal) : EReal := ∑ k : Fin K, weight K n L k * v k

theorem exp_bot_sub (x : EReal) : Ideal.exp (⊥ - x) = 0 := by rw [sub_eq_add_neg, EReal.bot_add]; rfl

theorem exp_nonneg (x : EReal) : 0 ≤ Ideal.exp x := by
  induction x using EReal.rec with
  | bot => simp
  | coe r => simpa using (Real.exp_pos r).le
  | top => simp

/-- A sum whose terms vanish from `K` on does not see how far it runs. -/
theorem sum_prefix {K K' : ℕ} (h : K ≤ K') (f : ℕ → EReal) (hf : ∀ k, K ≤ k → f k = 0) :
    ∑ k : Fin K, f k = ∑ k : Fin K', f k := by
  rw [Fin.sum_univ_eq_sum_range f K, Fin.sum_univ_eq_sum_range f K']
  refine Finset.sum_subset (fun k hk => ?_) fun k _ hk => hf k ?_
  · simp only [Finset.mem_range] at *; omega
  · simpa using hk

theorem top_prefix {K K' n : ℕ} (h : K ≤ K') (hn : n < K) (L : ℕ → EReal) : top K n L = top K' n L := by
  refine eq_of_forall_ge_iff fun c => ?_
  unfold top
  rw [Finset.fold_max_le, Finset.fold_max_le]
  refine ⟨fun ⟨a, b⟩ => ⟨a, fun k _ => ?_⟩, fun ⟨a, b⟩ => ⟨a, fun k _ => b ⟨k.val, by omega⟩ (Finset.mem_univ _)⟩⟩
  by_cases hk : k.val < K
  · exact b ⟨k.val, hk⟩ (Finset.mem_univ _)
  · unfold score; rw [if_neg (by omega)]; exact bot_le

theorem mass_prefix {K K' n : ℕ} (h : K ≤ K') (hn : n < K) (L : ℕ → EReal) : mass K n L = mass K' n L := by
  unfold mass
  rw [top_prefix h hn L]
  refine sum_prefix h (fun k => Ideal.exp (score n L k - top K' n L)) fun k hk => ?_
  show Ideal.exp (score n L k - top K' n L) = 0
  unfold score; rw [if_neg (by omega), exp_bot_sub]

/-- With real visible logits the mass is not zero: the key of the largest score counts one. -/
theorem mass_ne_zero {K n : ℕ} (hn : n < K) {L : ℕ → EReal} (hL : ∀ k, k ≤ n → Real' (L k)) : mass K n L ≠ 0 := by
  have h0 : L 0 ≤ top K n L := by
    unfold top
    rw [Finset.le_fold_max]
    exact .inr ⟨⟨0, by omega⟩, Finset.mem_univ _, by unfold score; rw [if_pos (Nat.zero_le n)]⟩
  have hb : top K n L ≠ ⊥ := fun hb => (hL 0 (Nat.zero_le n)).ne_bot (le_bot_iff.mp (hb ▸ h0))
  have hm : ∃ k : Fin K, top K n L ≤ score n L k := by
    have := (Finset.le_fold_max (s := (Finset.univ : Finset (Fin K))) (b := (⊥ : EReal)) (f := fun k : Fin K => score n L k) (top K n L)).mp (le_refl (top K n L))
    rcases this with h | ⟨k, _, hk⟩
    · exact absurd (le_bot_iff.mp h) hb
    · exact ⟨k, hk⟩
  obtain ⟨k, hk⟩ := hm
  have hk' : score n L k ≤ top K n L := by
    unfold top; rw [Finset.le_fold_max]; exact .inr ⟨k, Finset.mem_univ _, le_refl _⟩
  have he : top K n L = score n L k := le_antisymm hk hk'
  have hkn : k.val ≤ n := by
    by_contra hc
    exact hb (by rw [he]; unfold score; rw [if_neg hc])
  obtain ⟨r, hr⟩ := hL k.val hkn
  have hs : score n L k = (r : EReal) := by unfold score; rw [if_pos hkn, hr]
  have h1 : Ideal.exp (score n L k - top K n L) = 1 := by
    rw [he, hs, ← EReal.coe_sub, sub_self, Ideal.exp_coe, Real.exp_zero, EReal.coe_one]
  have hle : (1 : EReal) ≤ mass K n L := by
    rw [← h1]
    exact Finset.single_le_sum (f := fun k : Fin K => Ideal.exp (score n L k - top K n L)) (fun i _ => exp_nonneg _) (Finset.mem_univ k)
  intro hz
  rw [hz] at hle
  exact absurd hle (by norm_num)

/-- The attention over a prefix that holds every visible key is the attention over all the keys. -/
theorem attn_prefix {K K' n : ℕ} (h : K ≤ K') (hn : n < K) {L : ℕ → EReal} (hL : ∀ k, k ≤ n → Real' (L k)) (v : ℕ → EReal) :
    attn K n L v = attn K' n L v := by
  unfold attn weight
  rw [top_prefix h hn L, mass_prefix h hn L]
  refine sum_prefix h (fun k => Ideal.div (Ideal.exp (score n L k - top K' n L)) (mass K' n L) * v k) fun k hk => ?_
  show Ideal.div (Ideal.exp (score n L k - top K' n L)) (mass K' n L) * v k = 0
  have hs : score n L k = ⊥ := by unfold score; rw [if_neg (by omega)]
  rw [hs, exp_bot_sub, Ideal.div, if_neg (mass_ne_zero (by omega) hL), zero_mul, zero_mul]

end Cert.Fox

end
-- ==== Proof.Fox.Payload.lean ====
module

public import proofs.«01_k».proof.Proof.Gen.KernelIdeal.Skeleton
public import proofs.«01_k».proof.Proof.Fox.Softmax
public import Idealize.ShloMosaic.Lib.Pointwise
public import Idealize.ShloMosaic.Lib.WordCmp

/-! What one grid point of the attention computes, read at one entry: the four prefix lengths (512, 1024, 1536 and 2048 keys) are
the one row function of `Softmax.lean` at their length. -/

@[expose] public section
set_option maxRecDepth 16384
noncomputable section

namespace Cert.Fox

open Idealize.ShloMosaic Cert.KernelIdeal Cert.KernelIdeal.Gen

/-- The rounded inverse square root of the head width, as the program writes it. -/
def scale : EReal := Ideal.ofBits .f32 0x3DB504F3#32

theorem scale_real : Real' scale := by
  unfold scale Ideal.ofBits Ideal.ieee
  dsimp only
  rw [if_neg (by decide), if_neg (by decide)]
  exact ⟨_, rfl⟩

theorem neg_inf : Ideal.ofBits .f32 0xFF800000#32 = ⊥ := by simp [Ideal.ofBits, Ideal.ieee]
theorem pos_inf : Ideal.ofBits .f32 0x7F800000#32 = ⊤ := by simp [Ideal.ofBits, Ideal.ieee]

/-- The logit of key `k`: the scaled product of query and key, plus the query's gate sum, minus the key's. -/
def logit (q : Fin 128 → EReal) (a : EReal) (kk : ℕ → Fin 128 → EReal) (g : ℕ → EReal) (k : ℕ) : EReal :=
  (∑ x : Fin 128, q x * kk k x) * scale + a - g k

theorem logit_real {q : Fin 128 → EReal} {a : EReal} {kk : ℕ → Fin 128 → EReal} {g : ℕ → EReal} {n : ℕ} (hq : ∀ x, Real' (q x)) (ha : Real' a)
    (hk : ∀ k x, k ≤ n → Real' (kk k x)) (hg : ∀ k, k ≤ n → Real' (g k)) (k : ℕ) (h : k ≤ n) : Real' (logit q a kk g k) :=
  (((Real'.sum _ _ fun x _ => (hq x).mul (hk k x h)).mul scale_real).add ha).sub (hg k h)

/-- The causal mask of the block: row `r` of query block `i` sees key `l` when `l ≤ 256 i + r`. -/
theorem causal {K : ℕ} (hK : K ≤ 2048) (i : Fin 8) (r : Fin 256) (l : Fin K) (a b : EReal) :
    Scalar.select (IntOp.cmpi .sle (BitVec.ofNat 32 l) (IntOp.addi (Scalar.muli (BitVec.ofNat 32 i) 256#32) (BitVec.ofNat 32 r))) a b
      = if l.val ≤ i.val * 256 + r.val then a else b := by
  have e : IntOp.addi (Scalar.muli (BitVec.ofNat 32 i) 256#32) (BitVec.ofNat 32 r) = BitVec.ofNat 32 (i.val * 256 + r.val) := by
    show BitVec.ofNat 32 i * 256#32 + BitVec.ofNat 32 r = _
    apply BitVec.eq_of_toNat_eq
    simp only [BitVec.toNat_add, BitVec.toNat_mul, BitVec.toNat_ofNat]
    omega
  rw [e, WordCmp.cmpi_sle_ofNat (by omega) (by omega), Scalar.select_ofBool]
  simp

/-- Summing a row with every lane but `32 + h` set to zero picks lane `32 + h`. -/
theorem lane (h : Fin 4) (f : Fin 128 → EReal) :
    ∑ x : Fin 128, Scalar.select (IntOp.cmpi .eq (BitVec.ofNat 32 x) (Scalar.addi 32#32 (BitVec.ofNat 32 h))) (f x) 0
      = f ⟨32 + h.val, by omega⟩ := by
  have e : ∀ x : Fin 128, Scalar.select (IntOp.cmpi .eq (BitVec.ofNat 32 x) (Scalar.addi 32#32 (BitVec.ofNat 32 h))) (f x) 0
      = if x = ⟨32 + h.val, by omega⟩ then f x else 0 := by
    intro x
    have e : Scalar.addi 32#32 (BitVec.ofNat 32 h) = BitVec.ofNat 32 (32 + h.val) := by
      show 32#32 + BitVec.ofNat 32 h = _
      apply BitVec.eq_of_toNat_eq
      simp only [BitVec.toNat_add, BitVec.toNat_ofNat]
      omega
    rw [e, WordCmp.cmpi_eq_ofNat (by omega) (by omega), Scalar.select_ofBool]
    simp [Fin.ext_iff]
  simp only [e]
  rw [Finset.sum_ite_eq' Finset.univ]
  simp

section
variable (h : Fin 4) (i : Fin 8) (f : Vec Ideal S256x128 .f32) (q : Vec Ideal S256x128 .bf16)
  (kk : ℕ → Fin 128 → EReal) (gg : ℕ → EReal) (r : Fin 256)

/-- The logits of row `r` of a block. -/
abbrev rowLogit : ℕ → EReal := logit (fun x => q (ix2 r x)) (f (ix2 r ⟨32 + h.val, by omega⟩)) kk gg

theorem prob512 (k : Vec Ideal S512x128 .bf16) (g : Vec Ideal S1x1x512 .f32) (hk : ∀ l x, k (ix2 l x) = kk l.val x)
    (hg : ∀ l, g (ix3 0 0 l) = gg l.val) (l : Fin 512) :
    k0_pay2 (F := Ideal) (BitVec.ofNat 32 h) (BitVec.ofNat 32 i) f q k g (ix2 r l) = weight 512 (i.val * 256 + r.val) (rowLogit h f q kk gg r) l.val := by
  pointwise [k0_pay2]
  simp only [causal (K := 512) (by decide), lane h fun x => f (ix2 r x), neg_inf, hk, hg]
  rfl

theorem prob1024 (k : Vec Ideal S1024x128 .bf16) (g : Vec Ideal S1x1x1024 .f32) (hk : ∀ l x, k (ix2 l x) = kk l.val x)
    (hg : ∀ l, g (ix3 0 0 l) = gg l.val) (l : Fin 1024) :
    k0_pay3 (F := Ideal) (BitVec.ofNat 32 h) (BitVec.ofNat 32 i) f q k g (ix2 r l) = weight 1024 (i.val * 256 + r.val) (rowLogit h f q kk gg r) l.val := by
  pointwise [k0_pay3]
  simp only [causal (K := 1024) (by decide), lane h fun x => f (ix2 r x), neg_inf, hk, hg]
  rfl

theorem prob1536 (k : Vec Ideal S1536x128 .bf16) (g : Vec Ideal S1x1x1536 .f32) (hk : ∀ l x, k (ix2 l x) = kk l.val x)
    (hg : ∀ l, g (ix3 0 0 l) = gg l.val) (l : Fin 1536) :
    k0_pay4 (F := Ideal) (BitVec.ofNat 32 h) (BitVec.ofNat 32 i) f q k g (ix2 r l) = weight 1536 (i.val * 256 + r.val) (rowLogit h f q kk gg r) l.val := by
  pointwise [k0_pay4]
  simp only [causal (K := 1536) (by decide), lane h fun x => f (ix2 r x), neg_inf, hk, hg]
  rfl

theorem prob2048 (k : Vec Ideal S2048x128 .bf16) (g : Vec Ideal S1x1x2048 .f32) (hk : ∀ l x, k (ix2 l x) = kk l.val x)
    (hg : ∀ l, g (ix3 0 0 l) = gg l.val) (l : Fin 2048) :
    k0_pay5 (F := Ideal) (BitVec.ofNat 32 h) (BitVec.ofNat 32 i) f q k g (ix2 r l) = weight 2048 (i.val * 256 + r.val) (rowLogit h f q kk gg r) l.val := by
  pointwise [k0_pay5]
  simp only [causal (K := 2048) (by decide), lane h fun x => f (ix2 r x), neg_inf, hk, hg]
  rfl

variable (d : Fin 128) (vv : ℕ → EReal)

theorem out512 (v k : Vec Ideal S512x128 .bf16) (g : Vec Ideal S1x1x512 .f32) (hk : ∀ l x, k (ix2 l x) = kk l.val x)
    (hg : ∀ l, g (ix3 0 0 l) = gg l.val) (hv : ∀ l, v (ix2 l d) = vv l.val) :
    k0_pay8 (F := Ideal) v (k0_pay2 (BitVec.ofNat 32 h) (BitVec.ofNat 32 i) f q k g) (constant S256x128 .f32 0#32) (ix2 r d)
      = attn 512 (i.val * 256 + r.val) (rowLogit h f q kk gg r) vv := by
  pointwise [k0_pay8]
  simp only [prob512 h i f q kk gg r k g hk hg, hv]
  rfl

theorem out1024 (v k : Vec Ideal S1024x128 .bf16) (g : Vec Ideal S1x1x1024 .f32) (hk : ∀ l x, k (ix2 l x) = kk l.val x)
    (hg : ∀ l, g (ix3 0 0 l) = gg l.val) (hv : ∀ l, v (ix2 l d) = vv l.val) :
    k0_pay9 (F := Ideal) v (k0_pay3 (BitVec.ofNat 32 h) (BitVec.ofNat 32 i) f q k g) (constant S256x128 .f32 0#32) (ix2 r d)
      = attn 1024 (i.val * 256 + r.val) (rowLogit h f q kk gg r) vv := by
  pointwise [k0_pay9]
  simp only [prob1024 h i f q kk gg r k g hk hg, hv]
  rfl

theorem out1536 (v k : Vec Ideal S1536x128 .bf16) (g : Vec Ideal S1x1x1536 .f32) (hk : ∀ l x, k (ix2 l x) = kk l.val x)
    (hg : ∀ l, g (ix3 0 0 l) = gg l.val) (hv : ∀ l, v (ix2 l d) = vv l.val) :
    k0_pay10 (F := Ideal) v (k0_pay4 (BitVec.ofNat 32 h) (BitVec.ofNat 32 i) f q k g) (constant S256x128 .f32 0#32) (ix2 r d)
      = attn 1536 (i.val * 256 + r.val) (rowLogit h f q kk gg r) vv := by
  pointwise [k0_pay10]
  simp only [prob1536 h i f q kk gg r k g hk hg, hv]
  rfl

theorem out2048 (v k : Vec Ideal S2048x128 .bf16) (g : Vec Ideal S1x1x2048 .f32) (hk : ∀ l x, k (ix2 l x) = kk l.val x)
    (hg : ∀ l, g (ix3 0 0 l) = gg l.val) (hv : ∀ l, v (ix2 l d) = vv l.val) :
    k0_pay1 (F := Ideal) v (k0_pay5 (BitVec.ofNat 32 h) (BitVec.ofNat 32 i) f q k g) (constant S256x128 .f32 0#32) (ix2 r d)
      = attn 2048 (i.val * 256 + r.val) (rowLogit h f q kk gg r) vv := by
  pointwise [k0_pay1]
  simp only [prob2048 h i f q kk gg r k g hk hg, hv]
  rfl
end

end Cert.Fox

end
-- ==== Proof.Fox.Block.lean ====
module

public import proofs.«01_k».proof.Proof.Gen.KernelIdeal.Value
public import proofs.«01_k».proof.Proof.Fox.Payload
public import Idealize.ShloMosaic.Lib.Pipeline.ValueKit
public import Idealize.ShloMosaic.Lib.Pipeline.ReadBack

/-! What a grid point reads and leaves. Point `t` of the 256 works on batch row `t / 32`, head `t / 8 % 4` and query block `t % 8`;
the keys and the values of the head are cast once, at query block 0, and held for the other seven. -/

@[expose] public section
set_option maxRecDepth 16384
noncomputable section

namespace Cert.Fox

open Idealize.ShloMosaic Idealize.ShloMosaic.TcCoe Cert.KernelIdeal Cert.KernelIdeal.Gen Idealize.SL.Sem

/-- The element of a matrix at row `r` and column `c`, and zero outside. -/
def at2 {R C : ℕ} (A : Fin R → Fin C → EReal) (r c : ℕ) : EReal := if h : r < R ∧ c < C then A ⟨r, h.1⟩ ⟨c, h.2⟩ else 0

theorem at2_of {R C : ℕ} (A : Fin R → Fin C → EReal) {r c : ℕ} (hr : r < R) (hc : c < C) : at2 A r c = A ⟨r, hr⟩ ⟨c, hc⟩ := dif_pos ⟨hr, hc⟩

variable (A0 : FVec Ideal S16384x2560 .bf16) (A1 : FVec Ideal S16384x1024 .f32) (A2 : FVec Ideal S16384x128 .f32)

/-- Entry `x` of the query at token `row` and head `h`. -/
def query (row h : ℕ) (x : Fin 128) : EReal := at2 (fun r c => A0 (ix2 r c)) row (2048 + h * 128 + x.val)
/-- Entry `x` of the key at position `k` of batch row `b` and head `h`. -/
def key (b h k : ℕ) (x : Fin 128) : EReal := at2 (fun r c => A1 (ix2 r c)) (b * 2048 + k) (h * 256 + x.val)
/-- Entry `d` of the value at position `k` of batch row `b` and head `h`. -/
def value (b h : ℕ) (d : Fin 128) (k : ℕ) : EReal := at2 (fun r c => A1 (ix2 r c)) (b * 2048 + k) (h * 256 + 128 + d.val)
/-- The running gate sum at token `row` and head `h`. -/
def gate (row h : ℕ) : EReal := at2 (fun r c => A2 (ix2 r c)) row (32 + h)
/-- The logits of the query at position `n` of batch row `b` and head `h`. -/
def logits (b h n : ℕ) : ℕ → EReal :=
  logit (query A0 (b * 2048 + n) h) (gate A2 (b * 2048 + n) h) (key A1 b h) fun k => gate A2 (b * 2048 + k) h
/-- The attention of the query at position `n` of batch row `b` and head `h` over all the keys, entry `d`. -/
def foxAt (b h n : ℕ) (d : Fin 128) : EReal := attn 2048 n (logits A0 A1 A2 b h n) (value A1 b h d)

variable (m : (ℓ : Loc nD τ sig) → Buf (Elt Ideal) ℓ)

/-- The three arguments as launched. -/
abbrev argQ (c : Dev nD) : FVec Ideal S16384x2560 .bf16 := m ((c : Thread nD τ).loc main_arg0)
abbrev argKV (c : Dev nD) : FVec Ideal S16384x1024 .f32 := m ((c : Thread nD τ).loc main_arg1)
abbrev argF (c : Dev nD) : FVec Ideal S16384x128 .f32 := m ((c : Thread nD τ).loc main_arg2)

theorem coords_facts : ∀ t : Fin cfg0.N, (grid0.coords t 1).val = t.val / 8 % 4 ∧ (grid0.coords t 2).val = t.val % 8 :=
  (by decide +kernel : ∀ t : Fin grid0.N, _)

theorem idx_facts : ∀ t : Fin cfg0.N,
    (win0_0.index t 0 = t.val / 32 * 8 + t.val % 8 ∧ win0_0.index t 1 = 16 + t.val / 8 % 4)
    ∧ (win0_1.index t 0 = t.val / 32 ∧ win0_1.index t 1 = t.val / 8 % 4)
    ∧ (win0_2.index t 0 = t.val / 32 * 8 + t.val % 8 ∧ win0_2.index t 1 = 0)
    ∧ (win0_3.index t 0 = t.val / 8 ∧ win0_3.index t 1 = 0 ∧ win0_3.index t 2 = 0)
    ∧ (win0_4.index t 0 = t.val / 32 * 8 + t.val % 8 ∧ win0_4.index t 1 = t.val / 8 % 4) :=
  (by decide +kernel : ∀ t : Fin grid0.N, _)

theorem N_lt (t : Fin cfg0.N) : t.val < 256 := t.isLt.trans_eq N_0

theorem read0 (c : Dev nD) (t : Fin cfg0.N) (r : Fin 256) (x : Fin 128) :
    (iblk m c 0 t : Vec Ideal S256x128 .bf16) (ix2 r x)
      = query (argQ m c) (t.val / 32 * 2048 + (t.val % 8 * 256 + r.val)) (t.val / 8 % 4) x := by
  obtain ⟨⟨e0, e1⟩, -⟩ := idx_facts t
  have := N_lt t
  unfold query
  rw [at2_of _ (by omega) (by omega)]
  blk_ext [iblk, V_main_arg0, e0, e1]

theorem read1 (c : Dev nD) (t : Fin cfg0.N) (l : Fin 2048) (x : Fin 256) :
    (iblk m c 1 t : Vec Ideal S2048x256 .f32) (ix2 l x)
      = at2 (fun r c' => argKV m c (ix2 r c')) (t.val / 32 * 2048 + l.val) (t.val / 8 % 4 * 256 + x.val) := by
  obtain ⟨-, ⟨e0, e1⟩, -⟩ := idx_facts t
  have := N_lt t
  rw [at2_of _ (by omega) (by omega)]
  blk_ext [iblk, V_main_arg1, e0, e1]

theorem read2 (c : Dev nD) (t : Fin cfg0.N) (r : Fin 256) (h : ℕ) (hh : h < 4) :
    (iblk m c 2 t : Vec Ideal S256x128 .f32) (ix2 r ⟨32 + h, by omega⟩)
      = gate (argF m c) (t.val / 32 * 2048 + (t.val % 8 * 256 + r.val)) h := by
  obtain ⟨-, -, ⟨e0, e1⟩, -⟩ := idx_facts t
  have := N_lt t
  unfold gate
  rw [at2_of _ (by omega) (by omega)]
  blk_ext [iblk, V_main_arg2, e0, e1]

theorem read3 (c : Dev nD) (t : Fin cfg0.N) (l : Fin 2048) :
    (iblk m c 3 t : Vec Ideal S1x1x2048 .f32) (ix3 0 0 l)
      = gate (argF m c) (t.val / 32 * 2048 + l.val) (t.val / 8 % 4) := by
  obtain ⟨-, -, -, ⟨e0, e1, e2⟩, -⟩ := idx_facts t
  have := N_lt t
  unfold gate
  rw [at2_of _ (by omega) (by omega)]
  blk_ext! [iblk, V, e0, e1, e2]

end Cert.Fox

end
-- ==== Proof.Fox.Array.lean ====
module

public import proofs.«01_k».proof.Proof.Fox.Block

/-! The result array of the attention: every grid point leaves its block of one whole-array function. -/

@[expose] public section
set_option maxRecDepth 16384
noncomputable section

namespace Cert.Fox

open Idealize.ShloMosaic Idealize.ShloMosaic.TcCoe Cert.KernelIdeal Cert.KernelIdeal.Gen Idealize.SL.Sem
open Idealize.ShloMosaic.Pipeline (Dat Cfg Window)

variable (m : (ℓ : Loc nD τ sig) → Buf (Elt Ideal) ℓ)

theorem keys_cast (x : Vec Ideal S2048x128 .f32) : k0_pay6 (F := Ideal) x = x := by
  funext j; idx_vars j; pointwise [k0_pay6]
theorem values_cast (x : Vec Ideal S2048x128 .f32) : k0_pay7 (F := Ideal) x = x := by
  funext j; idx_vars j; pointwise [k0_pay7]

/-- The keys' half of the staged block. -/
theorem half_keys (c : Dev nD) (t : Fin cfg0.N) (l : Fin 2048) (x : Fin 128) :
    View.ld (iblk m c 1 t : Vec Ideal S2048x256 .f32) (Rect.unit ![0, 0] ![2048, 128] inb_S2048x256_S2048x128_0_0) (ix2 l x)
      = key (argKV m c) (t.val / 32) (t.val / 8 % 4) l.val x := by
  pointwise
  refine (read1 m c t l ⟨x.val, by omega⟩).trans ?_
  unfold key; rfl

/-- The values' half of the staged block. -/
theorem half_values (c : Dev nD) (t : Fin cfg0.N) (l : Fin 2048) (x : Fin 128) :
    View.ld (iblk m c 1 t : Vec Ideal S2048x256 .f32) (Rect.unit ![0, 128] ![2048, 128] inb_S2048x256_S2048x128_0_128) (ix2 l x)
      = value (argKV m c) (t.val / 32) (t.val / 8 % 4) x l.val := by
  pointwise
  refine (read1 m c t l ⟨128 + x.val, by omega⟩).trans ?_
  unfold value; rw [Nat.add_assoc]

/-- Off the first query block the scratch buffers keep what the point before left. -/
theorem kept (c : Dev nD) (t : Fin cfg0.N) (h0 : ¬ t.val % 8 = 0) :
    (outsAt0 m c t.val t.isLt).2 = (outsAt0 m c (t.val - 1) (Nat.lt_of_le_of_lt (Nat.sub_le _ _) t.isLt)).2 := by
  by_cases h1 : t.val % 8 ≤ 1
  · rw [outsAt0_B m c t h0 h1 (by omega) (by omega) (by omega)]; dsimp only [sout0_B_0, sout0_B_1]
  by_cases h2 : 2 ≤ t.val % 8 ∧ t.val % 8 ≤ 3
  · rw [outsAt0_C m c t h0 h1 h2 (by omega) (by omega)]; dsimp only [sout0_C_0, sout0_C_1]
  by_cases h3 : 4 ≤ t.val % 8 ∧ t.val % 8 ≤ 5
  · rw [outsAt0_D m c t h0 h1 h2 h3 (by omega)]; dsimp only [sout0_D_0, sout0_D_1]
  · rw [outsAt0_E m c t h0 h1 h2 h3 (by omega)]; dsimp only [sout0_E_0, sout0_E_1]

/-- A pair of scratch buffers holds the keys and the values of batch row `b` and head `h`. -/
def Holds (c : Dev nD) (b h : ℕ) (s : Vec Ideal S2048x128 .bf16 × Vec Ideal S2048x128 .bf16) : Prop :=
  (∀ (l : Fin 2048) (x : Fin 128), s.1 (ix2 l x) = key (argKV m c) b h l.val x)
    ∧ ∀ (l : Fin 2048) (x : Fin 128), s.2 (ix2 l x) = value (argKV m c) b h x l.val

/-- What the first query block of a head writes into the scratch buffers. -/
theorem holds_cast (c : Dev nD) (t : Fin cfg0.N) :
    Holds m c (t.val / 32) (t.val / 8 % 4)
      (k0_pay6 (View.ld (iblk m c 1 t : Vec Ideal S2048x256 .f32) (Rect.unit ![0, 0] ![2048, 128] inb_S2048x256_S2048x128_0_0)),
        k0_pay7 (View.ld (iblk m c 1 t : Vec Ideal S2048x256 .f32) (Rect.unit ![0, 128] ![2048, 128] inb_S2048x256_S2048x128_0_128))) := by
  rw [keys_cast, values_cast]
  exact ⟨fun l x => half_keys m c t l x, fun l x => half_values m c t l x⟩

theorem first_point (c : Dev nD) (t : Fin cfg0.N) (h0 : t.val % 8 = 0) :
    (outsAt0 m c t.val t.isLt).2
      = (k0_pay6 (View.ld (iblk m c 1 t : Vec Ideal S2048x256 .f32) (Rect.unit ![0, 0] ![2048, 128] inb_S2048x256_S2048x128_0_0)),
        k0_pay7 (View.ld (iblk m c 1 t : Vec Ideal S2048x256 .f32) (Rect.unit ![0, 128] ![2048, 128] inb_S2048x256_S2048x128_0_128))) := by
  rw [outsAt0_A m c t h0 (by omega) (by omega) (by omega) (by omega)]
  dsimp only
  refine Prod.ext ?_ ?_
  · dsimp only; frame_out; rfl
  · dsimp only; frame_out; rfl

/-- After every point the two scratch buffers hold the keys and the values of the point's batch row and head. -/
theorem held (c : Dev nD) (n : ℕ) (hn : n < cfg0.N) : Holds m c (n / 32) (n / 8 % 4) (outsAt0 m c n hn).2 := by
  induction n with
  | zero => rw [first_point m c ⟨0, hn⟩ rfl]; exact holds_cast m c ⟨0, hn⟩
  | succ n ih =>
    by_cases h0 : (n + 1) % 8 = 0
    · rw [first_point m c ⟨n + 1, hn⟩ h0]; exact holds_cast m c ⟨n + 1, hn⟩
    · rw [kept m c ⟨n + 1, hn⟩ h0, show (n + 1) / 32 = n / 32 by omega, show (n + 1) / 8 % 4 = n / 8 % 4 by omega]
      exact ih (by omega)

/-- … and so before every point but a head's first. -/
theorem held_before (c : Dev nD) (t : Fin cfg0.N) (h0 : ¬ t.val % 8 = 0) :
    Holds m c (t.val / 32) (t.val / 8 % 4) (outsAt0 m c (t.val - 1) (Nat.lt_of_le_of_lt (Nat.sub_le _ _) t.isLt)).2 := by
  rw [← kept m c t h0]; exact held m c t.val t.isLt

/-- The row of the block the point works on, as a position in its batch row. -/
abbrev pos (t : Fin cfg0.N) (r : Fin 256) : ℕ := t.val % 8 * 256 + r.val

/-- The attention of the point's row over its first `K` keys. -/
abbrev prefixAt (K : ℕ) (c : Dev nD) (t : Fin cfg0.N) (r : Fin 256) (d : Fin 128) : EReal :=
  attn K (pos t r) (logits (argQ m c) (argKV m c) (argF m c) (t.val / 32) (t.val / 8 % 4) (pos t r)) (value (argKV m c) (t.val / 32) (t.val / 8 % 4) d)

/-- The logits read off the point's blocks are the logits of the row. -/
theorem row_logits (c : Dev nD) (t : Fin cfg0.N) (r : Fin 256) :
    rowLogit ⟨t.val / 8 % 4, by omega⟩ (iblk m c 2 t) (iblk m c 0 t) (key (argKV m c) (t.val / 32) (t.val / 8 % 4))
      (fun k => gate (argF m c) (t.val / 32 * 2048 + k) (t.val / 8 % 4)) r
      = logits (argQ m c) (argKV m c) (argF m c) (t.val / 32) (t.val / 8 % 4) (pos t r) := by
  unfold rowLogit logits
  rw [read2 m c t r _ (by omega)]
  congr 1
  funext x
  exact read0 m c t r x

section
variable (c : Dev nD) (t : Fin cfg0.N) (s : Vec Ideal S2048x128 .bf16 × Vec Ideal S2048x128 .bf16) (hs : Holds m c (t.val / 32) (t.val / 8 % 4) s) (r : Fin 256) (d : Fin 128)
include hs

theorem point512 :
    k0_pay8 (View.ld s.2 (Rect.unit ![0, 0] ![512, 128] inb_S2048x128_S512x128_0_0))
      (k0_pay2 (BitVec.ofNat 32 (grid0.coords t 1)) (BitVec.ofNat 32 (grid0.coords t 2)) (iblk m c 2 t) (iblk m c 0 t)
        (View.ld s.1 (Rect.unit ![0, 0] ![512, 128] inb_S2048x128_S512x128_0_0))
        (View.ld (iblk m c 3 t) (Rect.unit ![0, 0, 0] ![1, 1, 512] inb_S1x1x2048_S1x1x512_0_0_0)))
      (constant S256x128 .f32 0#32) (ix2 r d) = prefixAt m 512 c t r d := by
  rw [(coords_facts t).1, (coords_facts t).2]
  refine (out512 ⟨t.val / 8 % 4, by omega⟩ ⟨t.val % 8, by omega⟩ _ _ (key (argKV m c) (t.val / 32) (t.val / 8 % 4))
    (fun k => gate (argF m c) (t.val / 32 * 2048 + k) (t.val / 8 % 4)) r d (value (argKV m c) (t.val / 32) (t.val / 8 % 4) d) _ _ _ ?_ ?_ ?_).trans ?_
  · intro l x; pointwise; exact hs.1 ⟨l.val, by omega⟩ x
  · intro l; pointwise; exact read3 m c t ⟨l.val, by omega⟩
  · intro l; pointwise; exact hs.2 ⟨l.val, by omega⟩ d
  · rw [row_logits]
theorem point1024 :
    k0_pay9 (View.ld s.2 (Rect.unit ![0, 0] ![1024, 128] inb_S2048x128_S1024x128_0_0))
      (k0_pay3 (BitVec.ofNat 32 (grid0.coords t 1)) (BitVec.ofNat 32 (grid0.coords t 2)) (iblk m c 2 t) (iblk m c 0 t)
        (View.ld s.1 (Rect.unit ![0, 0] ![1024, 128] inb_S2048x128_S1024x128_0_0))
        (View.ld (iblk m c 3 t) (Rect.unit ![0, 0, 0] ![1, 1, 1024] inb_S1x1x2048_S1x1x1024_0_0_0)))
      (constant S256x128 .f32 0#32) (ix2 r d) = prefixAt m 1024 c t r d := by
  rw [(coords_facts t).1, (coords_facts t).2]
  refine (out1024 ⟨t.val / 8 % 4, by omega⟩ ⟨t.val % 8, by omega⟩ _ _ (key (argKV m c) (t.val / 32) (t.val / 8 % 4))
    (fun k => gate (argF m c) (t.val / 32 * 2048 + k) (t.val / 8 % 4)) r d (value (argKV m c) (t.val / 32) (t.val / 8 % 4) d) _ _ _ ?_ ?_ ?_).trans ?_
  · intro l x; pointwise; exact hs.1 ⟨l.val, by omega⟩ x
  · intro l; pointwise; exact read3 m c t ⟨l.val, by omega⟩
  · intro l; pointwise; exact hs.2 ⟨l.val, by omega⟩ d
  · rw [row_logits]
theorem point1536 :
    k0_pay10 (View.ld s.2 (Rect.unit ![0, 0] ![1536, 128] inb_S2048x128_S1536x128_0_0))
      (k0_pay4 (BitVec.ofNat 32 (grid0.coords t 1)) (BitVec.ofNat 32 (grid0.coords t 2)) (iblk m c 2 t) (iblk m c 0 t)
        (View.ld s.1 (Rect.unit ![0, 0] ![1536, 128] inb_S2048x128_S1536x128_0_0))
        (View.ld (iblk m c 3 t) (Rect.unit ![0, 0, 0] ![1, 1, 1536] inb_S1x1x2048_S1x1x1536_0_0_0)))
      (constant S256x128 .f32 0#32) (ix2 r d) = prefixAt m 1536 c t r d := by
  rw [(coords_facts t).1, (coords_facts t).2]
  refine (out1536 ⟨t.val / 8 % 4, by omega⟩ ⟨t.val % 8, by omega⟩ _ _ (key (argKV m c) (t.val / 32) (t.val / 8 % 4))
    (fun k => gate (argF m c) (t.val / 32 * 2048 + k) (t.val / 8 % 4)) r d (value (argKV m c) (t.val / 32) (t.val / 8 % 4) d) _ _ _ ?_ ?_ ?_).trans ?_
  · intro l x; pointwise; exact hs.1 ⟨l.val, by omega⟩ x
  · intro l; pointwise; exact read3 m c t ⟨l.val, by omega⟩
  · intro l; pointwise; exact hs.2 ⟨l.val, by omega⟩ d
  · rw [row_logits]
theorem point2048 :
    k0_pay1 s.2 (k0_pay5 (BitVec.ofNat 32 (grid0.coords t 1)) (BitVec.ofNat 32 (grid0.coords t 2)) (iblk m c 2 t) (iblk m c 0 t) s.1 (iblk m c 3 t))
      (constant S256x128 .f32 0#32) (ix2 r d) = prefixAt m 2048 c t r d := by
  rw [(coords_facts t).1, (coords_facts t).2]
  refine (out2048 ⟨t.val / 8 % 4, by omega⟩ ⟨t.val % 8, by omega⟩ _ _ (key (argKV m c) (t.val / 32) (t.val / 8 % 4))
    (fun k => gate (argF m c) (t.val / 32 * 2048 + k) (t.val / 8 % 4)) r d (value (argKV m c) (t.val / 32) (t.val / 8 % 4) d) _ _ _ ?_ ?_ ?_).trans ?_
  · exact fun l x => hs.1 l x
  · exact fun l => read3 m c t l
  · exact fun l => hs.2 l d
  · rw [row_logits]
end

theorem outA (c : Dev nD) (t : Fin cfg0.N) (h0 : t.val % 8 = 0) (r : Fin 256) (d : Fin 128) :
    ((outsAt0 m c t.val t.isLt).1 : Vec Ideal S256x128 .bf16) (ix2 r d) = prefixAt m 512 c t r d := by
  rw [outsAt0_A m c t h0 (by omega) (by omega) (by omega) (by omega)]
  frame_open
  simp (disch := decide) only [↓ View.readCov_fill]
  frame_out
  exact point512 m c t _ (holds_cast m c t) r d

theorem outB (c : Dev nD) (t : Fin cfg0.N) (h0 : ¬ t.val % 8 = 0) (h1 : t.val % 8 ≤ 1) (r : Fin 256) (d : Fin 128) :
    ((outsAt0 m c t.val t.isLt).1 : Vec Ideal S256x128 .bf16) (ix2 r d) = prefixAt m 512 c t r d := by
  rw [outsAt0_B m c t h0 h1 (by omega) (by omega) (by omega)]
  frame_out
  simp only [read_unread_whole]
  exact point512 m c t _ (held_before m c t h0) r d

theorem outC (c : Dev nD) (t : Fin cfg0.N) (h2 : 2 ≤ t.val % 8 ∧ t.val % 8 ≤ 3) (r : Fin 256) (d : Fin 128) :
    ((outsAt0 m c t.val t.isLt).1 : Vec Ideal S256x128 .bf16) (ix2 r d) = prefixAt m 1024 c t r d := by
  rw [outsAt0_C m c t (by omega) (by omega) h2 (by omega) (by omega)]
  frame_out
  simp only [read_unread_whole]
  exact point1024 m c t _ (held_before m c t (by omega)) r d

theorem outD (c : Dev nD) (t : Fin cfg0.N) (h3 : 4 ≤ t.val % 8 ∧ t.val % 8 ≤ 5) (r : Fin 256) (d : Fin 128) :
    ((outsAt0 m c t.val t.isLt).1 : Vec Ideal S256x128 .bf16) (ix2 r d) = prefixAt m 1536 c t r d := by
  rw [outsAt0_D m c t (by omega) (by omega) (by omega) h3 (by omega)]
  frame_out
  simp only [read_unread_whole]
  exact point1536 m c t _ (held_before m c t (by omega)) r d

theorem outE (c : Dev nD) (t : Fin cfg0.N) (h4 : 6 ≤ t.val % 8) (r : Fin 256) (d : Fin 128) :
    ((outsAt0 m c t.val t.isLt).1 : Vec Ideal S256x128 .bf16) (ix2 r d) = prefixAt m 2048 c t r d := by
  rw [outsAt0_E m c t (by omega) (by omega) (by omega) (by omega) h4]
  frame_out
  simp only [read_unread_whole]
  exact point2048 m c t _ (held_before m c t (by omega)) r d

/-- The visible logits of every query are real numbers. -/
def RealLogits (A0 : FVec Ideal S16384x2560 .bf16) (A1 : FVec Ideal S16384x1024 .f32) (A2 : FVec Ideal S16384x128 .f32) : Prop :=
  ∀ b h n k : ℕ, b < 8 → h < 4 → n < 2048 → k ≤ n → Real' (logits A0 A1 A2 b h n k)

/-- Every point leaves, in every row, the attention over all the keys: the prefix it computes on holds every key that the row sees. -/
theorem block (c : Dev nD) (hL : RealLogits (argQ m c) (argKV m c) (argF m c)) (t : Fin cfg0.N) (r : Fin 256) (d : Fin 128) :
    ((outsAt0 m c t.val t.isLt).1 : Vec Ideal S256x128 .bf16) (ix2 r d)
      = foxAt (argQ m c) (argKV m c) (argF m c) (t.val / 32) (t.val / 8 % 4) (pos t r) d := by
  have hN := N_lt t
  have hp : pos t r = t.val % 8 * 256 + r.val := rfl
  have key : ∀ K, K ≤ 2048 → pos t r < K → prefixAt m K c t r d = foxAt (argQ m c) (argKV m c) (argF m c) (t.val / 32) (t.val / 8 % 4) (pos t r) d :=
    fun K hK hp => attn_prefix hK hp (fun k hk => hL _ _ _ k (by omega) (by omega) (by omega) hk) _
  by_cases h0 : t.val % 8 = 0
  · exact (outA m c t h0 r d).trans (key _ (by omega) (by omega))
  by_cases h1 : t.val % 8 ≤ 1
  · exact (outB m c t h0 h1 r d).trans (key _ (by omega) (by omega))
  by_cases h2 : t.val % 8 ≤ 3
  · exact (outC m c t (by omega) r d).trans (key _ (by omega) (by omega))
  by_cases h3 : t.val % 8 ≤ 5
  · exact (outD m c t (by omega) r d).trans (key _ (by omega) (by omega))
  · exact (outE m c t (by omega) r d).trans (key _ (by omega) (by omega))

/-- The attention as one array: token `b · 2048 + n` in row, head `h` and entry `d` in column `h · 128 + d`. -/
def foxArray (A0 : FVec Ideal S16384x2560 .bf16) (A1 : FVec Ideal S16384x1024 .f32) (A2 : FVec Ideal S16384x128 .f32) : FVec Ideal S16384x512 .bf16 :=
  fun j => foxAt A0 A1 A2 ((j 0).val / 2048) ((j 1).val / 128) ((j 0).val % 2048) ⟨(j 1).val % 128, Nat.mod_lt _ (by decide)⟩

/-- The result array after the run is the attention over all the keys. -/
theorem final (c : Dev nD) (hL : RealLogits (argQ m c) (argKV m c) (argF m c)) :
    (dats m 0 c).arrAt 4 cfg0.N = foxArray (argQ m c) (argKV m c) (argF m c) := by
  refine (dats m 0 c).arrAt_eq_of_covers 4 _ (by decide +kernel) fun t hf y => ?_
  blk_simp
  rw [after0_4]
  obtain ⟨-, -, -, -, e0, e1⟩ := idx_facts t
  have hN := N_lt t
  obtain ⟨r, d, rfl⟩ : ∃ (r : Fin 256) (d : Fin 128), y = ix2 r d := ⟨y 0, y 1, by funext a; match a with | ⟨0, _⟩ => rfl | ⟨1, _⟩ => rfl⟩
  refine (block m c hL t r d).trans ?_
  unfold foxArray
  blk_simp [e0, e1]
  have hp : pos t r = t.val % 8 * 256 + r.val := rfl
  congr 1
  · omega
  · omega
  · omega
  · apply Fin.ext; dsimp only; omega

/-- The run: the result array is the attention, the arguments are as launched. -/
theorem run (ρ : Dev nD → PrngReg) (hL : ∀ c, RealLogits (argQ m c) (argKV m c) (argF m c)) :
    θ_run defs (onTc (τ := τ) (main (F := Ideal))) ⟨m, fun _ => 0, ρ⟩ fun r => ∀ c : Dev nD,
      r.2.mem ((c : Thread nD τ).loc main_v4) = foxArray (argQ m c) (argKV m c) (argF m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c (hL c)), (h c).2⟩) (Value.run_blocks m ρ)

end Cert.Fox

end
-- ==== Proof.Fox.Reference.lean ====
module

public import proofs.«01_k».proof.Proof.Gen.ReferenceIdeal.Read
public import proofs.«01_k».proof.Proof.Fox.Array

/-! The reference, read at an entry: the plain softmax attention is the attention over all the keys of `Softmax.lean`. -/

@[expose] public section
set_option maxRecDepth 16384
noncomputable section

namespace Cert.Fox

open Idealize.ShloMosaic Cert.ReferenceIdeal Cert.ReferenceIdeal.Read

variable (x0 : FVec Ideal S16384x2560 .bf16) (x1 : FVec Ideal S16384x1024 .f32) (x2 : FVec Ideal S16384x128 .f32)
variable (b : Fin 8) (h : Fin 4) (n k : Fin 2048)

theorem ref_query (x : Fin 128) : val_main_v2 (F := Ideal) x0 (ix4 b n h x) = query x0 (b.val * 2048 + n.val) h.val x := by
  rw [val_main_v2_apply, val_main_v1_apply, val_main_v0_apply]
  unfold query
  rw [at2_of _ (by omega) (by omega)]
  refine congrArg x0 (funext fun a => Fin.ext ?_)
  match a with
  | ⟨0, _⟩ => show (((b.val * 2048 + n.val) * 4 + h.val) * 128 + x.val) / 512 = b.val * 2048 + n.val; omega
  | ⟨1, _⟩ => show 2048 + (((b.val * 2048 + n.val) * 4 + h.val) * 128 + x.val) % 512 = 2048 + h.val * 128 + x.val; omega

theorem ref_key (x : Fin 128) : val_main_v4 (F := Ideal) x1 (ix4 b k h x) = key x1 b.val h.val k.val x := by
  rw [val_main_v4_apply, val_main_v3_apply]
  unfold key
  rw [at2_of _ (by omega) (by omega)]
  refine congrArg x1 (funext fun a => Fin.ext ?_)
  match a with
  | ⟨0, _⟩ => show (((b.val * 2048 + k.val) * 4 + h.val) * 256 + x.val) / 1024 = b.val * 2048 + k.val; omega
  | ⟨1, _⟩ => show (((b.val * 2048 + k.val) * 4 + h.val) * 256 + x.val) % 1024 = h.val * 256 + x.val; omega

theorem ref_value (x : Fin 128) : val_main_v5 (F := Ideal) x1 (ix4 b k h x) = value x1 b.val h.val x k.val := by
  rw [val_main_v5_apply, val_main_v3_apply]
  unfold value
  rw [at2_of _ (by omega) (by omega)]
  refine congrArg x1 (funext fun a => Fin.ext ?_)
  match a with
  | ⟨0, _⟩ => show (((b.val * 2048 + k.val) * 4 + h.val) * 256 + (128 + x.val)) / 1024 = b.val * 2048 + k.val; omega
  | ⟨1, _⟩ => show (((b.val * 2048 + k.val) * 4 + h.val) * 256 + (128 + x.val)) % 1024 = h.val * 256 + 128 + x.val; omega

theorem ref_gate : val_main_v7 (F := Ideal) x2 (ix3 b n h) = gate x2 (b.val * 2048 + n.val) h.val := by
  rw [val_main_v7_apply, val_main_v6_apply]
  unfold gate
  rw [at2_of _ (by omega) (by omega)]
  refine congrArg x2 (funext fun a => Fin.ext ?_)
  match a with
  | ⟨0, _⟩ => show ((b.val * 2048 + n.val) * 4 + h.val) / 4 = b.val * 2048 + n.val; omega
  | ⟨1, _⟩ => show 32 + ((b.val * 2048 + n.val) * 4 + h.val) % 4 = 32 + h.val; omega

theorem ref_mask : val_main_v25 (F := Ideal) (ix2 n k) = BitVec.ofBool (decide (k.val ≤ n.val)) := by
  rw [val_main_v25_apply, val_main_v23_apply, val_main_v24_apply, val_main_v21_apply, val_main_v22_apply, val_main_v20_apply, val_main_v19_apply]
  exact WordCmp.cmpi_sle_ofNat (w := 32) (a := k.val) (b := n.val) (by omega) (by omega)

theorem ref_score : val_main_v26 (F := Ideal) x0 x1 x2 (ix4 b h n k) = score n.val (logits x0 x1 x2 b.val h.val n.val) k.val := by
  rw [val_main_v26_apply, val_main_call0_v1_apply]
  have e1 : idx_main_call0_v1 (ix4 b h n k) = ix2 n k := by funext a; match a with | ⟨0, _⟩ => rfl | ⟨1, _⟩ => rfl
  rw [e1, ref_mask, Scalar.select_ofBool, val_main_v18_apply, val_main_v14_apply, val_main_v10_apply, val_main_v8_apply, val_main_v13_apply, val_main_v12_apply,
    val_main_v11_apply, val_main_v17_apply, val_main_v16_apply, val_main_v15_apply, val_main_v9_apply, val_main_cst_apply, val_main_call0_v2_apply, val_main_call0_v0_apply,
    val_main_cst_0_apply]
  have e2 : ∀ x, lidx_main_v8 (ix4 b h n k) x = ix4 b n h x := fun x => by funext a; match a with | ⟨0, _⟩ => rfl | ⟨1, _⟩ => rfl | ⟨2, _⟩ => rfl | ⟨3, _⟩ => rfl
  have e3 : ∀ x, ridx_main_v8 (ix4 b h n k) x = ix4 b k h x := fun x => by funext a; match a with | ⟨0, _⟩ => rfl | ⟨1, _⟩ => rfl | ⟨2, _⟩ => rfl | ⟨3, _⟩ => rfl
  have e4 : idx_main_v11 (idx_main_v12 (idx_main_v13 (ix4 b h n k))) = ix3 b n h := by funext a; match a with | ⟨0, _⟩ => rfl | ⟨1, _⟩ => rfl | ⟨2, _⟩ => rfl
  have e5 : idx_main_v15 (idx_main_v16 (idx_main_v17 (ix4 b h n k))) = ix3 b k h := by funext a; match a with | ⟨0, _⟩ => rfl | ⟨1, _⟩ => rfl | ⟨2, _⟩ => rfl
  simp only [e2, e3, e4, e5, ref_query, ref_key, ref_gate]
  show (if decide (k.val ≤ n.val) = true then _ else Ideal.ofBits .f32 0xFF800000#32) = _
  rw [neg_inf]
  unfold score
  simp only [decide_eq_true_eq]
  rfl

theorem ref_top : val_main_v29 (F := Ideal) x0 x1 x2 (ix3 b h n) = top 2048 n.val (logits x0 x1 x2 b.val h.val n.val) := by
  rw [val_main_v29_apply, val_main_v28_apply, val_main_cst_2_apply]
  have e : val_main_v27 (F := Ideal) x0 x1 x2 (ix3 b h n) = top 2048 n.val (logits x0 x1 x2 b.val h.val n.val) := by
    pointwise [val_main_v27, val_main_cst_1]
    simp only [neg_inf, ref_score]
    rfl
  rw [e]
  show max (Ideal.ofBits .f32 0xFF800000#32) _ = _
  rw [neg_inf]
  exact max_eq_right bot_le

theorem ref_exp : val_main_v33 (F := Ideal) x0 x1 x2 (ix4 b h n k)
    = Ideal.exp (score n.val (logits x0 x1 x2 b.val h.val n.val) k.val - top 2048 n.val (logits x0 x1 x2 b.val h.val n.val)) := by
  rw [val_main_v33_apply, val_main_v32_apply, val_main_v31_apply, val_main_v30_apply]
  have e : idx_main_v30 (idx_main_v31 (ix4 b h n k)) = ix3 b h n := by funext a; match a with | ⟨0, _⟩ => rfl | ⟨1, _⟩ => rfl | ⟨2, _⟩ => rfl
  rw [e, ref_top, ref_score]
  rfl

theorem ref_mass : val_main_v34 (F := Ideal) x0 x1 x2 (ix3 b h n) = mass 2048 n.val (logits x0 x1 x2 b.val h.val n.val) := by
  rw [val_main_v34_apply, val_main_cst_3_apply]
  have e : ∀ k, idx_main_v34 (ix3 b h n) k = ix4 b h n k := fun k => by funext a; match a with | ⟨0, _⟩ => rfl | ⟨1, _⟩ => rfl | ⟨2, _⟩ => rfl | ⟨3, _⟩ => rfl
  simp only [e, ref_exp]
  show Ideal.ofBits .f32 0x00000000#32 + _ = _
  rw [Ideal.ofBits_zero_f32, zero_add]
  rfl

theorem ref_weight : val_main_v37 (F := Ideal) x0 x1 x2 (ix4 b h n k) = weight 2048 n.val (logits x0 x1 x2 b.val h.val n.val) k.val := by
  rw [val_main_v37_apply, val_main_v36_apply, val_main_v35_apply]
  have e : idx_main_v35 (idx_main_v36 (ix4 b h n k)) = ix3 b h n := by funext a; match a with | ⟨0, _⟩ => rfl | ⟨1, _⟩ => rfl | ⟨2, _⟩ => rfl
  rw [e, ref_mass, ref_exp]
  rfl

/-- The reference's result is the attention over all the keys. -/
theorem ref_fox : val_main_v41 (F := Ideal) x0 x1 x2 = foxArray x0 x1 x2 := by
  funext i
  have h0 : (i 0).val < 16384 := (i 0).isLt
  have h1 : (i 1).val < 512 := (i 1).isLt
  rw [val_main_v41_apply, val_main_v40_apply, val_main_v39_apply, val_main_v38_apply]
  unfold foxArray foxAt attn
  refine Finset.sum_congr rfl fun k _ => ?_
  have e1 : lidx_main_v38 (idx_main_v39 (idx_main_v40 i)) k
      = ix4 (⟨(i 0).val / 2048, by omega⟩ : Fin 8) k (⟨(i 1).val / 128, by omega⟩ : Fin 4) (⟨(i 1).val % 128, by omega⟩ : Fin 128) := by
    funext a; apply Fin.ext
    match a with
    | ⟨0, _⟩ => show ((i 0).val * 512 + (i 1).val) / 1048576 = (i 0).val / 2048; omega
    | ⟨1, _⟩ => rfl
    | ⟨2, _⟩ => show ((i 0).val * 512 + (i 1).val) / 128 % 4 = (i 1).val / 128; omega
    | ⟨3, _⟩ => show ((i 0).val * 512 + (i 1).val) % 128 = (i 1).val % 128; omega
  have e2 : ridx_main_v38 (idx_main_v39 (idx_main_v40 i)) k
      = ix4 (⟨(i 0).val / 2048, by omega⟩ : Fin 8) (⟨(i 1).val / 128, by omega⟩ : Fin 4) (⟨(i 0).val % 2048, by omega⟩ : Fin 2048) k := by
    funext a; apply Fin.ext
    match a with
    | ⟨0, _⟩ => show ((i 0).val * 512 + (i 1).val) / 1048576 = (i 0).val / 2048; omega
    | ⟨1, _⟩ => show ((i 0).val * 512 + (i 1).val) / 128 % 4 = (i 1).val / 128; omega
    | ⟨2, _⟩ => show ((i 0).val * 512 + (i 1).val) / 512 % 2048 = (i 0).val % 2048; omega
    | ⟨3, _⟩ => rfl
  rw [e1, e2, ref_value, ref_weight]
  exact mul_comm _ _

end Cert.Fox

end
-- ==== Proof.Fox.Finite.lean ====
module

public import proofs.«01_k».proof.Pre_finite
public import proofs.«01_k».proof.Proof.Fox.Array
public import Idealize.ShloMosaic.Lib.ReduceAll

/-! The precondition, read: with finite queries, keys and gate sums every visible logit is a real number. -/

@[expose] public section
set_option maxRecDepth 16384
noncomputable section

namespace Cert.Fox

open Idealize.ShloMosaic Cert.KernelIdeal

variable [Cert.Pre_finite.Facts] (x0 : FVec Ideal S16384x2560 .bf16) (x1 : FVec Ideal S16384x1024 .f32) (x2 : FVec Ideal S16384x128 .f32)

/-- An element that compares below plus infinity in absolute value is real. -/
theorem real_of_lt {x : EReal} (h : Ideal.cmp .olt (max x (-x)) (Ideal.ofBits .f32 0x7F800000#32) = 1#1) : Real' x := by
  rw [pos_inf] at h
  refine Real'.of_abs ?_
  unfold Ideal.cmp at h
  by_contra hn
  simp only [hn, decide_false] at h
  exact absurd h (by decide)

/-- The precondition, part by part: the queries, the keys and the gate sums are real. -/
theorem finite_parts (h : Cert.Pre_finite.fn (F := Ideal) x0 x1 x2 = fun _ => 1#1) :
    (∀ (r : Fin 16384) (c : Fin 512), Real' (x0 (ix2 r ⟨2048 + c.val, by omega⟩)))
    ∧ (∀ (r : Fin 16384) (g : Fin 4) (x : Fin 128), Real' (x1 (ix2 r ⟨g.val * 256 + x.val, by omega⟩)))
    ∧ (∀ (r : Fin 16384) (g : Fin 4), Real' (x2 (ix2 r ⟨32 + g.val, by omega⟩))) := by
  have h := congrFun h ix0
  dsimp only [Cert.Pre_finite.fn, Cert.Pre_finite.fn_part1] at h
  obtain ⟨h01, h2⟩ := IntOp.andi_eq_one.mp h
  obtain ⟨h0, h1⟩ := IntOp.andi_eq_one.mp h01
  refine ⟨fun r c => ?_, fun r g x => ?_, fun r g => ?_⟩
  · have := Host.reduce_andi_all _ _ _ _ _ h0 (ix2 r c)
    refine real_of_lt (this.symm.trans ?_).symm
    pointwise []
    rfl
  · have := Host.reduce_andi_all _ _ _ _ _ h1 (ix3 r g x)
    refine real_of_lt (this.symm.trans ?_).symm
    pointwise []
    rfl
  · have := Host.reduce_andi_all _ _ _ _ _ h2 (ix2 r g)
    refine real_of_lt (this.symm.trans ?_).symm
    pointwise []
    rfl

/-- Under the precondition every visible logit is a real number. -/
theorem real_logits (h : Cert.Pre_finite.fn (F := Ideal) x0 x1 x2 = fun _ => 1#1) : RealLogits x0 x1 x2 := by
  obtain ⟨hq, hk, hg⟩ := finite_parts x0 x1 x2 h
  have gate_real : ∀ row h, row < 16384 → h < 4 → Real' (gate x2 row h) := fun row h h1 h2 => by
    unfold gate
    rw [at2_of _ (by omega) (by omega)]
    exact hg ⟨row, h1⟩ ⟨h, h2⟩
  intro b h n k hb hh hn hkn
  refine logit_real (n := n) (fun x => ?_) (gate_real _ _ (by omega) hh) (fun k x hk' => ?_) (fun k hk' => gate_real _ _ (by omega) hh) k hkn
  · unfold query
    rw [at2_of _ (by omega) (by omega)]
    have := hq ⟨b * 2048 + n, by omega⟩ ⟨h * 128 + x.val, by omega⟩
    simpa only [add_assoc] using this
  · unfold key
    rw [at2_of _ (by omega) (by omega)]
    exact hk ⟨b * 2048 + k, by omega⟩ ⟨h, hh⟩ x

end Cert.Fox

end
-- ==== Proof.Fox.Claims.lean ====
module

public import proofs.«01_k».proof.Defs
public import proofs.«01_k».proof.Proof.Gen.Pre_finite
public import proofs.«01_k».proof.Proof.Fox.Reference
public import proofs.«01_k».proof.Proof.Fox.Finite
public import Idealize.ShloMosaic.Lib.Quiescent

/-! The claims about the attention call: the reference runs, and under the precondition kernel and reference agree. -/

@[expose] public section
noncomputable section

namespace Cert.Fox

open Idealize.ShloMosaic Idealize.SL.Sem

/-- The reference runs, leaves its arguments as they were and every counter at zero: it declares none. -/
theorem reference_frame : Cert.quiescent_ReferenceIdeal := fun m ρ _ =>
  (θ_run Cert.ReferenceIdeal.defs _ _).mono (fun _ h => ⟨fun c => (h c).2, sem_eq_zero_of_no_sems (by decide) _⟩) (Cert.ReferenceIdeal.Value.run m ρ)

/-- With finite queries, keys and gate sums, kernel and reference end with the same array: the attention over all the keys. -/
theorem algebraic : Cert.algebraic_KernelIdeal_ReferenceIdeal_pre_finite := fun m ρ m' ρ' hpre harg =>
  ⟨fun c => foxArray (argQ m c) (argKV m c) (argF m c), run m ρ fun c => real_logits _ _ _ (hpre c),
    (θ_run Cert.ReferenceIdeal.defs _ _).mono (fun _ h c => ⟨by
      obtain ⟨e0, e1, e2⟩ := harg c
      rw [(h c).1, Cert.ReferenceIdeal.Read.val_main_v41_eq, e0, e1, e2]
      exact ref_fox _ _ _, (h c).2⟩) (Cert.ReferenceIdeal.Value.run m' ρ')⟩

end Cert.Fox

end
-- ==== Proof.Gate.Block.lean ====
module

public import proofs.«01_k».proof.Proof.Gen.Kernel2Ideal.Value
public import Idealize.ShloMosaic.Lib.Pipeline.ValueKit
public import Idealize.ShloMosaic.Lib.Pipeline.ReadBack
public import Idealize.ShloMosaic.Lib.Pointwise

/-! The gated merge of the four branches, as one function of the arguments, and what a grid point reads and leaves.
Point `t` of the 128 works on the 1024 tokens of block `t / 8` and the 256 columns of block `t % 8`. -/

@[expose] public section
set_option maxRecDepth 16384
noncomputable section

namespace Cert.Gate

open Idealize.ShloMosaic Idealize.ShloMosaic.TcCoe Cert.Kernel2Ideal Cert.Kernel2Ideal.Gen Idealize.SL.Sem
open Idealize.ShloMosaic.Pipeline (Dat Cfg Window)

/-- One branch's part of an entry: the sigmoid of the gate's logit times the branch's projected output. -/
def part {K : ℕ} (x w : Fin 2048 → EReal) (b : EReal) (o p : Fin K → EReal) : EReal :=
  Ideal.div 1 (1 + Ideal.exp (-((∑ k, x k * w k) + b))) * ∑ k, o k * p k

/-- Column `c` of branch `n`'s gate among the 8192 columns of the gates' weights. -/
abbrev gcol (n : Fin 4) (c : Fin 2048) : Fin 8192 := ⟨n.val * 2048 + c.val, by omega⟩

section
variable (X : FVec Ideal S16384x2048 .f32) (O1 O2 : FVec Ideal S16384x512 .bf16) (O3 : FVec Ideal S16384x1024 .bf16) (O4 : FVec Ideal S16384x512 .bf16)
  (WG : FVec Ideal S2048x8192 .f32) (BG : FVec Ideal S8192 .f32) (P1 P2 : FVec Ideal S512x2048 .f32) (P3 : FVec Ideal S1024x2048 .f32) (P4 : FVec Ideal S512x2048 .f32)

/-- Branch `n`'s part of the entry of token `r` and column `c`, with the branch's outputs `O` and its projection `P`. -/
def branch {K : ℕ} (n : Fin 4) (O : Fin 16384 → Fin K → EReal) (P : Fin K → Fin 2048 → EReal) (r : Fin 16384) (c : Fin 2048) : EReal :=
  part (fun k => X (ix2 r k)) (fun k => WG (ix2 k (gcol n c))) (BG (ix1 (gcol n c))) (O r) (fun k => P k c)

/-- The merged entry of token `r` and column `c`. -/
def mergedAt (r : Fin 16384) (c : Fin 2048) : EReal :=
  branch X WG BG 0 (fun r k => O1 (ix2 r k)) (fun k c => P1 (ix2 k c)) r c + branch X WG BG 1 (fun r k => O2 (ix2 r k)) (fun k c => P2 (ix2 k c)) r c
    + branch X WG BG 2 (fun r k => O3 (ix2 r k)) (fun k c => P3 (ix2 k c)) r c + branch X WG BG 3 (fun r k => O4 (ix2 r k)) (fun k c => P4 (ix2 k c)) r c

/-- The merged array. -/
def merged : FVec Ideal S16384x2048 .bf16 := fun j => mergedAt X O1 O2 O3 O4 WG BG P1 P2 P3 P4 (j 0) (j 1)
end

variable (m : (ℓ : Loc nD τ sig) → Buf (Elt Ideal) ℓ) (c : Dev nD) (t : Fin cfg0.N)

theorem N_lt : t.val < 128 := t.isLt.trans_eq N_0

/-- The token and the column that row `r` and column `j` of the point's block are. -/
abbrev row (r : Fin 1024) : Fin 16384 := ⟨t.val / 8 * 1024 + r.val, by have := N_lt t; omega⟩
abbrev col (j : Fin 256) : Fin 2048 := ⟨t.val % 8 * 256 + j.val, by omega⟩

theorem idx_rows : ∀ t : Fin cfg0.N,
    (win0_0.index t 0 = t.val / 8 ∧ win0_0.index t 1 = 0)
    ∧ (win0_1.index t 0 = t.val / 8 ∧ win0_1.index t 1 = 0)
    ∧ (win0_2.index t 0 = t.val / 8 ∧ win0_2.index t 1 = 0)
    ∧ (win0_3.index t 0 = t.val / 8 ∧ win0_3.index t 1 = 0)
    ∧ (win0_4.index t 0 = t.val / 8 ∧ win0_4.index t 1 = 0) :=
  (by decide +kernel : ∀ t : Fin grid0.N, _)

theorem idx_gates : ∀ t : Fin cfg0.N,
    (win0_5.index t 0 = 0 ∧ win0_5.index t 1 = 0 + t.val % 8)
    ∧ (win0_6.index t 0 = 0 ∧ win0_6.index t 1 = 8 + t.val % 8)
    ∧ (win0_7.index t 0 = 0 ∧ win0_7.index t 1 = 16 + t.val % 8)
    ∧ (win0_8.index t 0 = 0 ∧ win0_8.index t 1 = 24 + t.val % 8) :=
  (by decide +kernel : ∀ t : Fin grid0.N, _)

theorem idx_biases : ∀ t : Fin cfg0.N,
    (win0_9.index t 0 = 0 ∧ win0_9.index t 1 = 0 + t.val % 8)
    ∧ (win0_10.index t 0 = 0 ∧ win0_10.index t 1 = 8 + t.val % 8)
    ∧ (win0_11.index t 0 = 0 ∧ win0_11.index t 1 = 16 + t.val % 8)
    ∧ (win0_12.index t 0 = 0 ∧ win0_12.index t 1 = 24 + t.val % 8) :=
  (by decide +kernel : ∀ t : Fin grid0.N, _)

theorem idx_projs : ∀ t : Fin cfg0.N,
    (win0_13.index t 0 = 0 ∧ win0_13.index t 1 = t.val % 8)
    ∧ (win0_14.index t 0 = 0 ∧ win0_14.index t 1 = t.val % 8)
    ∧ (win0_15.index t 0 = 0 ∧ win0_15.index t 1 = t.val % 8)
    ∧ (win0_16.index t 0 = 0 ∧ win0_16.index t 1 = t.val % 8)
    ∧ (win0_17.index t 0 = t.val / 8 ∧ win0_17.index t 1 = t.val % 8) :=
  (by decide +kernel : ∀ t : Fin grid0.N, _)

/-- The arguments as launched. -/
abbrev arg (b : Ref sig .tc) : Buf (Elt Ideal) ((c : Thread nD τ).loc b) := m ((c : Thread nD τ).loc b)

theorem read0 (r : Fin 1024) (k : Fin 2048) :
    (iblk m c 0 t : Vec Ideal S1024x2048 .bf16) (ix2 r k) = (m ((c : Thread nD τ).loc main_arg0) : FVec Ideal S16384x2048 .f32) (ix2 (row t r) k) := by
  obtain ⟨⟨e0, e1⟩, -, -, -, -⟩ := idx_rows t
  have := N_lt t
  blk_ext! [iblk, V, e0, e1]
theorem read1 (r : Fin 1024) (k : Fin 512) :
    (iblk m c 1 t : Vec Ideal S1024x512 .bf16) (ix2 r k) = (m ((c : Thread nD τ).loc main_arg1) : FVec Ideal S16384x512 .bf16) (ix2 (row t r) k) := by
  obtain ⟨-, ⟨e0, e1⟩, -, -, -⟩ := idx_rows t
  have := N_lt t
  blk_ext [iblk, V_main_arg1, e0, e1]
theorem read2 (r : Fin 1024) (k : Fin 512) :
    (iblk m c 2 t : Vec Ideal S1024x512 .bf16) (ix2 r k) = (m ((c : Thread nD τ).loc main_arg2) : FVec Ideal S16384x512 .bf16) (ix2 (row t r) k) := by
  obtain ⟨-, -, ⟨e0, e1⟩, -, -⟩ := idx_rows t
  have := N_lt t
  blk_ext [iblk, V_main_arg2, e0, e1]
theorem read3 (r : Fin 1024) (k : Fin 1024) :
    (iblk m c 3 t : Vec Ideal S1024x1024 .bf16) (ix2 r k) = (m ((c : Thread nD τ).loc main_arg3) : FVec Ideal S16384x1024 .bf16) (ix2 (row t r) k) := by
  obtain ⟨-, -, -, ⟨e0, e1⟩, -⟩ := idx_rows t
  have := N_lt t
  blk_ext [iblk, V_main_arg3, e0, e1]
theorem read4 (r : Fin 1024) (k : Fin 512) :
    (iblk m c 4 t : Vec Ideal S1024x512 .bf16) (ix2 r k) = (m ((c : Thread nD τ).loc main_arg4) : FVec Ideal S16384x512 .bf16) (ix2 (row t r) k) := by
  obtain ⟨-, -, -, -, ⟨e0, e1⟩⟩ := idx_rows t
  have := N_lt t
  blk_ext [iblk, V_main_arg4, e0, e1]
theorem read5 (k : Fin 2048) (j : Fin 256) :
    (iblk m c 5 t : Vec Ideal S2048x256 .bf16) (ix2 k j) = (m ((c : Thread nD τ).loc main_arg5) : FVec Ideal S2048x8192 .f32) (ix2 k (gcol 0 (col t j))) := by
  obtain ⟨⟨e0, e1⟩, -, -, -⟩ := idx_gates t
  have := N_lt t
  blk_ext! [iblk, V, e0, e1]
theorem read6 (k : Fin 2048) (j : Fin 256) :
    (iblk m c 6 t : Vec Ideal S2048x256 .bf16) (ix2 k j) = (m ((c : Thread nD τ).loc main_arg5) : FVec Ideal S2048x8192 .f32) (ix2 k (gcol 1 (col t j))) := by
  obtain ⟨-, ⟨e0, e1⟩, -, -⟩ := idx_gates t
  have := N_lt t
  blk_ext! [iblk, V, e0, e1]
theorem read7 (k : Fin 2048) (j : Fin 256) :
    (iblk m c 7 t : Vec Ideal S2048x256 .bf16) (ix2 k j) = (m ((c : Thread nD τ).loc main_arg5) : FVec Ideal S2048x8192 .f32) (ix2 k (gcol 2 (col t j))) := by
  obtain ⟨-, -, ⟨e0, e1⟩, -⟩ := idx_gates t
  have := N_lt t
  blk_ext! [iblk, V, e0, e1]
theorem read8 (k : Fin 2048) (j : Fin 256) :
    (iblk m c 8 t : Vec Ideal S2048x256 .bf16) (ix2 k j) = (m ((c : Thread nD τ).loc main_arg5) : FVec Ideal S2048x8192 .f32) (ix2 k (gcol 3 (col t j))) := by
  obtain ⟨-, -, -, ⟨e0, e1⟩⟩ := idx_gates t
  have := N_lt t
  blk_ext! [iblk, V, e0, e1]
theorem read9 (j : Fin 256) :
    (iblk m c 9 t : Vec Ideal S1x256 .f32) (ix2 0 j) = (m ((c : Thread nD τ).loc main_arg6) : FVec Ideal S8192 .f32) (ix1 (gcol 0 (col t j))) := by
  obtain ⟨⟨e0, e1⟩, -, -, -⟩ := idx_biases t
  have := N_lt t
  blk_ext! [iblk, V, e0, e1]
theorem read10 (j : Fin 256) :
    (iblk m c 10 t : Vec Ideal S1x256 .f32) (ix2 0 j) = (m ((c : Thread nD τ).loc main_arg6) : FVec Ideal S8192 .f32) (ix1 (gcol 1 (col t j))) := by
  obtain ⟨-, ⟨e0, e1⟩, -, -⟩ := idx_biases t
  have := N_lt t
  blk_ext! [iblk, V, e0, e1]
theorem read11 (j : Fin 256) :
    (iblk m c 11 t : Vec Ideal S1x256 .f32) (ix2 0 j) = (m ((c : Thread nD τ).loc main_arg6) : FVec Ideal S8192 .f32) (ix1 (gcol 2 (col t j))) := by
  obtain ⟨-, -, ⟨e0, e1⟩, -⟩ := idx_biases t
  have := N_lt t
  blk_ext! [iblk, V, e0, e1]
theorem read12 (j : Fin 256) :
    (iblk m c 12 t : Vec Ideal S1x256 .f32) (ix2 0 j) = (m ((c : Thread nD τ).loc main_arg6) : FVec Ideal S8192 .f32) (ix1 (gcol 3 (col t j))) := by
  obtain ⟨-, -, -, ⟨e0, e1⟩⟩ := idx_biases t
  have := N_lt t
  blk_ext! [iblk, V, e0, e1]
theorem read13 (k : Fin 512) (j : Fin 256) :
    (iblk m c 13 t : Vec Ideal S512x256 .bf16) (ix2 k j) = (m ((c : Thread nD τ).loc main_arg7) : FVec Ideal S512x2048 .f32) (ix2 k (col t j)) := by
  obtain ⟨⟨e0, e1⟩, -, -, -, -⟩ := idx_projs t
  have := N_lt t
  blk_ext! [iblk, V, e0, e1]
theorem read14 (k : Fin 512) (j : Fin 256) :
    (iblk m c 14 t : Vec Ideal S512x256 .bf16) (ix2 k j) = (m ((c : Thread nD τ).loc main_arg8) : FVec Ideal S512x2048 .f32) (ix2 k (col t j)) := by
  obtain ⟨-, ⟨e0, e1⟩, -, -, -⟩ := idx_projs t
  have := N_lt t
  blk_ext! [iblk, V, e0, e1]
theorem read15 (k : Fin 1024) (j : Fin 256) :
    (iblk m c 15 t : Vec Ideal S1024x256 .bf16) (ix2 k j) = (m ((c : Thread nD τ).loc main_arg9) : FVec Ideal S1024x2048 .f32) (ix2 k (col t j)) := by
  obtain ⟨-, -, ⟨e0, e1⟩, -, -⟩ := idx_projs t
  have := N_lt t
  blk_ext! [iblk, V, e0, e1]
theorem read16 (k : Fin 512) (j : Fin 256) :
    (iblk m c 16 t : Vec Ideal S512x256 .bf16) (ix2 k j) = (m ((c : Thread nD τ).loc main_arg10) : FVec Ideal S512x2048 .f32) (ix2 k (col t j)) := by
  obtain ⟨-, -, -, ⟨e0, e1⟩, -⟩ := idx_projs t
  have := N_lt t
  blk_ext! [iblk, V, e0, e1]

end Cert.Gate

end
-- ==== Proof.Gate.Array.lean ====
module

public import proofs.«01_k».proof.Proof.Gate.Block

/-! The body's value on any blocks, and the result array: every grid point leaves its block of the merged array. -/

@[expose] public section
set_option maxRecDepth 16384
noncomputable section

namespace Cert.Gate

open Idealize.ShloMosaic Idealize.ShloMosaic.TcCoe Cert.Kernel2Ideal Cert.Kernel2Ideal.Gen Idealize.SL.Sem
open Idealize.ShloMosaic.Pipeline (Dat Cfg Window)

section
variable (x0 : Vec Ideal S1024x2048 .bf16) (o1 o2 : Vec Ideal S1024x512 .bf16) (o3 : Vec Ideal S1024x1024 .bf16) (o4 : Vec Ideal S1024x512 .bf16)
  (w1 w2 w3 w4 : Vec Ideal S2048x256 .bf16) (b1 b2 b3 b4 : Vec Ideal S1x256 .f32) (p1 p2 : Vec Ideal S512x256 .bf16) (p3 : Vec Ideal S1024x256 .bf16)
  (p4 : Vec Ideal S512x256 .bf16) (r : Fin 1024) (j : Fin 256)

/-- A branch's part computed from blocks. -/
abbrev bpart {K : ℕ} (w : Vec Ideal S2048x256 .bf16) (b : Vec Ideal S1x256 .f32) (o p : Fin K → EReal) : EReal :=
  part (fun k => x0 (ix2 r k)) (fun k => w (ix2 k j)) (b (ix2 0 j)) o p

theorem first_part : k0_pay3 (F := Ideal) x0 w1 b1 o1 p1 (ix2 r j)
    = bpart x0 r j w1 b1 (fun k : Fin 512 => o1 (ix2 r k)) (fun k => p1 (ix2 k j)) := by
  pointwise [k0_pay3, k0_pay2]
  simp only [bpart, part, ← zero_sub]

theorem second_gate : k0_pay4 (F := Ideal) x0 w2 b2 (ix2 r j)
    = Ideal.div 1 (1 + Ideal.exp (-((∑ k : Fin 2048, x0 (ix2 r k) * w2 (ix2 k j)) + b2 (ix2 0 j)))) := by
  pointwise [k0_pay4, k0_pay2]
  simp only [← zero_sub]

theorem three_parts (a g : Vec Ideal S1024x256 .f32) : k0_pay5 (F := Ideal) (k0_pay2 x0) a g o2 p2 w3 b3 o3 p3 (ix2 r j)
    = a (ix2 r j) + g (ix2 r j) * (∑ k : Fin 512, o2 (ix2 r k) * p2 (ix2 k j))
      + bpart x0 r j w3 b3 (fun k : Fin 1024 => o3 (ix2 r k)) (fun k => p3 (ix2 k j)) := by
  pointwise [k0_pay5, k0_pay2]
  simp only [bpart, part, ← zero_sub]

theorem fourth_exp : k0_pay6 (F := Ideal) (k0_pay2 x0) w4 b4 (ix2 r j)
    = Ideal.exp (-((∑ k : Fin 2048, x0 (ix2 r k) * w4 (ix2 k j)) + b4 (ix2 0 j))) := by
  pointwise [k0_pay6, k0_pay2]
  simp only [← zero_sub]

theorem all_parts (a e : Vec Ideal S1024x256 .f32) : k0_pay1 (F := Ideal) a e o4 p4 (ix2 r j)
    = a (ix2 r j) + Ideal.div 1 (1 + e (ix2 r j)) * ∑ k : Fin 512, o4 (ix2 r k) * p4 (ix2 k j) := by
  pointwise [k0_pay1]

/-- What the body leaves at row `r` and column `j`: the sum of the four branches' parts. -/
theorem body_value : (out0_17 (F := Ideal) x0 o1 o2 o3 o4 w1 w2 w3 w4 b1 b2 b3 b4 p1 p2 p3 p4 : Vec Ideal S1024x256 .bf16) (ix2 r j)
    = bpart x0 r j w1 b1 (fun k : Fin 512 => o1 (ix2 r k)) (fun k => p1 (ix2 k j))
      + bpart x0 r j w2 b2 (fun k : Fin 512 => o2 (ix2 r k)) (fun k => p2 (ix2 k j))
      + bpart x0 r j w3 b3 (fun k : Fin 1024 => o3 (ix2 r k)) (fun k => p3 (ix2 k j))
      + bpart x0 r j w4 b4 (fun k : Fin 512 => o4 (ix2 r k)) (fun k => p4 (ix2 k j)) := by
  unfold_out out0_17
  frame_out
  rw [all_parts, three_parts, first_part, second_gate, fourth_exp]
  rfl
end

variable (m : (ℓ : Loc nD τ sig) → Buf (Elt Ideal) ℓ)

/-- The merged array of the arguments as launched. -/
abbrev mergedOf (c : Dev nD) : FVec Ideal S16384x2048 .bf16 :=
  merged (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- What point `t` leaves at row `r` and column `j` of its block. -/
theorem block (c : Dev nD) (t : Fin cfg0.N) (r : Fin 1024) (j : Fin 256) :
    ((dats m 0 c).after 17 t : Vec Ideal S1024x256 .bf16) (ix2 r j) = mergedOf m c (ix2 (row t r) (col t j)) := by
  rw [after0_17, body_value]
  simp only [bpart, read0, read1, read2, read3, read4, read5, read6, read7, read8, read9, read10, read11, read12, read13, read14, read15, read16]
  rfl

/-- The result array after the run is the merged array. -/
theorem final (c : Dev nD) : (dats m 0 c).arrAt 17 cfg0.N = mergedOf m c := by
  refine (dats m 0 c).arrAt_eq_of_covers 17 _ (by decide +kernel) fun t hf y => ?_
  obtain ⟨-, -, -, -, e0, e1⟩ := idx_projs t
  obtain ⟨r, j, rfl⟩ : ∃ (r : Fin 1024) (j : Fin 256), y = ix2 r j := ⟨y 0, y 1, by funext a; match a with | ⟨0, _⟩ => rfl | ⟨1, _⟩ => rfl⟩
  refine (block m c t r j).trans ?_
  blk_simp
  refine congrArg (mergedOf m c) (funext fun a => Fin.ext ?_)
  match a with
  | ⟨0, _⟩ => blk_simp [e0, e1]
  | ⟨1, _⟩ => blk_simp [e0, e1]

/-- The run: the result array is the merged array, the arguments are as launched. -/
theorem run (ρ : Dev nD → PrngReg) :
    θ_run defs (onTc (τ := τ) (main (F := Ideal))) ⟨m, fun _ => 0, ρ⟩ fun r => ∀ c : Dev nD,
      r.2.mem ((c : Thread nD τ).loc main_v7) = mergedOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨(h c).1.trans (final m c), (h c).2⟩) (Value.run_blocks m ρ)

end Cert.Gate

end
-- ==== Proof.Gate.Reference.lean ====
module

public import proofs.«01_k».proof.Proof.Gen.Reference2Ideal.Read
public import proofs.«01_k».proof.Proof.Gate.Array

/-! The reference, read at an entry: the sum of the four branches' parts. -/

@[expose] public section
set_option maxRecDepth 16384
noncomputable section

namespace Cert.Gate

open Idealize.ShloMosaic Cert.Reference2Ideal Cert.Reference2Ideal.Read

variable (x0 : FVec Ideal S16384x2048 .f32) (x1 x2 : FVec Ideal S16384x512 .bf16) (x3 : FVec Ideal S16384x1024 .bf16) (x4 : FVec Ideal S16384x512 .bf16)
  (x5 : FVec Ideal S2048x8192 .f32) (x6 : FVec Ideal S8192 .f32) (x7 x8 : FVec Ideal S512x2048 .f32) (x9 : FVec Ideal S1024x2048 .f32) (x10 : FVec Ideal S512x2048 .f32)
  (r : Fin 16384) (c : Fin 2048)

theorem ref_branch0 : val_main_v14 (F := Ideal) x0 x1 x5 x6 x7 (ix2 r c)
    = branch x0 x5 x6 0 (fun r k => x1 (ix2 r k)) (fun k c => x7 (ix2 k c)) r c := by
  rw [val_main_v14_apply, val_main_v11_apply, val_main_v10_apply, val_main_cst_0_apply, val_main_v9_apply, val_main_v8_apply, val_main_cst_apply,
    val_main_v7_apply, val_main_v6_apply, val_main_v5_apply, val_main_v4_apply, val_main_v3_apply, val_main_v2_apply, val_main_v1_apply, val_main_v13_apply]
  have e1 : ∀ k, lidx_main_v1 (ix2 r c) k = ix2 r k := fun k => by funext a; match a with | ⟨0, _⟩ => rfl | ⟨1, _⟩ => rfl
  have e2 : ∀ k, idx_main_v0 (ridx_main_v1 (ix2 r c) k) = ix2 k (gcol 0 c) := fun k => by
    funext a; apply Fin.ext; match a with | ⟨0, _⟩ => rfl | ⟨1, _⟩ => exact (by show c.val = 0 * 2048 + c.val; omega)
  have e3 : idx_main_v2 (idx_main_v3 (idx_main_v4 (ix2 r c))) = ix1 (gcol 0 c) := by
    funext a; apply Fin.ext; match a with | ⟨0, _⟩ => exact (by show c.val = 0 * 2048 + c.val; omega)
  have e4 : ∀ k, lidx_main_v13 (ix2 r c) k = ix2 r k := fun k => by funext a; match a with | ⟨0, _⟩ => rfl | ⟨1, _⟩ => rfl
  have e5 : ∀ k, ridx_main_v13 (ix2 r c) k = ix2 k c := fun k => by funext a; match a with | ⟨0, _⟩ => rfl | ⟨1, _⟩ => rfl
  unfold branch part
  simp only [val_main_v0_apply, val_main_v12_apply, e1, e2, e3, e4, e5]
  rw [← Ideal.ofBits_one_f32]
  rfl

theorem ref_branch1 : val_main_v31 (F := Ideal) x0 x2 x5 x6 x8 (ix2 r c)
    = branch x0 x5 x6 1 (fun r k => x2 (ix2 r k)) (fun k c => x8 (ix2 k c)) r c := by
  rw [val_main_v31_apply, val_main_v28_apply, val_main_v27_apply, val_main_cst_3_apply, val_main_v26_apply, val_main_v25_apply, val_main_cst_2_apply,
    val_main_v24_apply, val_main_v23_apply, val_main_v22_apply, val_main_v21_apply, val_main_v20_apply, val_main_v19_apply, val_main_v18_apply, val_main_v30_apply]
  have e1 : ∀ k, lidx_main_v18 (ix2 r c) k = ix2 r k := fun k => by funext a; match a with | ⟨0, _⟩ => rfl | ⟨1, _⟩ => rfl
  have e2 : ∀ k, idx_main_v17 (ridx_main_v18 (ix2 r c) k) = ix2 k (gcol 1 c) := fun k => by
    funext a; apply Fin.ext; match a with | ⟨0, _⟩ => rfl | ⟨1, _⟩ => exact (by show 2048 + c.val = 1 * 2048 + c.val; omega)
  have e3 : idx_main_v19 (idx_main_v20 (idx_main_v21 (ix2 r c))) = ix1 (gcol 1 c) := by
    funext a; apply Fin.ext; match a with | ⟨0, _⟩ => exact (by show 2048 + c.val = 1 * 2048 + c.val; omega)
  have e4 : ∀ k, lidx_main_v30 (ix2 r c) k = ix2 r k := fun k => by funext a; match a with | ⟨0, _⟩ => rfl | ⟨1, _⟩ => rfl
  have e5 : ∀ k, ridx_main_v30 (ix2 r c) k = ix2 k c := fun k => by funext a; match a with | ⟨0, _⟩ => rfl | ⟨1, _⟩ => rfl
  unfold branch part
  simp only [val_main_v17_apply, val_main_v29_apply, e1, e2, e3, e4, e5]
  rw [← Ideal.ofBits_one_f32]
  rfl

theorem ref_branch2 : val_main_v47 (F := Ideal) x0 x3 x5 x6 x9 (ix2 r c)
    = branch x0 x5 x6 2 (fun r k => x3 (ix2 r k)) (fun k c => x9 (ix2 k c)) r c := by
  rw [val_main_v47_apply, val_main_v44_apply, val_main_v43_apply, val_main_cst_5_apply, val_main_v42_apply, val_main_v41_apply, val_main_cst_4_apply,
    val_main_v40_apply, val_main_v39_apply, val_main_v38_apply, val_main_v37_apply, val_main_v36_apply, val_main_v35_apply, val_main_v34_apply, val_main_v46_apply]
  have e1 : ∀ k, lidx_main_v34 (ix2 r c) k = ix2 r k := fun k => by funext a; match a with | ⟨0, _⟩ => rfl | ⟨1, _⟩ => rfl
  have e2 : ∀ k, idx_main_v33 (ridx_main_v34 (ix2 r c) k) = ix2 k (gcol 2 c) := fun k => by
    funext a; apply Fin.ext; match a with | ⟨0, _⟩ => rfl | ⟨1, _⟩ => exact (by show 4096 + c.val = 2 * 2048 + c.val; omega)
  have e3 : idx_main_v35 (idx_main_v36 (idx_main_v37 (ix2 r c))) = ix1 (gcol 2 c) := by
    funext a; apply Fin.ext; match a with | ⟨0, _⟩ => exact (by show 4096 + c.val = 2 * 2048 + c.val; omega)
  have e4 : ∀ k, lidx_main_v46 (ix2 r c) k = ix2 r k := fun k => by funext a; match a with | ⟨0, _⟩ => rfl | ⟨1, _⟩ => rfl
  have e5 : ∀ k, ridx_main_v46 (ix2 r c) k = ix2 k c := fun k => by funext a; match a with | ⟨0, _⟩ => rfl | ⟨1, _⟩ => rfl
  unfold branch part
  simp only [val_main_v33_apply, val_main_v45_apply, e1, e2, e3, e4, e5]
  rw [← Ideal.ofBits_one_f32]
  rfl

theorem ref_branch3 : val_main_v63 (F := Ideal) x0 x4 x5 x6 x10 (ix2 r c)
    = branch x0 x5 x6 3 (fun r k => x4 (ix2 r k)) (fun k c => x10 (ix2 k c)) r c := by
  rw [val_main_v63_apply, val_main_v60_apply, val_main_v59_apply, val_main_cst_7_apply, val_main_v58_apply, val_main_v57_apply, val_main_cst_6_apply,
    val_main_v56_apply, val_main_v55_apply, val_main_v54_apply, val_main_v53_apply, val_main_v52_apply, val_main_v51_apply, val_main_v50_apply, val_main_v62_apply]
  have e1 : ∀ k, lidx_main_v50 (ix2 r c) k = ix2 r k := fun k => by funext a; match a with | ⟨0, _⟩ => rfl | ⟨1, _⟩ => rfl
  have e2 : ∀ k, idx_main_v49 (ridx_main_v50 (ix2 r c) k) = ix2 k (gcol 3 c) := fun k => by
    funext a; apply Fin.ext; match a with | ⟨0, _⟩ => rfl | ⟨1, _⟩ => exact (by show 6144 + c.val = 3 * 2048 + c.val; omega)
  have e3 : idx_main_v51 (idx_main_v52 (idx_main_v53 (ix2 r c))) = ix1 (gcol 3 c) := by
    funext a; apply Fin.ext; match a with | ⟨0, _⟩ => exact (by show 6144 + c.val = 3 * 2048 + c.val; omega)
  have e4 : ∀ k, lidx_main_v62 (ix2 r c) k = ix2 r k := fun k => by funext a; match a with | ⟨0, _⟩ => rfl | ⟨1, _⟩ => rfl
  have e5 : ∀ k, ridx_main_v62 (ix2 r c) k = ix2 k c := fun k => by funext a; match a with | ⟨0, _⟩ => rfl | ⟨1, _⟩ => rfl
  unfold branch part
  simp only [val_main_v49_apply, val_main_v61_apply, e1, e2, e3, e4, e5]
  rw [← Ideal.ofBits_one_f32]
  rfl

/-- The reference's result is the merged array. -/
theorem ref_merged : val_main_v65 (F := Ideal) x0 x1 x2 x3 x4 x5 x6 x7 x8 x9 x10 = merged x0 x1 x2 x3 x4 x5 x6 x7 x8 x9 x10 := by
  funext i
  obtain ⟨r, c, rfl⟩ : ∃ (r : Fin 16384) (c : Fin 2048), i = ix2 r c := ⟨i 0, i 1, by funext a; match a with | ⟨0, _⟩ => rfl | ⟨1, _⟩ => rfl⟩
  rw [val_main_v65_apply, val_main_v64_apply, val_main_v48_apply, val_main_v32_apply, val_main_v16_apply, val_main_v15_apply, val_main_cst_1_apply,
    ref_branch0, ref_branch1, ref_branch2, ref_branch3]
  show Ideal.ofBits .f32 0x00000000#32 + _ + _ + _ + _ = _
  rw [Ideal.ofBits_zero_f32, zero_add]
  rfl

end Cert.Gate

end
-- ==== Proof.Gate.Claims.lean ====
module

public import proofs.«01_k».proof.Defs
public import proofs.«01_k».proof.Proof.Gate.Reference
public import Idealize.ShloMosaic.Lib.Quiescent

/-! The claims about the gated merge: the reference runs, and kernel and reference agree on all arguments. -/

@[expose] public section
noncomputable section

namespace Cert.Gate

open Idealize.ShloMosaic Idealize.SL.Sem

/-- The reference runs, leaves its arguments as they were and every counter at zero: it declares none. -/
theorem reference_frame : Cert.quiescent_Reference2Ideal := fun m ρ _ =>
  (θ_run Cert.Reference2Ideal.defs _ _).mono (fun _ h => ⟨fun c => (h c).2, sem_eq_zero_of_no_sems (by decide) _⟩) (Cert.Reference2Ideal.Value.run m ρ)

/-- Kernel and reference end with the same array: the sum over the branches of the sigmoid gate times the projected output. -/
theorem algebraic : Cert.algebraic_Kernel2Ideal_Reference2Ideal := fun m ρ m' ρ' _ harg =>
  ⟨fun c => mergedOf m c, run m ρ,
    (θ_run Cert.Reference2Ideal.defs _ _).mono (fun _ h c => ⟨by
      obtain ⟨e0, e1, e2, e3, e4, e5, e6, e7, e8, e9, e10⟩ := harg c
      rw [(h c).1, Cert.Reference2Ideal.Read.val_main_v65_eq, e0, e1, e2, e3, e4, e5, e6, e7, e8, e9, e10]
      exact ref_merged _ _ _ _ _ _ _ _ _ _ _, (h c).2⟩) (Cert.Reference2Ideal.Value.run m' ρ')⟩

end Cert.Gate

end
-- ==== Proof.Expert.Kit.lean ====
/- The second product of the experts (`Cert.Kernel3Ideal`), the launch: the buffers when the
   pipeline is entered, the two prefetched tables, the windows' blocks, and the frame's reading of
   a finished run. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel3Ideal.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the pipeline -/

/-- The host operations before the pipeline, in order. -/
abbrev host : List (HloOp τ sig (Elt F)) :=
  List.flatten [hostOps0, hostOps0_1, hostOps0_2, hostOps0_3, hostOps0_4]

/-- A core's buffers when the pipeline is entered. -/
abbrev V (c : Dev nD) (b : Ref sig .tc) : Buf (Elt F) ((c : Thread nD τ).loc b) :=
  StableHlo.after host (fun b => m (c, b)) b

/-- No line of host operations takes a fresh buffer. -/
theorem lines_fresh : [hostOps0, hostOps0_1, hostOps0_2, hostOps0_3, hostOps0_4].Forall
    fun l : List (HloOp τ sig (Elt F)) => l.Forall fun op => op.fresh = ∅ := by
  simp only [List.Forall]; repeat' constructor

set_option maxHeartbeats 800000 in
/-- @main is its lines of host operations and then the pipeline. -/
theorem hmain (𝒱₀ : Variants) : Pipeline.HMainP (Ix := Unit) (Name := ℕ) (U := UR sig nD τ)
    (Lvl := ℕ) pcfgs 0 defs₀ 𝒱₀ m (main (F := F)) (V m) :=
  Pipeline.hmainP_prefixes pcfgs 0 defs₀ 𝒱₀ m main
    [hostOps0, hostOps0_1, hostOps0_2, hostOps0_3, hostOps0_4]
    (by simp only [List.Forall]
        exact ⟨hostOps0_sub, hostOps0_1_sub, hostOps0_2_sub, hostOps0_3_sub, hostOps0_4_sub⟩)
    lines_fresh main_chain

/-- The four arguments. -/
abbrev args : List (Ref sig .tc) := [main_arg0, main_arg1, main_arg2, main_arg3]

/-- No host operation writes an argument. -/
theorem V_arg (c : Dev nD) : ∀ b ∈ args, V m c b = m ((c : Thread nD τ).loc b) := by
  intro b hb
  refine StableHlo.after_of_forall_not_mem (b := Proc.devRef .tc b) _ _
    (List.forall_iff_forall_mem.mp ?_)
  simp only [args, List.mem_cons, List.not_mem_nil, or_false] at hb
  simp only [host, hostOps0, hostOps0_1, hostOps0_2, hostOps0_3, hostOps0_4, List.flatten_cons,
    List.flatten_nil, List.append_nil, List.cons_append, List.nil_append, List.Forall,
    StableHlo.nullary_writes, StableHlo.unary_writes, StableHlo.binary_writes,
    StableHlo.ternary_writes, StableHlo.quaternary_writes, StableHlo.reshape_writes,
    StableHlo.binaryIndexed_writes, Finset.mem_singleton]
  rcases hb with rfl | rfl | rfl | rfl <;> repeat' apply And.intro
  all_goals exact StableHlo.devRef_ne_of_ne (by decide)

/-! ## The prefetched tables -/

/-- The tables' contents when the pipeline is entered. -/
def tbl : pre0.Contents (Elt F) := fun j => V m (0 : Dev nD) (pre0.ref j)

/-- Every device's tables hold them: there is one device. -/
theorem V_pre (c : Dev nD) (j : Fin 2) : V m c (pre0.ref j) = tbl m j := by
  obtain rfl : c = 0 := Subsingleton.elim _ _
  rfl

/-- The windows that read a table stay inside their arrays. -/
abbrev Ok : Prop := ok0 (F := F) (tbl m)

/-- The tables' contents as admissible contents. -/
abbrev adm (hO : Ok m) : (pcfg0 (F := F)).Adm := ⟨tbl m, hO⟩

/-- The pipeline at them. -/
abbrev cfgM (hO : Ok m) : Pipeline.Cfg sig Λ₀ := cfg0 (adm m hO)

/-- The table of the blocks' experts, and the table of the blocks' flags. -/
abbrev tbE : Memref sig .tc .smem S161 .i32 := Memref.whole main_v19
abbrev tbF : Memref sig .tc .smem S161 .i32 := Memref.whole main_v33

/-- What a table holds, on a core. -/
abbrev TbBuf (c : Dev nD) {S : Shape} {e : EltTy} (M : Memref sig .tc .smem S e) : Type :=
  Buf (Elt F) (M.view.loc (c : Thread nD τ))

/-- A table held for reading at `f`. -/
abbrev tbPt (c : Dev nD) {S : Shape} {e : EltTy} (M : Memref sig .tc .smem S e)
    (f : TbBuf (F := F) c M) : sProp 𝕄 :=
  M.view.loc (c : Thread nD τ) ↦{fullShare.right} f

/-- What the pipeline hands the body of the tables, table by table. -/
theorem PhiT_eq (c : Dev nD) : (Pipeline.ΦT pre0 (tbl m) c : sProp 𝕄)
    = iprop(tbPt c tbE (tbl m 0) ∗ tbPt c tbF (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the pipeline finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The rows' window holds its block at every point, fetched there or not. -/
theorem before_0 (hO : Ok m) {c : Dev nD} (dat : Dat τ (Elt F) Unit ℕ (UR sig nD τ) ℕ (cfgM m hO) c)
    (hA : dat.A 0 = V m c (Pipeline.arrRef spec0 0)) (ha : ∀ t, dat.after 0 t = iblk m hO c 0 t)
    (t : Fin (cfgM m hO).N) (d) : dat.before 0 t d = iblk m hO c 0 t :=
  (dat.before_in_eq_fetched 0 rfl (fun _ => rfl) (fun _ _ _ => rfl)
    (fun t => by rw [ha]; unfold Dat.blockOf iblk; rw [hA]; try rfl) t d).trans
    (by unfold Dat.fetched Dat.blockOf iblk; rw [hA]; try rfl)

/-- The weights' window likewise. -/
theorem before_1 (hO : Ok m) {c : Dev nD} (dat : Dat τ (Elt F) Unit ℕ (UR sig nD τ) ℕ (cfgM m hO) c)
    (hA : dat.A 1 = V m c (Pipeline.arrRef spec0 1)) (ha : ∀ t, dat.after 1 t = iblk m hO c 1 t)
    (t : Fin (cfgM m hO).N) (d) : dat.before 1 t d = iblk m hO c 1 t :=
  (dat.before_in_eq_fetched 1 rfl (fun _ => rfl) (fun _ _ _ => rfl)
    (fun t => by rw [ha]; unfold Dat.blockOf iblk; rw [hA]; try rfl) t d).trans
    (by unfold Dat.fetched Dat.blockOf iblk; rw [hA]; try rfl)

/-- The biases' window likewise. -/
theorem before_2 (hO : Ok m) {c : Dev nD} (dat : Dat τ (Elt F) Unit ℕ (UR sig nD τ) ℕ (cfgM m hO) c)
    (hA : dat.A 2 = V m c (Pipeline.arrRef spec0 2)) (ha : ∀ t, dat.after 2 t = iblk m hO c 2 t)
    (t : Fin (cfgM m hO).N) (d) : dat.before 2 t d = iblk m hO c 2 t :=
  (dat.before_in_eq_fetched 2 rfl (fun _ => rfl) (fun _ _ _ => rfl)
    (fun t => by rw [ha]; unfold Dat.blockOf iblk; rw [hA]; try rfl) t d).trans
    (by unfold Dat.fetched Dat.blockOf iblk; rw [hA]; try rfl)

/-! ## The staging buffers as the body is handed them -/

abbrev ms_0 (hO : Ok m) (t : Fin (cfgM m hO).N) : Memref sig .tc .vmem S512x2048 .bf16 :=
  spec0_0.stage ((cfgM m hO).slots t 0)
abbrev ms_1 (hO : Ok m) (t : Fin (cfgM m hO).N) : Memref sig .tc .vmem S1x1x2048x1024 .f32 :=
  spec0_1.stage ((cfgM m hO).slots t 1)
abbrev ms_2 (hO : Ok m) (t : Fin (cfgM m hO).N) : Memref sig .tc .vmem S1x1x1x1024 .f32 :=
  spec0_2.stage ((cfgM m hO).slots t 2)
abbrev ms_3 (hO : Ok m) (t : Fin (cfgM m hO).N) : Memref sig .tc .vmem S512x1024 .f32 :=
  spec0_3.stage ((cfgM m hO).slots t 3)

/-- The scratch: the current expert's weights, rounded. -/
abbrev scM : Memref sig .tc .vmem S2048x1024 .bf16 := Memref.whole cc0_scratch0

/-- The pipeline's own invariant: the scratch at some contents, and the generator register. -/
theorem PhiA_eq (c : Dev nD) : (Pipeline.ΦA spec0 c : sProp 𝕄)
    = iprop(iprop((∃ d, owns (c : Thread nD τ) scM fullShare d)) ∗ (∃ r, prngReg c r)) := by
  unfold Pipeline.ΦA; rw [scopedRest0_eq]; simp only [scM, owns_whole]; try rfl

/-- The body at point `t`, on the staging buffers of that point. -/
def bodyAt (a : (pcfg0 (F := F)).Adm) (t : Fin (cfg0 a).N) :
    Prog (TpuEff nD τ sig (Elt F) Λ₀ .tc) PUnit :=
  cc0_moe_gmm2 (grid0.coords t) tbE (Memref.isWhole_whole _) tbF (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    scM (Memref.isWhole_whole _)

/-- The pipeline's body at point `t` is that. -/
theorem defs₀_row (hO : Ok m) (t : Fin (cfgM m hO).N) :
    defs₀ (F := F) .tc (cfgM m hO).body ((cfgM m hO).bodyArgs t ((cfgM m hO).slots t))
      = bodyAt (adm m hO) t := by
  unfold defs₀; rw [Defs.onTc_tc]; rfl

end Cert.Kernel3Ideal.Expert

end
-- ==== Proof.Expert.Tables.lean ====
/- The second product of the experts (`Cert.Kernel3Ideal`), the two tables as functions of the
   counts of rows per expert. -/
module

public import proofs.«01_k».proof.Proof.Expert.Kit
public import proofs.«01_k».proof.Proof.Gen.Reference3Ideal.Read

@[expose] public section

set_option maxRecDepth 16384

noncomputable section

namespace Cert.Kernel3Ideal.Expert

open Idealize.ShloMosaic Idealize.ShloMosaic.TcCoe Idealize.ShloMosaic.Tactic
open Cert.Kernel3Ideal Cert.Kernel3Ideal.Gen

variable {F : FTy → Type} [FloatOps F]
variable (m : (ℓ : Loc nD τ sig) → Buf (Elt F) ℓ)

/-- Each block's expert, of the counts. -/
abbrev beOf (x0 : (⟨S32, .i32⟩ : BufTy).Contents (Elt F)) : IVec S161 32 :=
  Cert.Reference3Ideal.Read.val_main_v19 (F := F) x0

/-- Whether a block begins before the last expert's rows end, of the counts. -/
abbrev liveOf (x0 : (⟨S32, .i32⟩ : BufTy).Contents (Elt F)) : IVec S161 1 :=
  Cert.Reference3Ideal.Read.val_main_v47 (F := F) x0

/-- The flags of the blocks, of their experts and of whether they are live. -/
def flagsOf (be : IVec S161 32) (live : IVec S161 1) : IVec S161 32 :=
  addi (extui 32 live natLt_1_32)
    (muli (broadcastInDim S161 ![] bcast_S_S161 (constantI S_ 32 2#32))
      (concatenate S161 0 [⟨S1, broadcastInDim S1 ![] bcast_S_S1 (constantI S_ 32 1#32)⟩,
        ⟨S160, extui 32 (cmpi .ne (extractStridedSlice S160 ![1] be slices_S161_S160_1)
          (extractStridedSlice S160 ![0] be slices_S161_S160_0)) natLt_1_32⟩] concatenates_S1_S160_S161_d0))

/-- The first table holds each block's expert. -/
theorem V_be (c : Dev nD) : V m c main_v19 = beOf (m ((c : Thread nD τ).loc main_arg0)) := by
  chain_rfl

/-- The second table holds the blocks' flags. -/
theorem V_flags (c : Dev nD) : V m c main_v33
    = flagsOf (beOf (m ((c : Thread nD τ).loc main_arg0)))
        (liveOf (m ((c : Thread nD τ).loc main_arg0))) := by
  chain_rfl

/-- The biases as the pipeline stages them: the argument with an axis of one added. -/
theorem V_b2 (c : Dev nD) : V m c main_v34
    = shapeCast S2x32x1x2048 (m ((c : Thread nD τ).loc main_arg3) :
        (⟨S2x32x2048, .f32⟩ : BufTy).Contents (Elt F)) shapeCasts_S2x32x2048_S2x32x1x2048 := by
  chain_rfl

end Cert.Kernel3Ideal.Expert

end
-- ==== Proof.Expert.Run.lean ====
/- The second product of the experts (`Cert.Kernel3Ideal`), the body: what one point's body leaves
   in the scratch and in the output block, in terms of the flags' word it reads. -/
module

public import proofs.«01_k».proof.Proof.Expert.Kit
public import Idealize.ShloMosaic.Lib.VecWindow

@[expose] public section

set_option maxRecDepth 16384

noncomputable section

namespace Cert.Kernel3Ideal.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

/-- The condition of the first branch, on the flags' word: a new expert begins. -/
abbrev condNew (v1 : BitVec 32) : Prop :=
  Scalar.cmpi .ne (Scalar.extui (Scalar.cmpi .ne (Scalar.andi v1 2#32) 0#32) : BitVec 32) 0#32 = 1#1

/-- The flags' word the body reads at coordinates `i`. -/
abbrev flagAt (c : Dev nD) (xt1 : TbBuf (F := F) c tbF) (i : grid0.Coords) : BitVec 32 :=
  tbF.view.readAt (Elt F) (Rect.unit (s := S161) (k0_off1 i) S1.size (k0_off1_inb i)).toLoadRect xt1
    (Shape.Idx.first (numel1_S1.symm ▸ Nat.one_pos))

/-- What the body leaves in the scratch. -/
def scrOut (v1 : BitVec 32) (x1 : Vec F S1x1x2048x1024 .f32) (xs : Vec F S2048x1024 .bf16) :
    Vec F S2048x1024 .bf16 :=
  if condNew v1 then k0_pay1 x1 else xs

/-- What the body leaves in the output block. -/
def blkOut (v1 : BitVec 32) (x0 : Vec F S512x2048 .bf16) (w : Vec F S2048x1024 .bf16)
    (x2 : Vec F S1x1x1x1024 .f32) : Vec F S512x1024 .f32 :=
  if k0_cond2 v1 = 1#1 then k0_pay2 x0 w x2 else k0_pay3

/-- A whole buffer loaded whole reads what it holds. -/
theorem load_whole {κ : Kind} {sp : Space} {s : Shape} {e : EltTy} {M : Memref sig κ sp s e}
    (h : M.IsWhole) (X : s.Idx → Elt F e) {off : Fin s.rank → ℕ}
    (inb : ∀ a, off a + s.size a ≤ s.size a) :
    M.view.readAt (Elt F) (Rect.unit off s.size inb).toLoadRect (h.unread X) = X :=
  (View.readAt_full _ _ inb).trans (h.read_unread X)

set_option maxHeartbeats 400000 in
/-- The body on whole buffers: the inputs stay, the scratch and the output block are as above. -/
theorem body_run (c : Dev nD) (i : grid0.Coords)
    (arg4 : Memref sig .tc .vmem S512x2048 .bf16) (harg4 : arg4.IsWhole)
    (arg5 : Memref sig .tc .vmem S1x1x2048x1024 .f32) (harg5 : arg5.IsWhole)
    (arg6 : Memref sig .tc .vmem S1x1x1x1024 .f32) (harg6 : arg6.IsWhole)
    (arg7 : Memref sig .tc .vmem S512x1024 .f32) (harg7 : arg7.IsWhole)
    (arg8 : Memref sig .tc .vmem S2048x1024 .bf16) (harg8 : arg8.IsWhole)
    (x0 : Vec F S512x2048 .bf16) (x1 : Vec F S1x1x2048x1024 .f32) (x2 : Vec F S1x1x1x1024 .f32)
    (xs : Vec F S2048x1024 .bf16)
    (xt0 : TbBuf (F := F) c tbE) (xt1 : TbBuf (F := F) c tbF)
    (h32 : k0_cond3 (flagAt c xt1 i) = 1#1 ↔ ¬k0_cond2 (flagAt c xt1 i) = 1#1)
    (E : Set ℕ) (K : PUnit → sProp 𝕄) :
    iprop(owns (c : Thread nD τ) arg4 fullShare x0 ∗ owns (c : Thread nD τ) arg5 fullShare x1
        ∗ owns (c : Thread nD τ) arg6 fullShare x2 ∗ (∃ d, owns (c : Thread nD τ) arg7 fullShare d)
        ∗ owns (c : Thread nD τ) arg8 fullShare xs ∗ tbPt c tbE xt0 ∗ tbPt c tbF xt1
        ∗ (iprop(owns (c : Thread nD τ) arg4 fullShare x0 ∗ owns (c : Thread nD τ) arg5 fullShare x1
            ∗ owns (c : Thread nD τ) arg6 fullShare x2
            ∗ owns (c : Thread nD τ) arg7 fullShare
                (blkOut (flagAt c xt1 i) x0 (scrOut (flagAt c xt1 i) x1 xs) x2)
            ∗ owns (c : Thread nD τ) arg8 fullShare (scrOut (flagAt c xt1 i) x1 xs)
            ∗ tbPt c tbE xt0 ∗ tbPt c tbF xt1) -∗ K ⟨⟩))
      ⊢ wp frame (wpE (defs₀ (F := F)) Variants.none c none) E
          (cc0_moe_gmm2 i tbE (Memref.isWhole_whole _) tbF (Memref.isWhole_whole _) arg4 harg4
            arg5 harg5 arg6 harg6 arg7 harg7 arg8 harg8) K := by
  have hb : (k0_cond2 (flagAt c xt1 i) = 1#1 ∧ ¬k0_cond3 (flagAt c xt1 i) = 1#1)
      ∨ (¬k0_cond2 (flagAt c xt1 i) = 1#1 ∧ k0_cond3 (flagAt c xt1 i) = 1#1) := by
    by_cases h : k0_cond2 (flagAt c xt1 i) = 1#1
    · exact Or.inl ⟨h, fun h' => h32.mp h' h⟩
    · exact Or.inr ⟨h, h32.mpr h⟩
  rcases hb with ⟨h2, h3⟩ | ⟨h2, h3⟩ <;> by_cases h1 : condNew (flagAt c xt1 i) <;>
  · simp only [scrOut, blkOut, h2, if_true, if_false]
    first
      | rw [if_pos (show condNew (flagAt c xt1 i) from h1)]
      | rw [if_neg (show ¬condNew (flagAt c xt1 i) from h1)]
    simp only [cc0_moe_gmm2_eq_skeleton]; unfold cc0_moe_gmm2_skel
    unfold owns
    iintro ⟨⟨%f0, %hf0, H0⟩, ⟨%f1, %hf1, H1⟩, ⟨%f2, %hf2, H2⟩, ⟨%d3, %f3, -, H3⟩, ⟨%fs, %hfs, HS⟩, HT0, HT1, Hk⟩
    obtain rfl := harg4.eq_unread hf0; obtain rfl := harg5.eq_unread hf1
    obtain rfl := harg6.eq_unread hf2; obtain rfl := harg8.eq_unread hfs
    sl_exec (disch := first | sl_exact h1 | sl_exact h2 | sl_exact h3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; swap; · iexact H3
      ipureintro
      rw [View.read_writes_full]
      first
        | done
        | rw [load_whole harg4, load_whole harg8, load_whole harg6]
        | (rw [load_whole harg4, load_whole harg6]; unfold body_run.sl.v15 body_run.sl.HS_1
           rw [View.readCov_full, load_whole harg5])
    isplitl [HS]
    · iexists _; isplitr; swap; · iexact HS
      ipureintro
      first
        | rw [harg8.read_unread]
        | rw [View.read_writes_full, load_whole harg5]
        | (unfold body_run.sl.HS_1; rw [View.read_writes_full, load_whole harg5])
    isplitl [HT0]; · iexact HT0
    iexact HT1

end Cert.Kernel3Ideal.Expert

end
-- ==== Proof.Expert.Routing.lean ====
/- The routing tables of the experts' products, entry by entry: each block's expert is one of the
   32, and the two bits of a block's flags. -/
module

public import proofs.«01_k».proof.Proof.Expert.Tables
public import proofs.«01_k».proof.Proof.Expert.Run
public import Idealize.ShloMosaic.Lib.Routing.Ops
public import Idealize.ShloMosaic.Lib.Pointwise

@[expose] public section

set_option maxRecDepth 16384

noncomputable section

namespace Cert.Kernel3Ideal.Expert

open Idealize.ShloMosaic Idealize.ShloMosaic.TcCoe Idealize.ShloMosaic.Tactic
open Cert.Kernel3Ideal Cert.Kernel3Ideal.Gen

variable {F : FTy → Type} [FloatOps F]

/-- The smaller of a small count and 31 is at most 31. -/
theorem min_le : ∀ n : Fin 33, (IntOp.minsi (BitVec.ofNat 32 n.val) 31#32).toNat ≤ 31 := by decide

/-- The smaller of a sum of 32 bits and 31 is at most 31. -/
theorem count_le (msk : IVec (Routing.shape2 161 32) 1) (hw : 1 < 32)
    (h : (Routing.shape2 161 32).ReducesTo [1] (Routing.shape1 161)) (hu : 0 < Routing.shape0.numel)
    (i : Fin 161) :
    (IntOp.minsi (Host.reduce IntOp.addi (extui 32 msk hw) (constantI Routing.shape0 32 0#32) h hu
      (ValueIdx.ix1 i)) 31#32).toNat ≤ 31 := by
  generalize hx : Host.reduce IntOp.addi (extui 32 msk hw) (constantI Routing.shape0 32 0#32) h hu
    (ValueIdx.ix1 i) = x
  have e : x.toNat ≤ 32 := by
    rw [← hx]
    refine (StableHlo.Predicate.toNat_reduce_count_cols (by norm_num) msk hw h hu _).trans_le ?_
    exact (Finset.card_le_univ _).trans_eq (Fintype.card_fin 32)
  rw [← (BitVec.ofNat_toNat 32 x).trans x.setWidth_eq]
  exact min_le ⟨x.toNat, Nat.lt_succ_of_le e⟩

/-- Each block's expert is one of the 32. -/
theorem be_le (x0 : (⟨S32, .i32⟩ : BufTy).Contents (Elt F)) (i : Fin 161) :
    (beOf x0 (ix1 i)).toNat ≤ 31 :=
  count_le (Cert.Reference3Ideal.Read.val_main_v15 (F := F) x0) _ _ _ i

/-- Whether a new expert begins at block `i`: the first block, or an expert other than the block's
    before. -/
def newBit (be : IVec S161 32) (i : Fin 161) : BitVec 1 :=
  if i.val < 1 then 1#1
  else IntOp.cmpi .ne (be (ix1 i)) (be (ix1 ⟨i.val - 1, by omega⟩))

/-- A block's flags: the lower bit whether it is live, the upper bit whether a new expert begins. -/
theorem flagsOf_apply (be : IVec S161 32) (live : IVec S161 1) (i : Fin 161) :
    flagsOf be live (ix1 i)
      = IntOp.addi ((live (ix1 i)).setWidth 32) (IntOp.muli 2#32 ((newBit be i).setWidth 32)) := by
  pointwise [flagsOf]
  unfold newBit
  by_cases h : i.val < 1
  · simp only [h, if_true, dif_pos]; rfl
  · simp only [h, if_false, dif_neg, not_false_eq_true]
    have e : (⟨1 + (i.val - 1), by omega⟩ : Fin 161) = i := Fin.ext (by show 1 + (i.val - 1) = i.val; omega)
    rw [e]

/-- The conditions of the body's branches, on a word made of two bits. -/
theorem conds (l b : BitVec 1) :
    (Scalar.cmpi .ne (Scalar.extui (Scalar.cmpi .ne (Scalar.andi
        (IntOp.addi (l.setWidth 32) (IntOp.muli 2#32 (b.setWidth 32))) 2#32) 0#32) : BitVec 32) 0#32
          = 1#1 ↔ b = 1#1)
      ∧ (k0_cond2 (IntOp.addi (l.setWidth 32) (IntOp.muli 2#32 (b.setWidth 32))) = 1#1 ↔ l = 1#1)
      ∧ (k0_cond3 (IntOp.addi (l.setWidth 32) (IntOp.muli 2#32 (b.setWidth 32))) = 1#1
          ↔ ¬l = 1#1) := by
  revert l b; decide

/-- Unequal words compare as such. -/
theorem cmpi_ne_iff (a b : BitVec 32) : IntOp.cmpi .ne a b = 1#1 ↔ a ≠ b := by
  unfold IntOp.cmpi
  by_cases h : a = b
  · subst h; simp
  · have e : (a != b) = true := by simpa using h
    simp [e, h]

/-- Where no new expert begins the block before has the same expert. -/
theorem newBit_zero (be : IVec S161 32) (i : Fin 161) (h : ¬newBit be i = 1#1) :
    ∃ hi : 1 ≤ i.val, be (ix1 ⟨i.val - 1, by omega⟩) = be (ix1 i) := by
  unfold newBit at h
  by_cases h0 : i.val < 1
  · exact absurd (if_pos h0) h
  · rw [if_neg h0, cmpi_ne_iff, not_not] at h
    exact ⟨by omega, h.symm⟩

/-! ## The tables as the pipeline reads them -/

variable (m : (ℓ : Loc nD τ sig) → Buf (Elt F) ℓ)

/-- The counts, as launched. -/
abbrev cnt : (⟨S32, .i32⟩ : BufTy).Contents (Elt F) := m (((0 : Dev nD) : Thread nD τ).loc main_arg0)

theorem tbl_be : tbl m 0 = beOf (cnt m) := V_be m 0
theorem tbl_flags : tbl m 1 = flagsOf (beOf (cnt m)) (liveOf (cnt m)) := V_flags m 0

/-- The entry of a table that the body and the windows read at coordinates `i`. -/
theorem off1_idx (i : grid0.Coords) (y : Shape.Idx (Rect.unit (s := S161) (k0_off1 i) S1.size (k0_off1_inb i)).shape) :
    (Rect.unit (s := S161) (k0_off1 i) S1.size (k0_off1_inb i)).toLoadRect.idx y
      = ix1 (⟨(i 1).val, (i 1).isLt⟩ : Fin 161) := by
  funext a
  match a with
  | ⟨0, _⟩ =>
    have hy : (y 0).val < 1 := (y 0).isLt
    have hi : (i 1).val < 161 := (i 1).isLt
    apply Fin.ext
    show (BitVec.ofNat 32 (i 1).val).toNat + 1 * (y 0).val = (i 1).val
    rw [BitVec.toNat_ofNat]; omega

/-- The flags' word the body reads at coordinates `i`. -/
theorem flagAt_eq (c : Dev nD) (xt : TbBuf (F := F) c tbF) (i : grid0.Coords) :
    flagAt c xt i = (xt : IVec S161 32) (ix1 ⟨(i 1).val, (i 1).isLt⟩) :=
  congrArg (xt : IVec S161 32) (off1_idx i _)

/-- The expert the windows read at coordinates `i`. -/
theorem expertAt_eq (pf : pre0.Contents (Elt F)) (i : grid0.Coords) :
    pf.at 0 (Rect.unit (s := S161) (k0_off1 i) S1.size (k0_off1_inb i)) numel1_S1
      = (pf 0 : IVec S161 32) (ix1 ⟨(i 1).val, (i 1).isLt⟩) :=
  congrArg (pf 0 : IVec S161 32) (off1_idx i _)

end Cert.Kernel3Ideal.Expert

end
-- ==== Proof.Expert.Blocks.lean ====
/- The second product of the experts (`Cert.Kernel3Ideal`): the windows stay inside their arrays,
   every point stores its output block, and the windows' blocks at coordinates. -/
module

public import proofs.«01_k».proof.Proof.Expert.Routing
public import Idealize.ShloMosaic.Lib.Pipeline.ValueKit

@[expose] public section

set_option maxRecDepth 16384
set_option backward.isDefEq.respectTransparency.types false

noncomputable section

namespace Cert.Kernel3Ideal.Expert

open Idealize.ShloMosaic Idealize.ShloMosaic.TcCoe Idealize.ShloMosaic.Tactic
open Cert.Kernel3Ideal Cert.Kernel3Ideal.Gen

variable {F : FTy → Type} [FloatOps F]
variable (m : (ℓ : Loc nD τ sig) → Buf (Elt F) ℓ)

/-- The block's expert at coordinates `i`. -/
abbrev expert (i : grid0.Coords) : BitVec 32 := beOf (cnt m) (ix1 ⟨(i 1).val, (i 1).isLt⟩)

/-- The weights' block of coordinates `i`: the expert, and the half of the output columns. -/
theorem index_1 (i : grid0.Coords) : cc0_transform_1 k0_off1_inb numel1_S1 (tbl m) i
    = ![0, (expert m i).toNat, 0, (i 0).val] := by
  have h : (BitVec.ofNat 32 (i 0).val).toNat = (i 0).val := by
    have : (i 0).val < 2 := (i 0).isLt
    rw [BitVec.toNat_ofNat]; omega
  show ![0, ((tbl m).at 0 (Rect.unit (s := S161) (k0_off1 i) S1.size (k0_off1_inb i)) numel1_S1).toNat,
    0, (BitVec.ofNat 32 (i 0).val).toNat] = _
  rw [expertAt_eq, tbl_be, h]

/-- The biases' block likewise. -/
theorem index_2 (i : grid0.Coords) : cc0_transform_2 k0_off1_inb numel1_S1 (tbl m) i
    = ![0, (expert m i).toNat, 0, (i 0).val] := index_1 m i

/-- The windows that read a table stay inside their arrays, whatever the counts. -/
theorem ok : Ok m := by
  have hb : ∀ i, (expert m i).toNat ≤ 31 := fun i => be_le (cnt m) _
  have h2 : ∀ i : grid0.Coords, (i 0).val < 2 := fun i => (i 0).isLt
  refine ⟨fun i => ⟨?_, Or.inl rfl⟩, fun i => ⟨?_, Or.inl rfl⟩⟩
  · rw [index_1]
    have := hb i; have := h2 i
    intro a
    match a with
    | ⟨0, _⟩ => exact (by decide : (0 + 1) * 1 ≤ 2)
    | ⟨1, _⟩ => show ((expert m i).toNat + 1) * 1 ≤ 32; omega
    | ⟨2, _⟩ => exact (by decide : (0 + 1) * 2048 ≤ 2048)
    | ⟨3, _⟩ => show ((i 0).val + 1) * 1024 ≤ 2048; omega
  · rw [index_2]
    have := hb i; have := h2 i
    intro a
    match a with
    | ⟨0, _⟩ => exact (by decide : (0 + 1) * 1 ≤ 2)
    | ⟨1, _⟩ => show ((expert m i).toNat + 1) * 1 ≤ 32; omega
    | ⟨2, _⟩ => exact (by decide : (0 + 1) * 1 ≤ 1)
    | ⟨3, _⟩ => show ((i 0).val + 1) * 1024 ≤ 2048; omega

/-- The flags' word at coordinates `i`. -/
abbrev flag (i : grid0.Coords) : BitVec 32 :=
  flagsOf (beOf (cnt m)) (liveOf (cnt m)) (ix1 ⟨(i 1).val, (i 1).isLt⟩)

theorem flagAt_tbl (c : Dev nD) (i : grid0.Coords) : flagAt c (tbl m 1) i = flag m i :=
  (flagAt_eq c (tbl m 1) i).trans
    (congrArg (fun f : IVec S161 32 => f (ix1 ⟨(i 1).val, (i 1).isLt⟩)) (tbl_flags m))

/-- The body takes the second branch exactly where it does not take the third. -/
theorem branches (i : grid0.Coords) : k0_cond3 (flag m i) = 1#1 ↔ ¬k0_cond2 (flag m i) = 1#1 := by
  unfold flag
  rw [flagsOf_apply, (conds _ _).2.2, (conds _ _).2.1]

/-- The body takes the second branch exactly at a live block. -/
theorem live_iff (i : grid0.Coords) :
    k0_cond2 (flag m i) = 1#1 ↔ liveOf (cnt m) (ix1 ⟨(i 1).val, (i 1).isLt⟩) = 1#1 := by
  unfold flag
  rw [flagsOf_apply, (conds _ _).2.1]

/-- Where the body does not take the first branch, the block before has the same expert. -/
theorem same_expert (i : grid0.Coords) (h : ¬condNew (flag m i)) :
    ∃ hi : 1 ≤ (i 1).val, beOf (cnt m) (ix1 ⟨(i 1).val - 1, by
      have : (i 1).val < 161 := (i 1).isLt
      omega⟩) = expert m i := by
  unfold flag at h
  rw [flagsOf_apply] at h
  exact newBit_zero (beOf (cnt m)) ⟨(i 1).val, (i 1).isLt⟩ fun hb => h ((conds _ _).1.mpr hb)

/-- Every point stores its output block. -/
theorem idle_3 (i : grid0.Coords) : idle0 (tbl m) 3 i = false := by
  have hd : ((tbl m).atD 1 (k0_off1 i) : BitVec 32) = flag m i := by
    have hi : ∀ a, k0_off1 i a + 1 ≤ S161.size a := fun a => by
      match a with
      | ⟨0, _⟩ => exact k0_off1_inb i 0
    unfold Pipeline.Prefetch.Contents.atD
    refine (dif_pos hi).trans ?_
    refine Eq.trans ?_ (congrArg (fun f : IVec S161 32 => f (ix1 ⟨(i 1).val, (i 1).isLt⟩)) (tbl_flags m))
    refine congrArg (tbl m 1 : IVec S161 32) ?_
    funext a
    match a with
    | ⟨0, _⟩ =>
      have h161 : (i 1).val < 161 := (i 1).isLt
      apply Fin.ext
      show (BitVec.ofNat 32 (i 1).val).toNat = (i 1).val
      rw [BitVec.toNat_ofNat]; omega
  show (!(k0_cond2 ((tbl m).atD 1 (k0_off1 i)) == 1#1) && !(k0_cond3 ((tbl m).atD 1 (k0_off1 i)) == 1#1)) = false
  rw [hd]
  have hb := branches m i
  by_cases h : k0_cond2 (flag m i) = 1#1
  · simp [h]
  · simp [hb.mpr h]

/-! ## Coordinates of a point -/

theorem coords_0 : ∀ t : Fin grid0.N, (grid0.coords t 0).val = t.val / 161 := by decide +kernel
theorem coords_1 : ∀ t : Fin grid0.N, (grid0.coords t 1).val = t.val % 161 := by decide +kernel

variable (hO : Ok m)

/-- Where an element of the weights' block lies in the array. -/
theorem emb_1 (t : Fin (cfgM m hO).N) (y : S1x1x2048x1024.Idx) :
    (((cfgM m hO).win 1).blk t).view.emb y = (ix4 ⟨(y 0).val, by have : (y 0).val < 1 := (y 0).isLt; omega⟩
        ⟨(expert m (grid0.coords t)).toNat, Nat.lt_succ_of_le (be_le _ _)⟩
        ⟨(y 2).val, (y 2).isLt⟩
        ⟨(grid0.coords t 0).val * 1024 + (y 3).val, by
          have : (grid0.coords t 0).val < 2 := (grid0.coords t 0).isLt
          have : (y 3).val < 1024 := (y 3).isLt
          omega⟩ : S2x32x2048x2048.Idx) := by
  have hi : ((cfgM m hO).win 1).index t = ![0, (expert m (grid0.coords t)).toNat, 0, (grid0.coords t 0).val] :=
    index_1 m (grid0.coords t)
  funext a
  apply Fin.ext
  refine (Pipeline.Window.rect_emb_val ((cfgM m hO).win 1) t y a).trans ?_
  rw [hi]
  match a with
  | ⟨0, _⟩ => show 0 * 1 + (y 0).val = (y 0).val; omega
  | ⟨1, _⟩ =>
    have : (y 1).val < 1 := (y 1).isLt
    show (expert m (grid0.coords t)).toNat * 1 + (y 1).val = (expert m (grid0.coords t)).toNat; omega
  | ⟨2, _⟩ => show 0 * 2048 + (y 2).val = (y 2).val; omega
  | ⟨3, _⟩ => show (grid0.coords t 0).val * 1024 + (y 3).val = (grid0.coords t 0).val * 1024 + (y 3).val; omega

/-- The weights' block at point `t`. -/
theorem iblk_1 (c : Dev nD) (t : Fin (cfgM m hO).N) (y : S1x1x2048x1024.Idx) :
    iblk m hO c 1 t y = (V m c main_arg2 : (⟨S2x32x2048x2048, .f32⟩ : BufTy).Contents (Elt F))
      (ix4 ⟨(y 0).val, by have : (y 0).val < 1 := (y 0).isLt; omega⟩
        ⟨(expert m (grid0.coords t)).toNat, Nat.lt_succ_of_le (be_le _ _)⟩
        ⟨(y 2).val, (y 2).isLt⟩
        ⟨(grid0.coords t 0).val * 1024 + (y 3).val, by
          have : (grid0.coords t 0).val < 2 := (grid0.coords t 0).isLt
          have : (y 3).val < 1024 := (y 3).isLt
          omega⟩) :=
  congrArg (V m c main_arg2) (emb_1 m hO t y)

/-- Where an element of the biases' block lies in the array. -/
theorem emb_2 (t : Fin (cfgM m hO).N) (y : S1x1x1x1024.Idx) :
    (((cfgM m hO).win 2).blk t).view.emb y = (ix4 ⟨(y 0).val, by have : (y 0).val < 1 := (y 0).isLt; omega⟩
        ⟨(expert m (grid0.coords t)).toNat, Nat.lt_succ_of_le (be_le _ _)⟩
        ⟨(y 2).val, (y 2).isLt⟩
        ⟨(grid0.coords t 0).val * 1024 + (y 3).val, by
          have : (grid0.coords t 0).val < 2 := (grid0.coords t 0).isLt
          have : (y 3).val < 1024 := (y 3).isLt
          omega⟩ : S2x32x1x2048.Idx) := by
  have hi : ((cfgM m hO).win 2).index t = ![0, (expert m (grid0.coords t)).toNat, 0, (grid0.coords t 0).val] :=
    index_2 m (grid0.coords t)
  funext a
  apply Fin.ext
  refine (Pipeline.Window.rect_emb_val ((cfgM m hO).win 2) t y a).trans ?_
  rw [hi]
  match a with
  | ⟨0, _⟩ => show 0 * 1 + (y 0).val = (y 0).val; omega
  | ⟨1, _⟩ =>
    have : (y 1).val < 1 := (y 1).isLt
    show (expert m (grid0.coords t)).toNat * 1 + (y 1).val = (expert m (grid0.coords t)).toNat; omega
  | ⟨2, _⟩ => show 0 * 1 + (y 2).val = (y 2).val; omega
  | ⟨3, _⟩ => show (grid0.coords t 0).val * 1024 + (y 3).val = (grid0.coords t 0).val * 1024 + (y 3).val; omega

/-- The biases' block at point `t`. -/
theorem iblk_2 (c : Dev nD) (t : Fin (cfgM m hO).N) (y : S1x1x1x1024.Idx) :
    iblk m hO c 2 t y = (V m c main_v34 : (⟨S2x32x1x2048, .f32⟩ : BufTy).Contents (Elt F))
      (ix4 ⟨(y 0).val, by have : (y 0).val < 1 := (y 0).isLt; omega⟩
        ⟨(expert m (grid0.coords t)).toNat, Nat.lt_succ_of_le (be_le _ _)⟩
        ⟨(y 2).val, (y 2).isLt⟩
        ⟨(grid0.coords t 0).val * 1024 + (y 3).val, by
          have : (grid0.coords t 0).val < 2 := (grid0.coords t 0).isLt
          have : (y 3).val < 1024 := (y 3).isLt
          omega⟩) :=
  congrArg (V m c main_v34) (emb_2 m hO t y)

/-- Where an element of the rows' block lies in the array. -/
theorem emb_0 (t : Fin (cfgM m hO).N) (y : S512x2048.Idx) :
    (((cfgM m hO).win 0).blk t).view.emb y = (ix2
        ⟨(grid0.coords t 1).val * 512 + (y 0).val, by
          have : (grid0.coords t 1).val < 161 := (grid0.coords t 1).isLt
          have : (y 0).val < 512 := (y 0).isLt
          omega⟩
        ⟨(y 1).val, (y 1).isLt⟩ : S82432x2048.Idx) := by
  have hi : ((cfgM m hO).win 0).index t = ![(grid0.coords t 1).val, 0] := by
    have h : (BitVec.ofNat 32 (grid0.coords t 1).val).toNat = (grid0.coords t 1).val := by
      have : (grid0.coords t 1).val < 161 := (grid0.coords t 1).isLt
      rw [BitVec.toNat_ofNat]; omega
    show ![(BitVec.ofNat 32 (grid0.coords t 1).val).toNat, 0] = _
    rw [h]
  funext a
  apply Fin.ext
  refine (Pipeline.Window.rect_emb_val ((cfgM m hO).win 0) t y a).trans ?_
  rw [hi]
  match a with
  | ⟨0, _⟩ => show (grid0.coords t 1).val * 512 + (y 0).val = (grid0.coords t 1).val * 512 + (y 0).val; omega
  | ⟨1, _⟩ => show 0 * 2048 + (y 1).val = (y 1).val; omega

/-- The rows' block at point `t`. -/
theorem iblk_0 (c : Dev nD) (t : Fin (cfgM m hO).N) (y : S512x2048.Idx) :
    iblk m hO c 0 t y = (V m c main_arg1 : (⟨S82432x2048, .bf16⟩ : BufTy).Contents (Elt F))
      (ix2 ⟨(grid0.coords t 1).val * 512 + (y 0).val, by
          have : (grid0.coords t 1).val < 161 := (grid0.coords t 1).isLt
          have : (y 0).val < 512 := (y 0).isLt
          omega⟩
        ⟨(y 1).val, (y 1).isLt⟩) :=
  congrArg (V m c main_arg1) (emb_0 m hO t y)

/-! ## The output's blocks -/

theorem index_3 (t : Fin (cfgM m hO).N) :
    ((cfgM m hO).win 3).index t = ![t.val % 161, t.val / 161] := by
  have h0 : (BitVec.ofNat 32 (grid0.coords t 1).val).toNat = t.val % 161 := by
    have : (grid0.coords t 1).val < 161 := (grid0.coords t 1).isLt
    rw [BitVec.toNat_ofNat, ← coords_1 t]; omega
  have h1 : (BitVec.ofNat 32 (grid0.coords t 0).val).toNat = t.val / 161 := by
    have : (grid0.coords t 0).val < 2 := (grid0.coords t 0).isLt
    rw [BitVec.toNat_ofNat, ← coords_0 t]; omega
  show ![(BitVec.ofNat 32 (grid0.coords t 1).val).toNat, (BitVec.ofNat 32 (grid0.coords t 0).val).toNat] = _
  rw [h0, h1]

/-- Where an element of the output's block lies in the array. -/
theorem emb_3 (t : Fin (cfgM m hO).N) (y : S512x1024.Idx) :
    (((cfgM m hO).win 3).blk t).view.emb y = (ix2
        ⟨t.val % 161 * 512 + (y 0).val, by
          have : (y 0).val < 512 := (y 0).isLt
          omega⟩
        ⟨t.val / 161 * 1024 + (y 1).val, by
          have : t.val < 322 := t.isLt
          have : (y 1).val < 1024 := (y 1).isLt
          omega⟩ : S82432x2048.Idx) := by
  funext a
  apply Fin.ext
  refine (Pipeline.Window.rect_emb_val ((cfgM m hO).win 3) t y a).trans ?_
  rw [index_3]
  match a with
  | ⟨0, _⟩ => show t.val % 161 * 512 + (y 0).val = t.val % 161 * 512 + (y 0).val; omega
  | ⟨1, _⟩ => show t.val / 161 * 1024 + (y 1).val = t.val / 161 * 1024 + (y 1).val; omega

/-- Every block of the output is stored at its own point. -/
theorem flush_3 (t : Fin (cfgM m hO).N) : ((cfgM m hO).win 3).flush t = true := by
  unfold Pipeline.Window.flush
  rw [Bool.and_eq_true, Bool.or_eq_true]
  refine ⟨rfl, ?_⟩
  have ht : t.val < 322 := t.isLt
  by_cases h : t.val + 1 = 322
  · exact Or.inl (decide_eq_true h)
  · refine Or.inr (decide_eq_true ⟨show t.val + 1 < 322 by omega, fun he => ?_⟩)
    rw [index_3, index_3] at he
    have : (t.val + 1) % 161 = t.val % 161 := congrFun he 0
    omega

/-- Every element of the output lies in a stored block. -/
theorem cover_3 (i : S82432x2048.Idx) :
    ∃ t : Fin (cfgM m hO).N, ((cfgM m hO).win 3).flush t = true ∧ i ∈ (((cfgM m hO).win 3).blk t).view.set := by
  have h0 : (i 0).val < 82432 := (i 0).isLt
  have h1 : (i 1).val < 2048 := (i 1).isLt
  refine ⟨⟨(i 1).val / 1024 * 161 + (i 0).val / 512, show _ < 322 by omega⟩, flush_3 m hO _, ?_⟩
  refine (((cfgM m hO).win 3).emb_mem_blk_iff _ i).mpr fun a => ?_
  rw [index_3]
  match a with
  | ⟨0, _⟩ =>
    show ((i 1).val / 1024 * 161 + (i 0).val / 512) % 161 * 512 ≤ (i 0).val ∧ (i 0).val < ((i 1).val / 1024 * 161 + (i 0).val / 512) % 161 * 512 + 512
    omega
  | ⟨1, _⟩ =>
    show ((i 1).val / 1024 * 161 + (i 0).val / 512) / 161 * 1024 ≤ (i 1).val ∧ (i 1).val < ((i 1).val / 1024 * 161 + (i 0).val / 512) / 161 * 1024 + 1024
    omega

/-! ## The weights kept from the block before -/

/-- Where the body does not take its first branch, there is a point before, with the same weights' block. -/
theorem iblk_prev (c : Dev nD) (t : Fin (cfgM m hO).N) (h : ¬condNew (flag m (grid0.coords t))) :
    ∃ ht : 1 ≤ t.val, iblk m hO c 1 ⟨t.val - 1, lt_of_le_of_lt (Nat.sub_le _ _) t.isLt⟩ = iblk m hO c 1 t := by
  obtain ⟨hi, he⟩ := same_expert m (grid0.coords t) h
  have hi' : 1 ≤ t.val % 161 := coords_1 t ▸ hi
  have htn : t.val < 322 := t.isLt
  refine ⟨by omega, ?_⟩
  have hp : t.val - 1 < 322 := by omega
  have hj : (grid0.coords (⟨t.val - 1, hp⟩ : Fin grid0.N) 0).val = (grid0.coords t 0).val := by
    rw [coords_0, coords_0]; show (t.val - 1) / 161 = t.val / 161; omega
  have hx : expert m (grid0.coords (⟨t.val - 1, hp⟩ : Fin grid0.N)) = expert m (grid0.coords t) := by
    rw [← he]
    refine congrArg (fun k : Fin 161 => beOf (cnt m) (ix1 k)) (Fin.ext ?_)
    show (grid0.coords (⟨t.val - 1, hp⟩ : Fin grid0.N) 1).val = (grid0.coords t 1).val - 1
    rw [coords_1, coords_1]; show (t.val - 1) % 161 = t.val % 161 - 1; omega
  funext y
  refine (iblk_1 m hO c _ y).trans (Eq.trans ?_ (iblk_1 m hO c t y).symm)
  refine congrArg (V m c main_arg2) ?_
  refine congr (congrArg (fun (e : Fin 32) (k : Fin 2048) => (ix4 _ e _ k : S2x32x2048x2048.Idx)) (Fin.ext ?_))
    (Fin.ext (congrArg (fun k => k * 1024 + Fin.val ((show S1x1x2048x1024.Idx from y) 3)) hj))
  exact congrArg BitVec.toNat hx

end Cert.Kernel3Ideal.Expert

end
-- ==== Proof.Expert.Frame.lean ====
/- The second product of the experts (`Cert.Kernel3Ideal`): the pipeline's proof data — after every
   point the scratch holds the current block's weights rounded —, the body at every point, the run,
   and the frame. Over any element values. -/
module

public import proofs.«01_k».proof.Proof.Expert.Blocks

@[expose] public section

set_option maxRecDepth 16384

noncomputable section

namespace Cert.Kernel3Ideal.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The weights' block of point `t`, rounded: what the scratch holds after it. -/
def kept (hO : Ok m) (c : Dev nD) (t : Fin (cfgM m hO).N) : Vec F S2048x1024 .bf16 :=
  k0_pay1 (iblk m hO c 1 t)

/-- What point `t` leaves in the output's buffer. -/
def outAt (hO : Ok m) (c : Dev nD) (t : Fin (cfgM m hO).N) : Vec F S512x1024 .f32 :=
  blkOut (flag m (grid0.coords t)) (iblk m hO c 0 t) (kept m hO c t) (iblk m hO c 2 t)

/-- The scratch before point `k`: after the first point, the weights of the point before. -/
def carry (hO : Ok m) (c : Dev nD) (k : Fin ((cfgM m hO).N + 1)) : sProp 𝕄 :=
  iprop(∃ d, ⌜∀ s : Fin (cfgM m hO).N, s.val + 1 = k.val → d = kept m hO c s⌝
    ∗ owns (c : Thread nD τ) scM fullShare d)

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m hO c t
  Φ k := iprop(iprop(carry m hO c k ∗ (∃ r, prngReg c r)) ∗ Pipeline.ΦT pre0 (tbl m) c)
  q _ := fullShare
  owed _ := 0

theorem A_eq (hO : Ok m) (c : Dev nD) (w : Fin (cfgM m hO).W) :
    (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = outAt m hO c t := by dsimp only [dats]; try rfl

theorem held_0 (hO : Ok m) (c : Dev nD) (t : Fin (cfgM m hO).N) (d) : (dats m hO 0 c).before 0 t d = iblk m hO c 0 t :=
  before_0 m hO (dats m hO 0 c) (A_eq m hO c 0) (after_0 m hO c) t d
theorem held_1 (hO : Ok m) (c : Dev nD) (t : Fin (cfgM m hO).N) (d) : (dats m hO 0 c).before 1 t d = iblk m hO c 1 t :=
  before_1 m hO (dats m hO 0 c) (A_eq m hO c 1) (after_1 m hO c) t d
theorem held_2 (hO : Ok m) (c : Dev nD) (t : Fin (cfgM m hO).N) (d) : (dats m hO 0 c).before 2 t d = iblk m hO c 2 t :=
  before_2 m hO (dats m hO 0 c) (A_eq m hO c 2) (after_2 m hO c) t d

/-- What the body finds and leaves in the scratch: the current block's weights, loaded now or kept. -/
theorem scrOut_kept (hO : Ok m) (c : Dev nD) (t : Fin (cfgM m hO).N)
    (k : Fin ((cfgM m hO).N + 1)) (hk : k.val = t.val) (d : Vec F S2048x1024 .bf16)
    (hd : ∀ s : Fin (cfgM m hO).N, s.val + 1 = k.val → d = kept m hO c s) :
    scrOut (flag m (grid0.coords t)) (iblk m hO c 1 t) d = kept m hO c t := by
  unfold scrOut
  by_cases h : condNew (flag m (grid0.coords t))
  · rw [if_pos (show condNew (flag m (grid0.coords t)) from h)]; rfl
  · rw [if_neg (show ¬condNew (flag m (grid0.coords t)) from h)]
    obtain ⟨ht, he⟩ := iblk_prev m hO c t h
    rw [hd ⟨t.val - 1, lt_of_le_of_lt (Nat.sub_le _ _) t.isLt⟩ (by rw [hk]; exact Nat.sub_add_cancel ht)]
    exact congrArg (k0_pay1 (F := F)) he

/-! ## The body at a point -/

/-- `body_run` with the flags' word, the kept weights and the stored block named. -/
theorem body_run_at (c : Dev nD) (i : grid0.Coords)
    (arg4 : Memref sig .tc .vmem S512x2048 .bf16) (harg4 : arg4.IsWhole)
    (arg5 : Memref sig .tc .vmem S1x1x2048x1024 .f32) (harg5 : arg5.IsWhole)
    (arg6 : Memref sig .tc .vmem S1x1x1x1024 .f32) (harg6 : arg6.IsWhole)
    (arg7 : Memref sig .tc .vmem S512x1024 .f32) (harg7 : arg7.IsWhole)
    (arg8 : Memref sig .tc .vmem S2048x1024 .bf16) (harg8 : arg8.IsWhole)
    (x0 : Vec F S512x2048 .bf16) (x1 : Vec F S1x1x2048x1024 .f32) (x2 : Vec F S1x1x1x1024 .f32)
    (xs : Vec F S2048x1024 .bf16) (xt0 : TbBuf (F := F) c tbE) (xt1 : TbBuf (F := F) c tbF)
    (f : BitVec 32) (w : Vec F S2048x1024 .bf16) (o : Vec F S512x1024 .f32) (hf : flagAt c xt1 i = f)
    (h32 : k0_cond3 f = 1#1 ↔ ¬k0_cond2 f = 1#1) (hw : scrOut f x1 xs = w) (ho : blkOut f x0 w x2 = o)
    (E : Set ℕ) (K : PUnit → sProp 𝕄) :
    iprop(owns (c : Thread nD τ) arg4 fullShare x0 ∗ owns (c : Thread nD τ) arg5 fullShare x1
        ∗ owns (c : Thread nD τ) arg6 fullShare x2 ∗ (∃ d, owns (c : Thread nD τ) arg7 fullShare d)
        ∗ owns (c : Thread nD τ) arg8 fullShare xs ∗ tbPt c tbE xt0 ∗ tbPt c tbF xt1
        ∗ (iprop(owns (c : Thread nD τ) arg4 fullShare x0 ∗ owns (c : Thread nD τ) arg5 fullShare x1
            ∗ owns (c : Thread nD τ) arg6 fullShare x2 ∗ owns (c : Thread nD τ) arg7 fullShare o
            ∗ owns (c : Thread nD τ) arg8 fullShare w ∗ tbPt c tbE xt0 ∗ tbPt c tbF xt1) -∗ K ⟨⟩))
      ⊢ wp frame (wpE (defs₀ (F := F)) Variants.none c none) E
          (cc0_moe_gmm2 i tbE (Memref.isWhole_whole _) tbF (Memref.isWhole_whole _) arg4 harg4
            arg5 harg5 arg6 harg6 arg7 harg7 arg8 harg8) K := by
  subst hf hw ho
  exact body_run c i arg4 harg4 arg5 harg5 arg6 harg6 arg7 harg7 arg8 harg8 x0 x1 x2 xs xt0 xt1 h32 E K

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ owns (c : Thread nD τ) (ms_3 m hO t) fullShare ((dats m hO 0 c).after 3 t))

set_option backward.isDefEq.respectTransparency.types false in
/-- The body at any point: it finds its blocks, leaves them, leaves the scratch at the block's weights and the output
    buffer at the block's value. -/
theorem sound_body (hO : Ok m) (c : Dev nD) (t : Fin (cfgM m hO).N) :
    bodyPre m hO c t ⊢ wp frame (wpE (defs₀ (F := F)) Variants.none c none) Set.univ (bodyAt (adm m hO) t)
      (fun _ => bodyPost m hO c t) := by
  unfold bodyPre bodyPost bodyAt
  simp only [held_0, held_1, held_2]
  rw [show (dats m hO 0 c).owesAt () t.succ = (dats m hO 0 c).owesAt () t.castSucc from rfl,
    after_0, after_1, after_2, after_3]
  rw [show (dats m hO 0 c).Φ t.castSucc
      = iprop(iprop(carry m hO c t.castSucc ∗ (∃ r, prngReg c r)) ∗ Pipeline.ΦT pre0 (tbl m) c) from rfl,
    show (dats m hO 0 c).Φ t.succ
      = iprop(iprop(carry m hO c t.succ ∗ (∃ r, prngReg c r)) ∗ Pipeline.ΦT pre0 (tbl m) c) from rfl, PhiT_eq]
  unfold carry
  iintro ⟨⟨⟨⟨%d, %hd, HS⟩, Hg⟩, ⟨HT0, HT1⟩⟩, Ho, ⟨%d0, H0⟩, ⟨%d1, H1⟩, ⟨%d2, H2⟩, ⟨%d3, H3⟩⟩
  iapply (body_run_at c (grid0.coords t) _ _ _ _ _ _ _ _ _ _ (iblk m hO c 0 t) (iblk m hO c 1 t) (iblk m hO c 2 t)
    d (tbl m 0) (tbl m 1) (flag m (grid0.coords t)) (kept m hO c t) (outAt m hO c t) (flagAt_tbl m c (grid0.coords t))
    (branches m (grid0.coords t)) (scrOut_kept m hO c t t.castSucc (Fin.val_castSucc t) d hd) rfl Set.univ _)
  isplitl [H0]; · iexact H0
  isplitl [H1]; · iexact H1
  isplitl [H2]; · iexact H2
  isplitl [H3]; · iexists _; iexact H3
  isplitl [HS]; · iexact HS
  isplitl [HT0]; · iexact HT0
  isplitl [HT1]; · iexact HT1
  iintro ⟨H0, H1, H2, H3, HS, HT0, HT1⟩
  isplitl [HS Hg HT0 HT1]
  · isplitl [HS Hg]
    · isplitl [HS]
      · iexists _; isplitr; swap; · iexact HS
        ipureintro
        exact fun s hs => congrArg (kept m hO c) (Fin.ext (Nat.succ.inj (hs.trans (Fin.val_succ t)))).symm
      iexact Hg
    isplitl [HT0]; · iexact HT0
    iexact HT1
  isplitl [Ho]; · iexact Ho
  isplitl [H0]; · iexact H0
  isplitl [H1]; · iexact H1
  isplitl [H2]; · iexact H2
  iexact H3

set_option backward.isDefEq.respectTransparency.types false in
/-- The pipeline's obligation: the output's window is idle at no point. -/
theorem body_obligation (hO : Ok m) (c : Dev nD) :
    BodyObligation (dats (F := F) m hO 0 c) (defs₀ (F := F)) Variants.none () Set.univ := fun t => by
  have hi : (cfgM m hO).idle (3 : Fin 4) ((cfgM m hO).grid.coords t) = false := idle_3 m (grid0.coords t)
  rw [bigSep_W0, bigSep_W0, defs₀_row m hO]
  refine triple_restated (sound_body m hO c t) rfl .rfl fun _ => ?_
  rw [hi]
  exact .rfl

/-! ## The run and the frame -/

theorem start (hO : Ok m) (c : Dev nD) :
    iprop(Pipeline.ΦA spec0 c ∗ Pipeline.ΦT pre0 (tbl m) c) ⊢ (dats m hO 0 c).Φ 0 := by
  rw [show (dats m hO 0 c).Φ 0
      = iprop(iprop(carry m hO c 0 ∗ (∃ r, prngReg c r)) ∗ Pipeline.ΦT pre0 (tbl m) c) from rfl, PhiA_eq]
  unfold carry
  iintro ⟨⟨⟨%d, HS⟩, Hg⟩, HT⟩
  isplitl [HS Hg]
  · isplitl [HS]
    · iexists d; isplitr; swap; · iexact HS
      ipureintro
      exact fun s h => absurd h (Nat.succ_ne_zero _)
    iexact Hg
  iexact HT

theorem stop (hO : Ok m) (c : Dev nD) :
    (dats m hO 0 c).Φ (Fin.last (cfgM m hO).N) ⊢ Pipeline.ΦA spec0 c := by
  rw [show (dats m hO 0 c).Φ (Fin.last (cfgM m hO).N)
      = iprop(iprop(carry m hO c (Fin.last (cfgM m hO).N) ∗ (∃ r, prngReg c r)) ∗ Pipeline.ΦT pre0 (tbl m) c) from rfl, PhiA_eq]
  unfold carry
  iintro ⟨⟨⟨%d, -, HS⟩, Hg⟩, -⟩
  isplitl [HS]
  · iexists d; iexact HS
  iexact Hg

set_option backward.isDefEq.respectTransparency.types false in
/-- The run: every array ends as the proof data say, every counter at zero. -/
theorem run_main (hO : Ok m) : θ_run defs (onTc (τ := τ) (main (F := F))) (s₀ m ρ)
    (fun r => Pipeline.FramePost (Pipeline.pin pcfgs fun _ => adm m hO) (dats m hO) (0 : Fin 1) (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := start m hO) (hout := stop m hO)

set_option backward.isDefEq.respectTransparency.types false in
/-- The arguments end as they were. -/
theorem unchanged (hO : Ok m) (r : PUnit × MemSt nD τ sig (Elt F))
    (h : Pipeline.FramePost (Pipeline.pin pcfgs fun _ => adm m hO) (dats m hO) (0 : Fin 1) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (by decide : main_arg0 ∈ Pipeline.restRefs sig spec0)).trans (V_arg m c main_arg0 (by decide)),
    (Pipeline.FramePost.in_eq h c 0 rfl).trans ((A_eq m hO c 0).trans (V_arg m c main_arg1 (by decide))),
    (Pipeline.FramePost.in_eq h c 1 rfl).trans ((A_eq m hO c 1).trans (V_arg m c main_arg2 (by decide))),
    ((h c).2 main_arg3 (by decide : main_arg3 ∈ Pipeline.restRefs sig spec0)).trans (V_arg m c main_arg3 (by decide))⟩

/-- The kernel runs from any memory, its arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨unchanged m (ok m) r h.1, h.2⟩) (run_main m ρ (ok m))

end Cert.Kernel3Ideal.Expert

end
-- ==== Proof.Expert.Rows.lean ====
/- The second product of the experts (`Cert.Kernel3Ideal`), its value: every row of a live block is
   the row times its block's expert's weights plus the expert's biases, every row past the last
   expert's is zero; and the blocks a point reads and stores, read at an entry. -/
module

public import proofs.«01_k».proof.Proof.Expert.Frame

@[expose] public section

set_option maxRecDepth 16384

noncomputable section

namespace Cert.Kernel3Ideal.Expert

open Idealize.ShloMosaic Idealize.ShloMosaic.TcCoe Idealize.ShloMosaic.Tactic
open Cert.Kernel3Ideal Cert.Kernel3Ideal.Gen

/-- The entry of row `r` and column `j`, of the counts, the rows, the experts' weights and their biases. -/
def rowAt (x0 : IVec S32 32) (x1 : FVec Ideal S82432x2048 .bf16) (x2 : FVec Ideal S2x32x2048x2048 .f32)
    (x3 : FVec Ideal S2x32x2048 .f32) (i : Fin 161) (r : Fin 82432) (j : Fin 2048) : EReal :=
  let e : Fin 32 := ⟨(beOf (F := Ideal) x0 (ix1 i)).toNat, Nat.lt_succ_of_le (be_le _ _)⟩
  if liveOf (F := Ideal) x0 (ix1 i) = 1#1 then
    (∑ k : Fin 2048, (x1 (ix2 r k) : EReal) * x2 (ix4 0 e k j)) + x3 (ix3 0 e j)
  else 0

/-- The array: row `r` lies in block `r / 512`. -/
def rowsOf (x0 : IVec S32 32) (x1 : FVec Ideal S82432x2048 .bf16) (x2 : FVec Ideal S2x32x2048x2048 .f32)
    (x3 : FVec Ideal S2x32x2048 .f32) : FVec Ideal S82432x2048 .f32 := fun q =>
  rowAt x0 x1 x2 x3 ⟨(q 0).val / 512, by have : (q 0).val < 82432 := (q 0).isLt; omega⟩ (q 0) (q 1)

/-- The stored block of a live block of rows, at an entry. -/
theorem pay2_apply (h : Vec Ideal S512x2048 .bf16) (w : Vec Ideal S1x1x2048x1024 .f32) (b : Vec Ideal S1x1x1x1024 .f32)
    (p : Fin 512) (q : Fin 1024) :
    k0_pay2 h (k0_pay1 w) b (ix2 p q)
      = (∑ k : Fin 2048, (h (ix2 p k) : EReal) * w (ix4 0 0 k q)) + b (ix4 0 0 0 q) := by
  pointwise [k0_pay2, k0_pay1]

theorem pay3_apply (p : Fin 512) (q : Fin 1024) : k0_pay3 (F := Ideal) (ix2 p q) = (0 : EReal) := by
  pointwise [k0_pay3]

end Cert.Kernel3Ideal.Expert

end
-- ==== Proof.Expert.Array.lean ====
/- The second product of the experts (`Cert.Kernel3Ideal`): the array that the run ends with. -/
module

public import proofs.«01_k».proof.Proof.Expert.Rows

@[expose] public section

set_option maxRecDepth 16384
set_option backward.isDefEq.respectTransparency.types false

noncomputable section

namespace Cert.Kernel3Ideal.Expert

open Idealize.ShloMosaic Idealize.ShloMosaic.TcCoe Idealize.ShloMosaic.Tactic Idealize.SL.Sem
open Cert.Kernel3Ideal Cert.Kernel3Ideal.Gen

variable (m : (ℓ : Loc nD τ sig) → Buf (Elt Ideal) ℓ) (ρ : Dev nD → PrngReg) (c : Dev nD)

/-- The arguments on a core. -/
abbrev argX : FVec Ideal S82432x2048 .bf16 := m ((c : Thread nD τ).loc main_arg1)
abbrev argW : FVec Ideal S2x32x2048x2048 .f32 := m ((c : Thread nD τ).loc main_arg2)
abbrev argB : FVec Ideal S2x32x2048 .f32 := m ((c : Thread nD τ).loc main_arg3)

/-- The array of the arguments. -/
def outOf : FVec Ideal S82432x2048 .f32 := rowsOf (cnt m) (argX m c) (argW m c) (argB m c)

variable (hO : Ok m) (t : Fin (cfgM m hO).N)

/-- The block of rows and the half of the columns of point `t`. -/
abbrev blkAt : Fin 161 := ⟨(grid0.coords t 1).val, (grid0.coords t 1).isLt⟩
abbrev rowAtPt (p : Fin 512) : Fin 82432 := ⟨(grid0.coords t 1).val * 512 + p.val, by
  have : (grid0.coords t 1).val < 161 := (grid0.coords t 1).isLt
  omega⟩
abbrev colAtPt (q : Fin 1024) : Fin 2048 := ⟨(grid0.coords t 0).val * 1024 + q.val, by
  have : (grid0.coords t 0).val < 2 := (grid0.coords t 0).isLt
  omega⟩
abbrev expAt : Fin 32 := ⟨(expert m (grid0.coords t)).toNat, Nat.lt_succ_of_le (be_le _ _)⟩

theorem rows_at (p : Fin 512) (k : Fin 2048) :
    (iblk m hO c 0 t : Vec Ideal S512x2048 .bf16) (ix2 p k) = argX m c (ix2 (rowAtPt m hO t p) k) :=
  (iblk_0 m hO c t (ix2 p k)).trans (congrFun (V_arg m c main_arg1 (by decide)) _)

theorem weights_at (k : Fin 2048) (q : Fin 1024) :
    (iblk m hO c 1 t : Vec Ideal S1x1x2048x1024 .f32) (ix4 0 0 k q)
      = argW m c (ix4 0 (expAt m hO t) k (colAtPt m hO t q)) :=
  (iblk_1 m hO c t (ix4 0 0 k q)).trans (congrFun (V_arg m c main_arg2 (by decide)) _)

/-- The biases with an axis of one added, read at an entry. -/
theorem cast_at (x : FVec Ideal S2x32x2048 .f32) (e : Fin 32) (j : Fin 2048) :
    shapeCast S2x32x1x2048 x shapeCasts_S2x32x2048_S2x32x1x2048 (ix4 0 e 0 j) = x (ix3 0 e j) := by
  refine shapeCast_apply x _ _ _ ?_
  rewrite [Shape.rowMajor_val_three, Shape.rowMajor_val_four]
  show (0 * 32 + e.val) * 2048 + j.val = ((0 * 32 + e.val) * 1 + 0) * 2048 + j.val
  omega

theorem biases_at (q : Fin 1024) :
    (iblk m hO c 2 t : Vec Ideal S1x1x1x1024 .f32) (ix4 0 0 0 q)
      = argB m c (ix3 0 (expAt m hO t) (colAtPt m hO t q)) := by
  refine (iblk_2 m hO c t (ix4 0 0 0 q)).trans ?_
  exact (congrFun (V_b2 m c) _).trans (cast_at (argB m c) (expAt m hO t) (colAtPt m hO t q))

/-- What point `t` stores, at an entry. -/
theorem outAt_apply (p : Fin 512) (q : Fin 1024) :
    outAt m hO c t (ix2 p q)
      = rowAt (cnt m) (argX m c) (argW m c) (argB m c) (blkAt m hO t) (rowAtPt m hO t p) (colAtPt m hO t q) := by
  unfold outAt blkOut rowAt
  by_cases h : liveOf (cnt m) (ix1 (blkAt m hO t)) = 1#1
  · rw [if_pos ((live_iff m (grid0.coords t)).mpr h), if_pos h]
    refine (pay2_apply _ _ _ p q).trans ?_
    rw [biases_at]
    refine congrArg (· + _) (Finset.sum_congr rfl fun k _ => ?_)
    rw [rows_at, weights_at]
  · rw [if_neg (fun h' => h ((live_iff m (grid0.coords t)).mp h')), if_neg h]
    exact pay3_apply p q

/-- The array that the run ends with. -/
theorem arr_eq : (dats m hO 0 c).arrAt 3 (cfgM m hO).N = outOf m c := by
  refine Pipeline.Dat.arrAt_eq_of_emb _ 3 _ (fun t _ y => ?_) (cover_3 m hO)
  have ht : t.val < 322 := t.isLt
  refine Eq.trans ?_ (congrArg (outOf m c) (emb_3 m hO t y)).symm
  obtain ⟨p, q, rfl⟩ : ∃ (p : Fin 512) (q : Fin 1024), (show S512x1024.Idx from y) = ix2 p q :=
    ⟨(show S512x1024.Idx from y) 0, (show S512x1024.Idx from y) 1, by
      funext a; match a with | ⟨0, _⟩ => rfl | ⟨1, _⟩ => rfl⟩
  refine (congrFun (after_3 m hO c t) (ix2 p q)).trans ((outAt_apply m c hO t p q).trans ?_)
  have h0 : (grid0.coords t 1).val = t.val % 161 := coords_1 t
  have h1 : (grid0.coords t 0).val = t.val / 161 := coords_0 t
  unfold outOf rowsOf
  refine congr (congr (congrArg (rowAt (cnt m) (argX m c) (argW m c) (argB m c)) (Fin.ext ?_)) (Fin.ext ?_)) (Fin.ext ?_)
  · show (grid0.coords t 1).val = (t.val % 161 * 512 + p.val) / 512
    omega
  · show (grid0.coords t 1).val * 512 + p.val = t.val % 161 * 512 + p.val
    omega
  · show (grid0.coords t 0).val * 1024 + q.val = t.val / 161 * 1024 + q.val
    omega

/-- The run ends with that array, its arguments as they were. -/
theorem run : θ_run (defs (F := Ideal)) (onTc (τ := τ) (main (F := Ideal))) ⟨m, fun _ => 0, ρ⟩ (fun r => ∀ c : Dev nD,
      r.2.mem ((c.tc : Thread nD τ).loc main_v35) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 3).trans (arr_eq m c (ok m)), unchanged m (ok m) r h.1 c⟩)
    (run_main m ρ (ok m))

end Cert.Kernel3Ideal.Expert

end
-- ==== Proof.Expert.Gather.lean ====
/- A gather of whole matrices: of a stack of matrices, the one that each index names. -/
module

public import Idealize.ShloMosaic.Lib.Routing.Ops
public import Idealize.ShloMosaic.Lib.Pointwise

@[expose] public section

noncomputable section

namespace Cert.Gathered

open Idealize.ShloMosaic Idealize.ShloMosaic.Routing

/-- Entry `(c, y, z)` of the gather is entry `(y, z)` of the matrix that index `c` names, where that index lies
    inside the stack. -/
theorem matrix_apply {α : Type} {N A B n : Nat} (d : GatherDims (shape3 N A B) (shape2 n 1) (shape3 n A B))
    (hoff : d.offsetDims = [1, 2]) (hcoll : d.collapsedSliceDims = [0]) (hob : d.operandBatchingDims = [])
    (hsim : d.startIndexMap = [0]) (hivd : d.indexVectorDim = 1) (x : (shape3 N A B).Idx → α) (idx : IVec (shape2 n 1) 32)
    (c : Fin n) (y : Fin A) (z : Fin B) (b : Fin N) (hb : idx (ix2 c (0 : Fin 1)) = BitVec.ofNat 32 b.val)
    (hN : N < 2 ^ 31) : Host.gather d x idx (ix3 c y z) = x (ix3 b y z) := by
  unfold Host.gather
  refine congrArg x (funext fun a => Fin.ext ?_)
  have hbN : ∀ a', a' ∉ d.operandBatchingDims := fun a' => by rw [hob]; exact List.not_mem_nil
  have hbatch : ∀ k ∈ d.batchDims, k = (0 : Fin 3) := fun k hk => by
    have hk' : k ∉ d.offsetDims := of_decide_eq_true (List.mem_filter.1 hk).2
    rw [hoff] at hk'
    match k with
    | ⟨0, _⟩ => rfl
    | ⟨1, _⟩ => exact absurd (List.mem_cons.2 (Or.inl rfl)) hk'
    | ⟨2, _⟩ => exact absurd (List.mem_cons.2 (Or.inr (List.mem_singleton.2 rfl))) hk'
  have hkept : d.sKept = [1, 2] := by
    unfold GatherDims.sKept
    rw [hcoll, hob]
    rfl
  have hne : ∀ k : Fin 3, k ≠ 0 → k ∉ d.startIndexMap := fun k hk h => by
    rw [hsim] at h; exact hk (List.mem_singleton.1 h)
  match a with
  | ⟨0, _⟩ =>
    have hk : (0 : Fin 3) ∉ d.sKept := fun h => ((d.mem_sKept 0).1 h).1 (by rw [hcoll]; exact List.mem_singleton.2 rfl)
    have hm : (0 : Fin 3) ∈ d.startIndexMap := by rw [hsim]; exact List.mem_singleton.2 rfl
    have hsl : d.sliceSizes 0 = 1 := d.slice_collapsed 0 (by rw [hcoll]; exact List.mem_singleton.2 rfl)
    have e0 : ∀ X : Fin 3, X = 0 → (ix3 c y z X).val = c.val := fun X h => by subst h; rfl
    have hsi : d.siIdx (ix3 c y z) ⟨d.startIndexMap.idxOf 0, List.idxOf_lt_length_iff.2 hm⟩ = ix2 c (0 : Fin 1) := by
      funext b'
      apply Fin.ext
      unfold GatherDims.siIdx
      match b' with
      | ⟨0, _⟩ =>
        rw [dif_neg (by rw [hivd]; exact Nat.zero_ne_one)]
        unfold GatherDims.siCoord
        simp only [Fin.val_cast]
        exact e0 _ (hbatch _ (List.getElem_mem _))
      | ⟨1, _⟩ =>
        rw [dif_pos (by rw [hivd])]
        show List.idxOf (0 : Fin 3) d.startIndexMap = 0
        rw [hsim]; simp
    have hbl := b.isLt
    show d.start (ix3 c y z) idx 0 + d.batchCoord (ix3 c y z) 0 + d.offCoord (ix3 c y z) 0 = b.val
    rw [d.batchCoord_eq_zero _ _ (hbN 0), d.offCoord_eq_zero _ _ hk]
    simp only [Nat.add_zero]
    unfold GatherDims.start
    rw [dif_pos hm, hsi, hb, hsl, StableHlo.Predicate.toInt_ofNat_small _ (by omega)]
    show min ((b.val : Int)).toNat (N - 1) = b.val
    omega
  | ⟨1, _⟩ =>
    have hk : (1 : Fin 3) ∈ d.sKept := by rw [hkept]; exact List.mem_cons.2 (Or.inl rfl)
    show d.start (ix3 c y z) idx 1 + d.batchCoord (ix3 c y z) 1 + d.offCoord (ix3 c y z) 1 = y.val
    rw [d.batchCoord_eq_zero _ _ (hbN 1), Nat.add_zero]
    unfold GatherDims.start GatherDims.offCoord
    rw [dif_neg (hne 1 (by decide)), dif_pos hk, Nat.zero_add]
    have e : ∀ X : Fin 3, X = 1 → (ix3 c y z X).val = y.val := fun X h => by subst h; rfl
    refine e _ ?_
    simp only [hkept, hoff]
    rfl
  | ⟨2, _⟩ =>
    have hk : (2 : Fin 3) ∈ d.sKept := by rw [hkept]; exact List.mem_cons.2 (Or.inr (List.mem_singleton.2 rfl))
    show d.start (ix3 c y z) idx 2 + d.batchCoord (ix3 c y z) 2 + d.offCoord (ix3 c y z) 2 = z.val
    rw [d.batchCoord_eq_zero _ _ (hbN 2), Nat.add_zero]
    unfold GatherDims.start GatherDims.offCoord
    rw [dif_neg (hne 2 (by decide)), dif_pos hk, Nat.zero_add]
    have e : ∀ X : Fin 3, X = 2 → (ix3 c y z X).val = z.val := fun X h => by subst h; rfl
    refine e _ ?_
    simp only [hkept, hoff]
    rfl

end Cert.Gathered

end
-- ==== Proof.Expert.Reference.lean ====
/- The second product of the experts, the reference: its array is `Cert.Kernel3Ideal.Expert.rowsOf`. -/
module

public import proofs.«01_k».proof.Proof.Expert.Rows
public import proofs.«01_k».proof.Proof.Expert.Gather

@[expose] public section

set_option maxRecDepth 16384

noncomputable section

namespace Cert.Kernel3Ideal.Expert

open Idealize.ShloMosaic Cert.Reference3Ideal Cert.Reference3Ideal.Read

variable (x0 : IVec S32 32) (x1 : FVec Ideal S82432x2048 .bf16) (x2 : FVec Ideal S2x32x2048x2048 .f32)
    (x3 : FVec Ideal S2x32x2048 .f32)

/-- An expert is not negative. -/
theorem not_neg (b : BitVec 32) (h : b.toNat ≤ 31) : ¬IntOp.cmpi .slt b 0#32 = 1#1 := by
  have hi : b.toInt = b.toNat := BitVec.toInt_eq_toNat_of_lt (by omega)
  have : BitVec.slt b 0#32 = false := by
    rw [BitVec.slt, hi]
    simp
  show ¬BitVec.ofBool (BitVec.slt b 0#32) = 1#1
  rw [this]; decide

/-- The reference's index of a block: its expert, which is not negative. -/
theorem index_of (i : Fin 161) : val_main_v29 (F := Ideal) x0 (ix2 i 0)
    = BitVec.ofNat 32 (⟨(beOf (F := Ideal) x0 (ix1 i)).toNat, Nat.lt_succ_of_le (be_le _ _)⟩ : Fin 32).val := by
  have hi : idx_main_v29 (ix2 i 0) = ix1 i := by funext a; match a with | ⟨0, _⟩ => rfl
  rw [val_main_v29_apply, hi, val_main_v28_apply, val_main_v25_apply, val_main_v24_apply, val_main_c_6_apply]
  unfold Scalar.select
  refine (if_neg (not_neg _ (be_le (F := Ideal) x0 i))).trans (BitVec.eq_of_toNat_eq ?_)
  rw [BitVec.toNat_ofNat]
  exact (Nat.mod_eq_of_lt (BitVec.isLt _)).symm

theorem index_of' (i : Fin 161) : val_main_v39 (F := Ideal) x0 (ix2 i 0)
    = BitVec.ofNat 32 (⟨(beOf (F := Ideal) x0 (ix1 i)).toNat, Nat.lt_succ_of_le (be_le _ _)⟩ : Fin 32).val :=
  index_of x0 i

/-- The gathered weights. -/
theorem weights_of (i : Fin 161) (k j : Fin 2048) : val_main_v30 (F := Ideal) x0 x2 (ix3 i k j)
    = x2 (ix4 0 ⟨(beOf (F := Ideal) x0 (ix1 i)).toNat, Nat.lt_succ_of_le (be_le _ _)⟩ k j) := by
  unfold val_main_v30
  refine (Cert.Gathered.matrix_apply _ rfl rfl rfl rfl rfl _ _ i k j _ (index_of x0 i) (by decide)).trans ?_
  generalize (⟨(beOf (F := Ideal) x0 (ix1 i)).toNat, Nat.lt_succ_of_le (be_le _ _)⟩ : Fin 32) = e
  rw [val_main_v23_apply, val_main_v22_apply]
  refine congrArg x2 (funext fun a => Fin.ext ?_)
  have he := e.isLt
  match a with
  | ⟨0, _⟩ => rfl
  | ⟨1, _⟩ => show ((e.val * 2048 + k.val) * 2048 + j.val) / 4194304 % 32 = e.val; omega
  | ⟨2, _⟩ => show ((e.val * 2048 + k.val) * 2048 + j.val) / 2048 % 2048 = k.val; omega
  | ⟨3, _⟩ => show ((e.val * 2048 + k.val) * 2048 + j.val) % 2048 = j.val; omega

/-- The gathered biases. -/
theorem biases_of (i : Fin 161) (j : Fin 2048) : val_main_v40 (F := Ideal) x0 x3 (ix2 i j)
    = x3 (ix3 0 ⟨(beOf (F := Ideal) x0 (ix1 i)).toNat, Nat.lt_succ_of_le (be_le _ _)⟩ j) := by
  unfold val_main_v40
  refine (Routing.gather_row _ rfl rfl rfl rfl rfl _ _ i j _ (index_of' x0 i) (by decide)).trans ?_
  generalize (⟨(beOf (F := Ideal) x0 (ix1 i)).toNat, Nat.lt_succ_of_le (be_le _ _)⟩ : Fin 32) = e
  refine (val_main_v33_apply _ _).trans ?_
  rw [val_main_v32_apply]
  refine congrArg x3 (funext fun a => Fin.ext ?_)
  have he := e.isLt
  match a with
  | ⟨0, _⟩ => rfl
  | ⟨1, _⟩ => show (e.val * 2048 + j.val) / 2048 % 32 = e.val; omega
  | ⟨2, _⟩ => show (e.val * 2048 + j.val) % 2048 = j.val; omega

/-- The rows in blocks. -/
theorem rows_of (i : Fin 161) (p : Fin 512) (k : Fin 2048) : val_main_v21 (F := Ideal) x1 (ix3 i p k)
    = x1 (ix2 ⟨i.val * 512 + p.val, by omega⟩ k) := by
  rw [val_main_v21_apply, val_main_v20_apply]
  show x1 _ = x1 _
  refine congrArg x1 (funext fun a => Fin.ext ?_)
  match a with
  | ⟨0, _⟩ => show ((i.val * 512 + p.val) * 2048 + k.val) / 2048 = i.val * 512 + p.val; omega
  | ⟨1, _⟩ => show ((i.val * 512 + p.val) * 2048 + k.val) % 2048 = k.val; omega

/-- The reference's blocks. -/
theorem block_of (i : Fin 161) (p : Fin 512) (j : Fin 2048) : val_main_v49 (F := Ideal) x0 x1 x2 x3 (ix3 i p j)
    = rowAt x0 x1 x2 x3 i ⟨i.val * 512 + p.val, by omega⟩ j := by
  have hl : ∀ k, lidx_main_v31 (ix3 i p j) k = ix3 i p k := fun k => by
    funext a; match a with | ⟨0, _⟩ => rfl | ⟨1, _⟩ => rfl | ⟨2, _⟩ => rfl
  have hr : ∀ k, ridx_main_v31 (ix3 i p j) k = ix3 i k j := fun k => by
    funext a; match a with | ⟨0, _⟩ => rfl | ⟨1, _⟩ => rfl | ⟨2, _⟩ => rfl
  have hb : idx_main_v41 (idx_main_v42 (ix3 i p j)) = ix2 i j := by
    funext a; match a with | ⟨0, _⟩ => rfl | ⟨1, _⟩ => rfl
  have hm : idx_main_v48 (idx_main_call2_v1 (ix3 i p j)) = ix1 i := by
    funext a; match a with | ⟨0, _⟩ => rfl
  have hs : val_main_v43 (F := Ideal) x0 x1 x2 x3 (ix3 i p j)
      = (∑ k : Fin 2048, (x1 (ix2 ⟨i.val * 512 + p.val, by omega⟩ k) : EReal)
          * x2 (ix4 0 ⟨(beOf (F := Ideal) x0 (ix1 i)).toNat, Nat.lt_succ_of_le (be_le _ _)⟩ k j))
        + x3 (ix3 0 ⟨(beOf (F := Ideal) x0 (ix1 i)).toNat, Nat.lt_succ_of_le (be_le _ _)⟩ j) := by
    rw [val_main_v43_apply, val_main_v31_apply, val_main_v42_apply, val_main_v41_apply, hb, biases_of]
    simp only [hl, hr, rows_of, weights_of]
    rfl
  rw [val_main_v49_apply, val_main_call2_v1_apply, val_main_v48_apply, hm,
    val_main_call2_v2_apply, val_main_call2_v0_apply, val_main_cst_apply, hs]
  unfold rowAt Scalar.select
  exact ite_congr rfl (fun _ => rfl) fun _ => Ideal.ofBits_zero_f32

/-- The reference's array. -/
theorem reference_rows : val_main_v50 (F := Ideal) x0 x1 x2 x3 = rowsOf x0 x1 x2 x3 := by
  funext q
  obtain ⟨r, j, rfl⟩ : ∃ (r : Fin 82432) (j : Fin 2048), q = ix2 r j := ⟨q 0, q 1, by
    funext a; match a with | ⟨0, _⟩ => rfl | ⟨1, _⟩ => rfl⟩
  have hr := r.isLt
  have hq : idx_main_v50 (ix2 r j) = ix3 ⟨r.val / 512, by omega⟩ ⟨r.val % 512, by omega⟩ j := by
    funext a; apply Fin.ext
    match a with
    | ⟨0, _⟩ => show (r.val * 2048 + j.val) / 1048576 = r.val / 512; omega
    | ⟨1, _⟩ => show (r.val * 2048 + j.val) / 2048 % 512 = r.val % 512; omega
    | ⟨2, _⟩ => show (r.val * 2048 + j.val) % 2048 = j.val; omega
  rw [val_main_v50_apply, hq, block_of]
  unfold rowsOf
  refine congrArg (fun r' => rowAt x0 x1 x2 x3 ⟨r.val / 512, by omega⟩ r' j) (Fin.ext ?_)
  show r.val / 512 * 512 + r.val % 512 = r.val
  omega

end Cert.Kernel3Ideal.Expert

end
-- ==== Proof.Expert.Claims.lean ====
module

public import proofs.«01_k».proof.Defs
public import proofs.«01_k».proof.Proof.Gen.Kernel3.Launch
public import proofs.«01_k».proof.Proof.Expert.Array
public import proofs.«01_k».proof.Proof.Expert.Reference
public import Idealize.ShloMosaic.Lib.Quiescent

/-! The claims about the experts' second product: both kernels and the reference run, and kernel and reference agree on
all arguments. -/

@[expose] public section
noncomputable section

namespace Cert.Kernel3Ideal.Expert

open Idealize.ShloMosaic Idealize.SL.Sem

/-- The program at its own dtypes is the ideal one's text, so that its frame is the same statement. -/
theorem same_text :
    (∀ (m : (ℓ : Loc Cert.Kernel3.nD Cert.Kernel3.τ Cert.Kernel3.sig) → Buf (Elt Bits) ℓ) (g : Dev Cert.Kernel3.nD → PrngReg),
      θ_run (Cert.Kernel3.defs (F := Bits)) (onTc (τ := Cert.Kernel3.τ) (Cert.Kernel3.main (F := Bits))) ⟨m, fun _ => 0, g⟩ (fun r => (∀ c : Dev Cert.Kernel3.nD,
        r.2.mem ((c.tc : Thread Cert.Kernel3.nD Cert.Kernel3.τ).loc Cert.Kernel3.main_arg0) = m ((c.tc : Thread Cert.Kernel3.nD Cert.Kernel3.τ).loc Cert.Kernel3.main_arg0)
        ∧ r.2.mem ((c.tc : Thread Cert.Kernel3.nD Cert.Kernel3.τ).loc Cert.Kernel3.main_arg1) = m ((c.tc : Thread Cert.Kernel3.nD Cert.Kernel3.τ).loc Cert.Kernel3.main_arg1)
        ∧ r.2.mem ((c.tc : Thread Cert.Kernel3.nD Cert.Kernel3.τ).loc Cert.Kernel3.main_arg2) = m ((c.tc : Thread Cert.Kernel3.nD Cert.Kernel3.τ).loc Cert.Kernel3.main_arg2)
        ∧ r.2.mem ((c.tc : Thread Cert.Kernel3.nD Cert.Kernel3.τ).loc Cert.Kernel3.main_arg3) = m ((c.tc : Thread Cert.Kernel3.nD Cert.Kernel3.τ).loc Cert.Kernel3.main_arg3))
        ∧ r.2.sem = fun _ => 0))
    = (∀ (m : (ℓ : Loc Cert.Kernel3Ideal.nD Cert.Kernel3Ideal.τ Cert.Kernel3Ideal.sig) → Buf (Elt Bits) ℓ) (g : Dev Cert.Kernel3Ideal.nD → PrngReg),
      θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
        r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
        ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
        ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
        ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
        ∧ r.2.sem = fun _ => 0)) := by
  chain_rfl

/-- The kernel at its own dtypes runs, leaves its arguments as they were and every counter at zero. -/
theorem kernel_frame : Cert.quiescent_Kernel3 := fun m ρ _ => same_text.mpr (fun m ρ => frame m ρ) m ρ

/-- So does the ideal kernel. -/
theorem ideal_frame : Cert.quiescent_Kernel3Ideal := fun m ρ _ => frame m ρ

/-- So does the reference: it declares no counter. -/
theorem reference_frame : Cert.quiescent_Reference3Ideal := fun m ρ _ =>
  (θ_run Cert.Reference3Ideal.defs _ _).mono (fun _ h => ⟨fun c => (h c).2, sem_eq_zero_of_no_sems (by decide) _⟩) (Cert.Reference3Ideal.Value.run m ρ)

/-- Kernel and reference end with the same array: each row times its block's expert's weights, plus the expert's biases, and
    zero past the last expert's rows. -/
theorem algebraic : Cert.algebraic_Kernel3Ideal_Reference3Ideal := fun m ρ m' ρ' _ harg =>
  ⟨fun c => outOf m c, run m ρ,
    (θ_run Cert.Reference3Ideal.defs _ _).mono (fun _ h c => ⟨by
      obtain ⟨e0, e1, e2, e3⟩ := harg c
      rw [(h c).1, Cert.Reference3Ideal.Read.val_main_v50_eq, e0, e1, e2, e3]
      obtain rfl : c = 0 := Subsingleton.elim _ _
      exact reference_rows _ _ _ _, (h c).2⟩) (Cert.Reference3Ideal.Value.run m' ρ')⟩

end Cert.Kernel3Ideal.Expert

end
-- ==== Proof.Hidden.Kit.lean ====
/- The first product of the experts (`Cert.Kernel4Ideal`), the launch: the buffers when the
   pipeline is entered, the two prefetched tables, the windows' blocks, and the frame's reading of
   a finished run. -/
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel4Ideal.Hidden

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the pipeline -/

/-- The host operations before the pipeline, in order. -/
abbrev host : List (HloOp τ sig (Elt F)) :=
  List.flatten [hostOps0, hostOps0_1, hostOps0_2, hostOps0_3, hostOps0_4]

/-- A core's buffers when the pipeline is entered. -/
abbrev V (c : Dev nD) (b : Ref sig .tc) : Buf (Elt F) ((c : Thread nD τ).loc b) :=
  StableHlo.after host (fun b => m (c, b)) b

/-- No line of host operations takes a fresh buffer. -/
theorem lines_fresh : [hostOps0, hostOps0_1, hostOps0_2, hostOps0_3, hostOps0_4].Forall
    fun l : List (HloOp τ sig (Elt F)) => l.Forall fun op => op.fresh = ∅ := by
  simp only [List.Forall]; repeat' constructor

set_option maxHeartbeats 800000 in
/-- @main is its lines of host operations and then the pipeline. -/
theorem hmain (𝒱₀ : Variants) : Pipeline.HMainP (Ix := Unit) (Name := ℕ) (U := UR sig nD τ)
    (Lvl := ℕ) pcfgs 0 defs₀ 𝒱₀ m (main (F := F)) (V m) :=
  Pipeline.hmainP_prefixes pcfgs 0 defs₀ 𝒱₀ m main
    [hostOps0, hostOps0_1, hostOps0_2, hostOps0_3, hostOps0_4]
    (by simp only [List.Forall]
        exact ⟨hostOps0_sub, hostOps0_1_sub, hostOps0_2_sub, hostOps0_3_sub, hostOps0_4_sub⟩)
    lines_fresh main_chain

/-- The four arguments. -/
abbrev args : List (Ref sig .tc) := [main_arg0, main_arg1, main_arg2, main_arg3]

/-- No host operation writes an argument. -/
theorem V_arg (c : Dev nD) : ∀ b ∈ args, V m c b = m ((c : Thread nD τ).loc b) := by
  intro b hb
  refine StableHlo.after_of_forall_not_mem (b := Proc.devRef .tc b) _ _
    (List.forall_iff_forall_mem.mp ?_)
  simp only [args, List.mem_cons, List.not_mem_nil, or_false] at hb
  simp only [host, hostOps0, hostOps0_1, hostOps0_2, hostOps0_3, hostOps0_4, List.flatten_cons,
    List.flatten_nil, List.append_nil, List.cons_append, List.nil_append, List.Forall,
    StableHlo.nullary_writes, StableHlo.unary_writes, StableHlo.binary_writes,
    StableHlo.ternary_writes, StableHlo.quaternary_writes, StableHlo.reshape_writes,
    StableHlo.binaryIndexed_writes, Finset.mem_singleton]
  rcases hb with rfl | rfl | rfl | rfl <;> repeat' apply And.intro
  all_goals exact StableHlo.devRef_ne_of_ne (by decide)

/-! ## The prefetched tables -/

/-- The tables' contents when the pipeline is entered. -/
def tbl : pre0.Contents (Elt F) := fun j => V m (0 : Dev nD) (pre0.ref j)

/-- Every device's tables hold them: there is one device. -/
theorem V_pre (c : Dev nD) (j : Fin 2) : V m c (pre0.ref j) = tbl m j := by
  obtain rfl : c = 0 := Subsingleton.elim _ _
  rfl

/-- The windows that read a table stay inside their arrays. -/
abbrev Ok : Prop := ok0 (F := F) (tbl m)

/-- The tables' contents as admissible contents. -/
abbrev adm (hO : Ok m) : (pcfg0 (F := F)).Adm := ⟨tbl m, hO⟩

/-- The pipeline at them. -/
abbrev cfgM (hO : Ok m) : Pipeline.Cfg sig Λ₀ := cfg0 (adm m hO)

/-- The table of the blocks' experts, and the table of the blocks' flags. -/
abbrev tbE : Memref sig .tc .smem S161 .i32 := Memref.whole main_v19
abbrev tbF : Memref sig .tc .smem S161 .i32 := Memref.whole main_v33

/-- What a table holds, on a core. -/
abbrev TbBuf (c : Dev nD) {S : Shape} {e : EltTy} (M : Memref sig .tc .smem S e) : Type :=
  Buf (Elt F) (M.view.loc (c : Thread nD τ))

/-- A table held for reading at `f`. -/
abbrev tbPt (c : Dev nD) {S : Shape} {e : EltTy} (M : Memref sig .tc .smem S e)
    (f : TbBuf (F := F) c M) : sProp 𝕄 :=
  M.view.loc (c : Thread nD τ) ↦{fullShare.right} f

/-- What the pipeline hands the body of the tables, table by table. -/
theorem PhiT_eq (c : Dev nD) : (Pipeline.ΦT pre0 (tbl m) c : sProp 𝕄)
    = iprop(tbPt c tbE (tbl m 0) ∗ tbPt c tbF (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the pipeline finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The rows' window holds its block at every point, fetched there or not. -/
theorem before_0 (hO : Ok m) {c : Dev nD} (dat : Dat τ (Elt F) Unit ℕ (UR sig nD τ) ℕ (cfgM m hO) c)
    (hA : dat.A 0 = V m c (Pipeline.arrRef spec0 0)) (ha : ∀ t, dat.after 0 t = iblk m hO c 0 t)
    (t : Fin (cfgM m hO).N) (d) : dat.before 0 t d = iblk m hO c 0 t :=
  (dat.before_in_eq_fetched 0 rfl (fun _ => rfl) (fun _ _ _ => rfl)
    (fun t => by rw [ha]; unfold Dat.blockOf iblk; rw [hA]; try rfl) t d).trans
    (by unfold Dat.fetched Dat.blockOf iblk; rw [hA]; try rfl)

/-- The gates' weights' window likewise. -/
theorem before_1 (hO : Ok m) {c : Dev nD} (dat : Dat τ (Elt F) Unit ℕ (UR sig nD τ) ℕ (cfgM m hO) c)
    (hA : dat.A 1 = V m c (Pipeline.arrRef spec0 1)) (ha : ∀ t, dat.after 1 t = iblk m hO c 1 t)
    (t : Fin (cfgM m hO).N) (d) : dat.before 1 t d = iblk m hO c 1 t :=
  (dat.before_in_eq_fetched 1 rfl (fun _ => rfl) (fun _ _ _ => rfl)
    (fun t => by rw [ha]; unfold Dat.blockOf iblk; rw [hA]; try rfl) t d).trans
    (by unfold Dat.fetched Dat.blockOf iblk; rw [hA]; try rfl)

/-- The linear halves' weights' window likewise. -/
theorem before_2 (hO : Ok m) {c : Dev nD} (dat : Dat τ (Elt F) Unit ℕ (UR sig nD τ) ℕ (cfgM m hO) c)
    (hA : dat.A 2 = V m c (Pipeline.arrRef spec0 2)) (ha : ∀ t, dat.after 2 t = iblk m hO c 2 t)
    (t : Fin (cfgM m hO).N) (d) : dat.before 2 t d = iblk m hO c 2 t :=
  (dat.before_in_eq_fetched 2 rfl (fun _ => rfl) (fun _ _ _ => rfl)
    (fun t => by rw [ha]; unfold Dat.blockOf iblk; rw [hA]; try rfl) t d).trans
    (by unfold Dat.fetched Dat.blockOf iblk; rw [hA]; try rfl)

/-- The gates' biases' window likewise. -/
theorem before_3 (hO : Ok m) {c : Dev nD} (dat : Dat τ (Elt F) Unit ℕ (UR sig nD τ) ℕ (cfgM m hO) c)
    (hA : dat.A 3 = V m c (Pipeline.arrRef spec0 3)) (ha : ∀ t, dat.after 3 t = iblk m hO c 3 t)
    (t : Fin (cfgM m hO).N) (d) : dat.before 3 t d = iblk m hO c 3 t :=
  (dat.before_in_eq_fetched 3 rfl (fun _ => rfl) (fun _ _ _ => rfl)
    (fun t => by rw [ha]; unfold Dat.blockOf iblk; rw [hA]; try rfl) t d).trans
    (by unfold Dat.fetched Dat.blockOf iblk; rw [hA]; try rfl)

/-- The linear halves' biases' window likewise. -/
theorem before_4 (hO : Ok m) {c : Dev nD} (dat : Dat τ (Elt F) Unit ℕ (UR sig nD τ) ℕ (cfgM m hO) c)
    (hA : dat.A 4 = V m c (Pipeline.arrRef spec0 4)) (ha : ∀ t, dat.after 4 t = iblk m hO c 4 t)
    (t : Fin (cfgM m hO).N) (d) : dat.before 4 t d = iblk m hO c 4 t :=
  (dat.before_in_eq_fetched 4 rfl (fun _ => rfl) (fun _ _ _ => rfl)
    (fun t => by rw [ha]; unfold Dat.blockOf iblk; rw [hA]; try rfl) t d).trans
    (by unfold Dat.fetched Dat.blockOf iblk; rw [hA]; try rfl)

/-! ## The staging buffers as the body is handed them -/

abbrev ms_0 (hO : Ok m) (t : Fin (cfgM m hO).N) : Memref sig .tc .vmem S512x1024 .i32 :=
  spec0_0.stage ((cfgM m hO).slots t 0)
abbrev ms_1 (hO : Ok m) (t : Fin (cfgM m hO).N) : Memref sig .tc .vmem S1x1x2048x512 .f32 :=
  spec0_1.stage ((cfgM m hO).slots t 1)
abbrev ms_2 (hO : Ok m) (t : Fin (cfgM m hO).N) : Memref sig .tc .vmem S1x1x2048x512 .f32 :=
  spec0_2.stage ((cfgM m hO).slots t 2)
abbrev ms_3 (hO : Ok m) (t : Fin (cfgM m hO).N) : Memref sig .tc .vmem S1x1x1x512 .f32 :=
  spec0_3.stage ((cfgM m hO).slots t 3)
abbrev ms_4 (hO : Ok m) (t : Fin (cfgM m hO).N) : Memref sig .tc .vmem S1x1x1x512 .f32 :=
  spec0_4.stage ((cfgM m hO).slots t 4)
abbrev ms_5 (hO : Ok m) (t : Fin (cfgM m hO).N) : Memref sig .tc .vmem S512x512 .bf16 :=
  spec0_5.stage ((cfgM m hO).slots t 5)

/-- The scratches: the current expert's weights of the gates and of the linear halves, rounded. -/
abbrev scG : Memref sig .tc .vmem S2048x512 .bf16 := Memref.whole cc0_scratch0
abbrev scL : Memref sig .tc .vmem S2048x512 .bf16 := Memref.whole cc0_scratch1

/-- The pipeline's own invariant: the scratches at some contents, and the generator register. -/
theorem PhiA_eq (c : Dev nD) : (Pipeline.ΦA spec0 c : sProp 𝕄)
    = iprop(iprop((∃ d, owns (c : Thread nD τ) scG fullShare d) ∗ (∃ d, owns (c : Thread nD τ) scL fullShare d))
        ∗ (∃ r, prngReg c r)) := by
  unfold Pipeline.ΦA; rw [scopedRest0_eq]; simp only [scG, scL, owns_whole]; try rfl

/-- The body at point `t`, on the staging buffers of that point. -/
def bodyAt (a : (pcfg0 (F := F)).Adm) (t : Fin (cfg0 a).N) :
    Prog (TpuEff nD τ sig (Elt F) Λ₀ .tc) PUnit :=
  cc0_moe_gmm1 (grid0.coords t) tbE (Memref.isWhole_whole _) tbF (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))
    scG (Memref.isWhole_whole _) scL (Memref.isWhole_whole _)

/-- The pipeline's body at point `t` is that. -/
theorem defs₀_row (hO : Ok m) (t : Fin (cfgM m hO).N) :
    defs₀ (F := F) .tc (cfgM m hO).body ((cfgM m hO).bodyArgs t ((cfgM m hO).slots t))
      = bodyAt (adm m hO) t := by
  unfold defs₀; rw [Defs.onTc_tc]; rfl

end Cert.Kernel4Ideal.Hidden

end
-- ==== Proof.Hidden.Tables.lean ====
/- The first product of the experts (`Cert.Kernel4Ideal`), the two tables as functions of the
   counts of rows per expert. -/
module

public import proofs.«01_k».proof.Proof.Hidden.Kit
public import proofs.«01_k».proof.Proof.Expert.Routing

@[expose] public section

set_option maxRecDepth 16384

noncomputable section

namespace Cert.Kernel4Ideal.Hidden

open Idealize.ShloMosaic Idealize.ShloMosaic.TcCoe Idealize.ShloMosaic.Tactic
open Cert.Kernel4Ideal Cert.Kernel4Ideal.Gen

open Cert.Kernel3Ideal.Expert (beOf liveOf flagsOf)

variable {F : FTy → Type} [FloatOps F]
variable (m : (ℓ : Loc nD τ sig) → Buf (Elt F) ℓ)

/-- The first table holds each block's expert. -/
theorem V_be (c : Dev nD) : V m c main_v19 = beOf (m ((c : Thread nD τ).loc main_arg0)) := by
  chain_rfl

/-- The second table holds the blocks' flags. -/
theorem V_flags (c : Dev nD) : V m c main_v33
    = flagsOf (beOf (m ((c : Thread nD τ).loc main_arg0)))
        (liveOf (m ((c : Thread nD τ).loc main_arg0))) := by
  chain_rfl

/-- The biases as the pipeline stages them: the argument with an axis of one added. -/
theorem V_b1 (c : Dev nD) : V m c main_v34
    = shapeCast S2x32x1x4096 (m ((c : Thread nD τ).loc main_arg3) :
        (⟨S2x32x4096, .f32⟩ : BufTy).Contents (Elt F)) shapeCasts_S2x32x4096_S2x32x1x4096 := by
  chain_rfl

end Cert.Kernel4Ideal.Hidden

end
-- ==== Proof.Hidden.Run.lean ====
/- The first product of the experts (`Cert.Kernel4Ideal`), the body: what one point's body leaves
   in the two scratches and in the output block, in terms of the flags' word it reads. -/
module

public import proofs.«01_k».proof.Proof.Hidden.Kit
public import proofs.«01_k».proof.Proof.Expert.Run

@[expose] public section

set_option maxRecDepth 16384

noncomputable section

namespace Cert.Kernel4Ideal.Hidden

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen
open Cert.Kernel3Ideal.Expert (condNew)

variable {F : FTy → Type} [FloatOps F]

local notation "𝕄" => MT nD τ sig Unit (Elt F) ℕ (UR sig nD τ) ℕ

/-- The flags' word the body reads at coordinates `i`. -/
abbrev flagAt (c : Dev nD) (xt1 : TbBuf (F := F) c tbF) (i : grid0.Coords) : BitVec 32 :=
  tbF.view.readAt (Elt F) (Rect.unit (s := S161) (k0_off1 i) S1.size (k0_off1_inb i)).toLoadRect xt1
    (Shape.Idx.first (numel1_S1.symm ▸ Nat.one_pos))

/-- What the body leaves in the gates' scratch and in the linear halves'. -/
def scrG (v1 : BitVec 32) (x1 : Vec F S1x1x2048x512 .f32) (xs : Vec F S2048x512 .bf16) :
    Vec F S2048x512 .bf16 :=
  if condNew v1 then k0_pay1 x1 else xs
def scrL (v1 : BitVec 32) (x2 : Vec F S1x1x2048x512 .f32) (xs : Vec F S2048x512 .bf16) :
    Vec F S2048x512 .bf16 :=
  if condNew v1 then k0_pay2 x2 else xs

/-- The activated block, of the rows, the two weights and the two biases. -/
def active (x0 : Vec F S512x1024 .i32) (wg wl : Vec F S2048x512 .bf16) (x3 x4 : Vec F S1x1x1x512 .f32) :
    Vec F S512x512 .bf16 :=
  k0_pay3 (k0_pay6 x0 wg x3) (k0_pay7 x0 wl x4) (k0_pay8 x0 wg x3) k0_pay9

/-- What the body leaves in the output block. -/
def blkOut (v1 : BitVec 32) (x0 : Vec F S512x1024 .i32) (wg wl : Vec F S2048x512 .bf16)
    (x3 x4 : Vec F S1x1x1x512 .f32) : Vec F S512x512 .bf16 :=
  if k0_cond2 v1 = 1#1 then active x0 wg wl x3 x4 else k0_pay4

/-- A whole buffer loaded whole reads what it holds. -/
theorem load_whole {κ : Kind} {sp : Space} {s : Shape} {e : EltTy} {M : Memref sig κ sp s e}
    (h : M.IsWhole) (X : s.Idx → Elt F e) {off : Fin s.rank → ℕ}
    (inb : ∀ a, off a + s.size a ≤ s.size a) :
    M.view.readAt (Elt F) (Rect.unit off s.size inb).toLoadRect (h.unread X) = X :=
  (View.readAt_full _ _ inb).trans (h.read_unread X)

set_option maxHeartbeats 1000000 in
/-- The body on whole buffers: the inputs stay, the scratches and the output block are as above. -/
theorem body_run (c : Dev nD) (i : grid0.Coords)
    (arg4 : Memref sig .tc .vmem S512x1024 .i32) (harg4 : arg4.IsWhole)
    (arg5 : Memref sig .tc .vmem S1x1x2048x512 .f32) (harg5 : arg5.IsWhole)
    (arg6 : Memref sig .tc .vmem S1x1x2048x512 .f32) (harg6 : arg6.IsWhole)
    (arg7 : Memref sig .tc .vmem S1x1x1x512 .f32) (harg7 : arg7.IsWhole)
    (arg8 : Memref sig .tc .vmem S1x1x1x512 .f32) (harg8 : arg8.IsWhole)
    (arg9 : Memref sig .tc .vmem S512x512 .bf16) (harg9 : arg9.IsWhole)
    (arg10 : Memref sig .tc .vmem S2048x512 .bf16) (harg10 : arg10.IsWhole)
    (arg11 : Memref sig .tc .vmem S2048x512 .bf16) (harg11 : arg11.IsWhole)
    (x0 : Vec F S512x1024 .i32) (x1 x2 : Vec F S1x1x2048x512 .f32) (x3 x4 : Vec F S1x1x1x512 .f32)
    (xg xl : Vec F S2048x512 .bf16)
    (xt0 : TbBuf (F := F) c tbE) (xt1 : TbBuf (F := F) c tbF)
    (h32 : k0_cond3 (flagAt c xt1 i) = 1#1 ↔ ¬k0_cond2 (flagAt c xt1 i) = 1#1)
    (E : Set ℕ) (K : PUnit → sProp 𝕄) :
    iprop(owns (c : Thread nD τ) arg4 fullShare x0 ∗ owns (c : Thread nD τ) arg5 fullShare x1
        ∗ owns (c : Thread nD τ) arg6 fullShare x2 ∗ owns (c : Thread nD τ) arg7 fullShare x3
        ∗ owns (c : Thread nD τ) arg8 fullShare x4 ∗ (∃ d, owns (c : Thread nD τ) arg9 fullShare d)
        ∗ owns (c : Thread nD τ) arg10 fullShare xg ∗ owns (c : Thread nD τ) arg11 fullShare xl
        ∗ tbPt c tbE xt0 ∗ tbPt c tbF xt1
        ∗ (iprop(owns (c : Thread nD τ) arg4 fullShare x0 ∗ owns (c : Thread nD τ) arg5 fullShare x1
            ∗ owns (c : Thread nD τ) arg6 fullShare x2 ∗ owns (c : Thread nD τ) arg7 fullShare x3
            ∗ owns (c : Thread nD τ) arg8 fullShare x4
            ∗ owns (c : Thread nD τ) arg9 fullShare
                (blkOut (flagAt c xt1 i) x0 (scrG (flagAt c xt1 i) x1 xg) (scrL (flagAt c xt1 i) x2 xl) x3 x4)
            ∗ owns (c : Thread nD τ) arg10 fullShare (scrG (flagAt c xt1 i) x1 xg)
            ∗ owns (c : Thread nD τ) arg11 fullShare (scrL (flagAt c xt1 i) x2 xl)
            ∗ tbPt c tbE xt0 ∗ tbPt c tbF xt1) -∗ K ⟨⟩))
      ⊢ wp frame (wpE (defs₀ (F := F)) Variants.none c none) E
          (cc0_moe_gmm1 i tbE (Memref.isWhole_whole _) tbF (Memref.isWhole_whole _) arg4 harg4
            arg5 harg5 arg6 harg6 arg7 harg7 arg8 harg8 arg9 harg9 arg10 harg10 arg11 harg11) K := by
  have hb : (k0_cond2 (flagAt c xt1 i) = 1#1 ∧ ¬k0_cond3 (flagAt c xt1 i) = 1#1)
      ∨ (¬k0_cond2 (flagAt c xt1 i) = 1#1 ∧ k0_cond3 (flagAt c xt1 i) = 1#1) := by
    by_cases h : k0_cond2 (flagAt c xt1 i) = 1#1
    · exact Or.inl ⟨h, fun h' => h32.mp h' h⟩
    · exact Or.inr ⟨h, h32.mpr h⟩
  rcases hb with ⟨h2, h3⟩ | ⟨h2, h3⟩ <;> by_cases h1 : condNew (flagAt c xt1 i) <;>
  · simp only [scrG, scrL, blkOut, h2, if_true, if_false]
    first
      | rw [if_pos (show condNew (flagAt c xt1 i) from h1), if_pos (show condNew (flagAt c xt1 i) from h1)]
      | rw [if_neg (show ¬condNew (flagAt c xt1 i) from h1), if_neg (show ¬condNew (flagAt c xt1 i) from h1)]
    simp only [cc0_moe_gmm1_eq_skeleton]; unfold cc0_moe_gmm1_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fg, %hfg, HG⟩, ⟨%fl, %hfl, HL⟩, HT0, HT1, Hk⟩
    obtain rfl := harg4.eq_unread hf0; obtain rfl := harg5.eq_unread hf1
    obtain rfl := harg6.eq_unread hf2; obtain rfl := harg7.eq_unread hf3
    obtain rfl := harg8.eq_unread hf4; obtain rfl := harg10.eq_unread hfg
    obtain rfl := harg11.eq_unread hfl
    sl_exec (disch := first | sl_exact h1 | sl_exact h2 | sl_exact h3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; swap; · iexact H5
      ipureintro
      rw [View.read_writes_full]
      first
        | done
        | (unfold active; dsimp only
           rw [load_whole harg4, load_whole harg10, load_whole harg7, load_whole harg11, load_whole harg8])
        | (unfold active; dsimp only
           rw [load_whole harg4, load_whole harg7, load_whole harg8]
           unfold body_run.sl.v23 body_run.sl.v31 body_run.sl.HG_1 body_run.sl.HL_1 body_run.sl.v14 body_run.sl.v20
           rw [View.readCov_full, View.readCov_full]
           rw [load_whole harg5, load_whole harg6])
    isplitl [HG]
    · iexists _; isplitr; swap; · iexact HG
      ipureintro
      first
        | rw [harg10.read_unread]
        | (unfold body_run.sl.HG_1 body_run.sl.v14; rw [View.read_writes_full, load_whole harg5])
        | (rw [View.read_writes_full]; unfold body_run.sl.v14_1; rw [load_whole harg5])
    isplitl [HL]
    · iexists _; isplitr; swap; · iexact HL
      ipureintro
      first
        | rw [harg11.read_unread]
        | (unfold body_run.sl.HL_1 body_run.sl.v20; rw [View.read_writes_full, load_whole harg6])
        | (rw [View.read_writes_full]; unfold body_run.sl.v20_1; rw [load_whole harg6])
    isplitl [HT0]; · iexact HT0
    iexact HT1

end Cert.Kernel4Ideal.Hidden

end
-- ==== Proof.Hidden.Blocks.lean ====
/- The first product of the experts (`Cert.Kernel4Ideal`): the windows stay inside their arrays,
   every point stores its output block, and the windows' blocks at coordinates. -/
module

public import proofs.«01_k».proof.Proof.Hidden.Tables
public import proofs.«01_k».proof.Proof.Hidden.Run
public import Idealize.ShloMosaic.Lib.Pipeline.ValueKit

@[expose] public section

set_option maxRecDepth 16384
set_option backward.isDefEq.respectTransparency.types false

noncomputable section

namespace Cert.Kernel4Ideal.Hidden

open Idealize.ShloMosaic Idealize.ShloMosaic.TcCoe Idealize.ShloMosaic.Tactic
open Cert.Kernel4Ideal Cert.Kernel4Ideal.Gen
open Cert.Kernel3Ideal.Expert (beOf liveOf flagsOf condNew be_le conds flagsOf_apply newBit_zero)

variable {F : FTy → Type} [FloatOps F]
variable (m : (ℓ : Loc nD τ sig) → Buf (Elt F) ℓ)

/-! ## The tables as the pipeline reads them -/

/-- The counts, as launched. -/
abbrev cnt : (⟨S32, .i32⟩ : BufTy).Contents (Elt F) := m (((0 : Dev nD) : Thread nD τ).loc main_arg0)

theorem tbl_be : tbl m 0 = beOf (cnt m) := V_be m 0
theorem tbl_flags : tbl m 1 = flagsOf (beOf (cnt m)) (liveOf (cnt m)) := V_flags m 0

/-- The entry of a table that the body and the windows read at coordinates `i`. -/
theorem off1_idx (i : grid0.Coords) (y : Shape.Idx (Rect.unit (s := S161) (k0_off1 i) S1.size (k0_off1_inb i)).shape) :
    (Rect.unit (s := S161) (k0_off1 i) S1.size (k0_off1_inb i)).toLoadRect.idx y
      = ix1 (⟨(i 1).val, (i 1).isLt⟩ : Fin 161) := by
  funext a
  match a with
  | ⟨0, _⟩ =>
    have hy : (y 0).val < 1 := (y 0).isLt
    have hi : (i 1).val < 161 := (i 1).isLt
    apply Fin.ext
    show (BitVec.ofNat 32 (i 1).val).toNat + 1 * (y 0).val = (i 1).val
    rw [BitVec.toNat_ofNat]; omega

/-- The flags' word the body reads at coordinates `i`. -/
theorem flagAt_eq (c : Dev nD) (xt : TbBuf (F := F) c tbF) (i : grid0.Coords) :
    flagAt c xt i = (xt : IVec S161 32) (ix1 ⟨(i 1).val, (i 1).isLt⟩) :=
  congrArg (xt : IVec S161 32) (off1_idx i _)

/-- The expert the windows read at coordinates `i`. -/
theorem expertAt_eq (pf : pre0.Contents (Elt F)) (i : grid0.Coords) :
    pf.at 0 (Rect.unit (s := S161) (k0_off1 i) S1.size (k0_off1_inb i)) numel1_S1
      = (pf 0 : IVec S161 32) (ix1 ⟨(i 1).val, (i 1).isLt⟩) :=
  congrArg (pf 0 : IVec S161 32) (off1_idx i _)

/-- The block's expert at coordinates `i`. -/
abbrev expert (i : grid0.Coords) : BitVec 32 := beOf (cnt m) (ix1 ⟨(i 1).val, (i 1).isLt⟩)

theorem word_0 (i : grid0.Coords) : (BitVec.ofNat 32 (i 0).val).toNat = (i 0).val := by
  have : (i 0).val < 4 := (i 0).isLt
  rw [BitVec.toNat_ofNat]; omega

theorem word_4 (i : grid0.Coords) : (Scalar.addi 4#32 (BitVec.ofNat 32 (i 0).val)).toNat = (i 0).val + 4 := by
  have : (i 0).val < 4 := (i 0).isLt
  show (4#32 + BitVec.ofNat 32 (i 0).val).toNat = _
  rw [BitVec.toNat_add, BitVec.toNat_ofNat, BitVec.toNat_ofNat]; omega

/-- The gates' weights' block of coordinates `i`: the expert, and the quarter of the columns. -/
theorem index_1 (i : grid0.Coords) : cc0_transform_1 k0_off1_inb numel1_S1 (tbl m) i
    = ![0, (expert m i).toNat, 0, (i 0).val] := by
  show ![0, ((tbl m).at 0 (Rect.unit (s := S161) (k0_off1 i) S1.size (k0_off1_inb i)) numel1_S1).toNat,
    0, (BitVec.ofNat 32 (i 0).val).toNat] = _
  rw [expertAt_eq, tbl_be, word_0]

/-- The linear halves' weights' block: four blocks of columns further. -/
theorem index_2 (i : grid0.Coords) : cc0_transform_2 k0_off1_inb numel1_S1 (tbl m) i
    = ![0, (expert m i).toNat, 0, (i 0).val + 4] := by
  show ![0, ((tbl m).at 0 (Rect.unit (s := S161) (k0_off1 i) S1.size (k0_off1_inb i)) numel1_S1).toNat,
    0, (Scalar.addi 4#32 (BitVec.ofNat 32 (i 0).val)).toNat] = _
  rw [expertAt_eq, tbl_be, word_4]

/-- The biases' blocks likewise. -/
theorem index_3 (i : grid0.Coords) : cc0_transform_3 k0_off1_inb numel1_S1 (tbl m) i
    = ![0, (expert m i).toNat, 0, (i 0).val] := index_1 m i
theorem index_4 (i : grid0.Coords) : cc0_transform_4 k0_off1_inb numel1_S1 (tbl m) i
    = ![0, (expert m i).toNat, 0, (i 0).val + 4] := index_2 m i

/-- A block of one matrix of the stack, of `A` rows and 512 of the 4096 columns, lies inside. -/
theorem inside (e j A : Nat) (he : e ≤ 31) (hj : j < 8) (idx : Fin 4 → Nat) (h : idx = ![0, e, 0, j]) (a : Fin 4) :
    (idx a + 1) * (![1, 1, A, 512] a) ≤ ![2, 32, A, 4096] a := by
  subst h
  match a with
  | ⟨0, _⟩ => exact (by decide : (0 + 1) * 1 ≤ 2)
  | ⟨1, _⟩ => show (e + 1) * 1 ≤ 32; omega
  | ⟨2, _⟩ => show (0 + 1) * A ≤ A; omega
  | ⟨3, _⟩ => show (j + 1) * 512 ≤ 4096; omega

/-- The windows that read a table stay inside their arrays, whatever the counts. -/
theorem ok : Ok m := by
  have hb : ∀ i, (expert m i).toNat ≤ 31 := fun i => be_le (cnt m) _
  have h4 : ∀ i : grid0.Coords, (i 0).val < 4 := fun i => (i 0).isLt
  exact ⟨fun i => ⟨inside _ _ 2048 (hb i) (by have := h4 i; omega) _ (index_1 m i), Or.inl rfl⟩,
    fun i => ⟨inside _ _ 2048 (hb i) (by have := h4 i; omega) _ (index_2 m i), Or.inl rfl⟩,
    fun i => ⟨inside _ _ 1 (hb i) (by have := h4 i; omega) _ (index_3 m i), Or.inl rfl⟩,
    fun i => ⟨inside _ _ 1 (hb i) (by have := h4 i; omega) _ (index_4 m i), Or.inl rfl⟩⟩

/-- The flags' word at coordinates `i`. -/
abbrev flag (i : grid0.Coords) : BitVec 32 :=
  flagsOf (beOf (cnt m)) (liveOf (cnt m)) (ix1 ⟨(i 1).val, (i 1).isLt⟩)

theorem flagAt_tbl (c : Dev nD) (i : grid0.Coords) : flagAt c (tbl m 1) i = flag m i :=
  (flagAt_eq c (tbl m 1) i).trans
    (congrArg (fun f : IVec S161 32 => f (ix1 ⟨(i 1).val, (i 1).isLt⟩)) (tbl_flags m))

/-- The body takes the second branch exactly at a live block. -/
theorem live_iff (i : grid0.Coords) :
    k0_cond2 (flag m i) = 1#1 ↔ liveOf (cnt m) (ix1 ⟨(i 1).val, (i 1).isLt⟩) = 1#1 := by
  unfold flag
  rw [flagsOf_apply]
  exact (conds _ _).2.1

/-- The body takes the second branch exactly where it does not take the third. -/
theorem branches (i : grid0.Coords) : k0_cond3 (flag m i) = 1#1 ↔ ¬k0_cond2 (flag m i) = 1#1 := by
  rw [live_iff]
  unfold flag
  rw [flagsOf_apply]
  exact (conds _ _).2.2

/-- Where the body does not take the first branch, the block before has the same expert. -/
theorem same_expert (i : grid0.Coords) (h : ¬condNew (flag m i)) :
    ∃ hi : 1 ≤ (i 1).val, beOf (cnt m) (ix1 ⟨(i 1).val - 1, by
      have : (i 1).val < 161 := (i 1).isLt
      omega⟩) = expert m i := by
  unfold flag at h
  rw [flagsOf_apply] at h
  exact newBit_zero (beOf (cnt m)) ⟨(i 1).val, (i 1).isLt⟩ fun hb => h ((conds _ _).1.mpr hb)

/-- Every point stores its output block. -/
theorem idle_5 (i : grid0.Coords) : idle0 (tbl m) 5 i = false := by
  have hd : ((tbl m).atD 1 (k0_off1 i) : BitVec 32) = flag m i := by
    have hi : ∀ a, k0_off1 i a + 1 ≤ S161.size a := fun a => by
      match a with
      | ⟨0, _⟩ => exact k0_off1_inb i 0
    unfold Pipeline.Prefetch.Contents.atD
    refine (dif_pos hi).trans ?_
    refine Eq.trans ?_ (congrArg (fun f : IVec S161 32 => f (ix1 ⟨(i 1).val, (i 1).isLt⟩)) (tbl_flags m))
    refine congrArg (tbl m 1 : IVec S161 32) ?_
    funext a
    match a with
    | ⟨0, _⟩ =>
      have h161 : (i 1).val < 161 := (i 1).isLt
      apply Fin.ext
      show (BitVec.ofNat 32 (i 1).val).toNat = (i 1).val
      rw [BitVec.toNat_ofNat]; omega
  show (!(k0_cond2 ((tbl m).atD 1 (k0_off1 i)) == 1#1) && !(k0_cond3 ((tbl m).atD 1 (k0_off1 i)) == 1#1)) = false
  rw [hd]
  have hb := branches m i
  by_cases h : k0_cond2 (flag m i) = 1#1
  · simp [h]
  · simp [hb.mpr h]

/-! ## Coordinates of a point -/

theorem coords_0 : ∀ t : Fin grid0.N, (grid0.coords t 0).val = t.val / 161 := by decide +kernel
theorem coords_1 : ∀ t : Fin grid0.N, (grid0.coords t 1).val = t.val % 161 := by decide +kernel

variable (hO : Ok m)

/-- The block's expert and the block of columns at point `t`, the gates' and the linear halves'. -/
abbrev expAt (t : Fin (cfgM m hO).N) : Fin 32 := ⟨(expert m (grid0.coords t)).toNat, Nat.lt_succ_of_le (be_le _ _)⟩
abbrev colG (t : Fin (cfgM m hO).N) (q : Fin 512) : Fin 4096 := ⟨(grid0.coords t 0).val * 512 + q.val, by
  have : (grid0.coords t 0).val < 4 := (grid0.coords t 0).isLt
  omega⟩
abbrev colL (t : Fin (cfgM m hO).N) (q : Fin 512) : Fin 4096 := ⟨((grid0.coords t 0).val + 4) * 512 + q.val, by
  have : (grid0.coords t 0).val < 4 := (grid0.coords t 0).isLt
  omega⟩

/-! The windows' indices at point `t`. -/

theorem index_at_1 (t : Fin (cfgM m hO).N) : ((cfgM m hO).win 1).index t
    = ![0, (expert m (grid0.coords t)).toNat, 0, (grid0.coords t 0).val] :=
  (show ((cfgM m hO).win 1).index t = cc0_transform_1 k0_off1_inb numel1_S1 (tbl m) (grid0.coords t) by chain_rfl).trans
    (index_1 m (grid0.coords t))
theorem index_at_2 (t : Fin (cfgM m hO).N) : ((cfgM m hO).win 2).index t
    = ![0, (expert m (grid0.coords t)).toNat, 0, (grid0.coords t 0).val + 4] :=
  (show ((cfgM m hO).win 2).index t = cc0_transform_2 k0_off1_inb numel1_S1 (tbl m) (grid0.coords t) by chain_rfl).trans
    (index_2 m (grid0.coords t))
theorem index_at_3 (t : Fin (cfgM m hO).N) : ((cfgM m hO).win 3).index t
    = ![0, (expert m (grid0.coords t)).toNat, 0, (grid0.coords t 0).val] :=
  (show ((cfgM m hO).win 3).index t = cc0_transform_3 k0_off1_inb numel1_S1 (tbl m) (grid0.coords t) by chain_rfl).trans
    (index_3 m (grid0.coords t))
theorem index_at_4 (t : Fin (cfgM m hO).N) : ((cfgM m hO).win 4).index t
    = ![0, (expert m (grid0.coords t)).toNat, 0, (grid0.coords t 0).val + 4] :=
  (show ((cfgM m hO).win 4).index t = cc0_transform_4 k0_off1_inb numel1_S1 (tbl m) (grid0.coords t) by chain_rfl).trans
    (index_4 m (grid0.coords t))

/-- The gates' weights' block at point `t`. -/
theorem iblk_1 (c : Dev nD) (t : Fin (cfgM m hO).N) (k : Fin 2048) (q : Fin 512) :
    iblk m hO c 1 t (ix4 0 0 k q : S1x1x2048x512.Idx) = (V m c main_arg2 : (⟨S2x32x2048x4096, .f32⟩ : BufTy).Contents (Elt F))
      (ix4 0 (expAt m hO t) k (colG m hO t q)) := by
  refine congrArg (V m c main_arg2) (show (((cfgM m hO).win 1).blk t).view.emb (ix4 0 0 k q : S1x1x2048x512.Idx)
    = (ix4 0 (expAt m hO t) k (colG m hO t q) : S2x32x2048x4096.Idx) from ?_)
  have hi := index_at_1 m hO t
  funext a
  apply Fin.ext
  refine (Pipeline.Window.rect_emb_val ((cfgM m hO).win 1) t _ a).trans ?_
  rw [hi]
  match a with
  | ⟨0, _⟩ => rfl
  | ⟨1, _⟩ => show (expert m (grid0.coords t)).toNat * 1 + 0 = (expert m (grid0.coords t)).toNat; omega
  | ⟨2, _⟩ => show 0 * 2048 + k.val = k.val; omega
  | ⟨3, _⟩ => rfl

/-- The linear halves' weights' block at point `t`. -/
theorem iblk_2 (c : Dev nD) (t : Fin (cfgM m hO).N) (k : Fin 2048) (q : Fin 512) :
    iblk m hO c 2 t (ix4 0 0 k q : S1x1x2048x512.Idx) = (V m c main_arg2 : (⟨S2x32x2048x4096, .f32⟩ : BufTy).Contents (Elt F))
      (ix4 0 (expAt m hO t) k (colL m hO t q)) := by
  refine congrArg (V m c main_arg2) (show (((cfgM m hO).win 2).blk t).view.emb (ix4 0 0 k q : S1x1x2048x512.Idx)
    = (ix4 0 (expAt m hO t) k (colL m hO t q) : S2x32x2048x4096.Idx) from ?_)
  have hi := index_at_2 m hO t
  funext a
  apply Fin.ext
  refine (Pipeline.Window.rect_emb_val ((cfgM m hO).win 2) t _ a).trans ?_
  rw [hi]
  match a with
  | ⟨0, _⟩ => rfl
  | ⟨1, _⟩ => show (expert m (grid0.coords t)).toNat * 1 + 0 = (expert m (grid0.coords t)).toNat; omega
  | ⟨2, _⟩ => show 0 * 2048 + k.val = k.val; omega
  | ⟨3, _⟩ => rfl

/-- The gates' biases' block at point `t`. -/
theorem iblk_3 (c : Dev nD) (t : Fin (cfgM m hO).N) (q : Fin 512) :
    iblk m hO c 3 t (ix4 0 0 0 q : S1x1x1x512.Idx) = (V m c main_v34 : (⟨S2x32x1x4096, .f32⟩ : BufTy).Contents (Elt F))
      (ix4 0 (expAt m hO t) 0 (colG m hO t q)) := by
  refine congrArg (V m c main_v34) (show (((cfgM m hO).win 3).blk t).view.emb (ix4 0 0 0 q : S1x1x1x512.Idx)
    = (ix4 0 (expAt m hO t) 0 (colG m hO t q) : S2x32x1x4096.Idx) from ?_)
  have hi := index_at_3 m hO t
  funext a
  apply Fin.ext
  refine (Pipeline.Window.rect_emb_val ((cfgM m hO).win 3) t _ a).trans ?_
  rw [hi]
  match a with
  | ⟨0, _⟩ => rfl
  | ⟨1, _⟩ => show (expert m (grid0.coords t)).toNat * 1 + 0 = (expert m (grid0.coords t)).toNat; omega
  | ⟨2, _⟩ => rfl
  | ⟨3, _⟩ => rfl

/-- The linear halves' biases' block at point `t`. -/
theorem iblk_4 (c : Dev nD) (t : Fin (cfgM m hO).N) (q : Fin 512) :
    iblk m hO c 4 t (ix4 0 0 0 q : S1x1x1x512.Idx) = (V m c main_v34 : (⟨S2x32x1x4096, .f32⟩ : BufTy).Contents (Elt F))
      (ix4 0 (expAt m hO t) 0 (colL m hO t q)) := by
  refine congrArg (V m c main_v34) (show (((cfgM m hO).win 4).blk t).view.emb (ix4 0 0 0 q : S1x1x1x512.Idx)
    = (ix4 0 (expAt m hO t) 0 (colL m hO t q) : S2x32x1x4096.Idx) from ?_)
  have hi := index_at_4 m hO t
  funext a
  apply Fin.ext
  refine (Pipeline.Window.rect_emb_val ((cfgM m hO).win 4) t _ a).trans ?_
  rw [hi]
  match a with
  | ⟨0, _⟩ => rfl
  | ⟨1, _⟩ => show (expert m (grid0.coords t)).toNat * 1 + 0 = (expert m (grid0.coords t)).toNat; omega
  | ⟨2, _⟩ => rfl
  | ⟨3, _⟩ => rfl

/-- The row of the array that row `p` of point `t`'s block is. -/
abbrev rowAtPt (t : Fin (cfgM m hO).N) (p : Fin 512) : Fin 82432 := ⟨(grid0.coords t 1).val * 512 + p.val, by
  have : (grid0.coords t 1).val < 161 := (grid0.coords t 1).isLt
  omega⟩

/-- The rows' block at point `t`. -/
theorem iblk_0 (c : Dev nD) (t : Fin (cfgM m hO).N) (p : Fin 512) (k : Fin 1024) :
    iblk m hO c 0 t (ix2 p k : S512x1024.Idx) = (V m c main_arg1 : (⟨S82432x1024, .i32⟩ : BufTy).Contents (Elt F))
      (ix2 (rowAtPt m hO t p) k) := by
  refine congrArg (V m c main_arg1) (show (((cfgM m hO).win 0).blk t).view.emb (ix2 p k : S512x1024.Idx)
    = (ix2 (rowAtPt m hO t p) k : S82432x1024.Idx) from ?_)
  have hi : ((cfgM m hO).win 0).index t = ![(grid0.coords t 1).val, 0] := by
    have h : (BitVec.ofNat 32 (grid0.coords t 1).val).toNat = (grid0.coords t 1).val := by
      have : (grid0.coords t 1).val < 161 := (grid0.coords t 1).isLt
      rw [BitVec.toNat_ofNat]; omega
    show ![(BitVec.ofNat 32 (grid0.coords t 1).val).toNat, 0] = _
    rw [h]
  funext a
  apply Fin.ext
  refine (Pipeline.Window.rect_emb_val ((cfgM m hO).win 0) t _ a).trans ?_
  rw [hi]
  match a with
  | ⟨0, _⟩ => rfl
  | ⟨1, _⟩ => show 0 * 1024 + k.val = k.val; omega

/-! ## The output's blocks -/

theorem index_5 (t : Fin (cfgM m hO).N) :
    ((cfgM m hO).win 5).index t = ![t.val % 161, t.val / 161] := by
  have h0 : (BitVec.ofNat 32 (grid0.coords t 1).val).toNat = t.val % 161 := by
    have : (grid0.coords t 1).val < 161 := (grid0.coords t 1).isLt
    rw [BitVec.toNat_ofNat, ← coords_1 t]; omega
  have h1 : (BitVec.ofNat 32 (grid0.coords t 0).val).toNat = t.val / 161 := (word_0 _).trans (coords_0 t)
  show ![(BitVec.ofNat 32 (grid0.coords t 1).val).toNat, (BitVec.ofNat 32 (grid0.coords t 0).val).toNat] = _
  rw [h0, h1]

/-- Where an element of the output's block lies in the array. -/
theorem emb_5 (t : Fin (cfgM m hO).N) (y : S512x512.Idx) :
    (((cfgM m hO).win 5).blk t).view.emb y = (ix2
        ⟨t.val % 161 * 512 + (y 0).val, by
          have : (y 0).val < 512 := (y 0).isLt
          omega⟩
        ⟨t.val / 161 * 512 + (y 1).val, by
          have : t.val < 644 := t.isLt
          have : (y 1).val < 512 := (y 1).isLt
          omega⟩ : S82432x2048.Idx) := by
  funext a
  apply Fin.ext
  refine (Pipeline.Window.rect_emb_val ((cfgM m hO).win 5) t y a).trans ?_
  rw [index_5]
  match a with
  | ⟨0, _⟩ => rfl
  | ⟨1, _⟩ => rfl

/-- Every block of the output is stored at its own point. -/
theorem flush_5 (t : Fin (cfgM m hO).N) : ((cfgM m hO).win 5).flush t = true := by
  unfold Pipeline.Window.flush
  rw [Bool.and_eq_true, Bool.or_eq_true]
  refine ⟨rfl, ?_⟩
  have ht : t.val < 644 := t.isLt
  by_cases h : t.val + 1 = 644
  · exact Or.inl (decide_eq_true h)
  · refine Or.inr (decide_eq_true ⟨show t.val + 1 < 644 by omega, fun he => ?_⟩)
    rw [index_5, index_5] at he
    have : (t.val + 1) % 161 = t.val % 161 := congrFun he 0
    omega

/-- Every element of the output lies in a stored block. -/
theorem cover_5 (i : S82432x2048.Idx) :
    ∃ t : Fin (cfgM m hO).N, ((cfgM m hO).win 5).flush t = true ∧ i ∈ (((cfgM m hO).win 5).blk t).view.set := by
  have h0 : (i 0).val < 82432 := (i 0).isLt
  have h1 : (i 1).val < 2048 := (i 1).isLt
  refine ⟨⟨(i 1).val / 512 * 161 + (i 0).val / 512, show _ < 644 by omega⟩, flush_5 m hO _, ?_⟩
  refine (((cfgM m hO).win 5).emb_mem_blk_iff _ i).mpr fun a => ?_
  rw [index_5]
  match a with
  | ⟨0, _⟩ =>
    show ((i 1).val / 512 * 161 + (i 0).val / 512) % 161 * 512 ≤ (i 0).val ∧ (i 0).val < ((i 1).val / 512 * 161 + (i 0).val / 512) % 161 * 512 + 512
    omega
  | ⟨1, _⟩ =>
    show ((i 1).val / 512 * 161 + (i 0).val / 512) / 161 * 512 ≤ (i 1).val ∧ (i 1).val < ((i 1).val / 512 * 161 + (i 0).val / 512) / 161 * 512 + 512
    omega

/-! ## The weights kept from the block before -/

/-- An index of a weights' block is its row and its column. -/
theorem wIdx (y : S1x1x2048x512.Idx) : ∃ (k : Fin 2048) (q : Fin 512), y = ix4 0 0 k q :=
  ⟨y 2, y 3, by
    have h0 : (y 0).val < 1 := (y 0).isLt
    have h1 : (y 1).val < 1 := (y 1).isLt
    funext a
    match a with
    | ⟨0, _⟩ => apply Fin.ext; show (y 0).val = 0; omega
    | ⟨1, _⟩ => apply Fin.ext; show (y 1).val = 0; omega
    | ⟨2, _⟩ => rfl
    | ⟨3, _⟩ => rfl⟩

/-- Where the body does not take its first branch, there is a point before, with the same weights' blocks. -/
theorem iblk_prev (c : Dev nD) (t : Fin (cfgM m hO).N) (h : ¬condNew (flag m (grid0.coords t))) :
    ∃ ht : 1 ≤ t.val, iblk m hO c 1 ⟨t.val - 1, lt_of_le_of_lt (Nat.sub_le _ _) t.isLt⟩ = iblk m hO c 1 t
      ∧ iblk m hO c 2 ⟨t.val - 1, lt_of_le_of_lt (Nat.sub_le _ _) t.isLt⟩ = iblk m hO c 2 t := by
  obtain ⟨hi, he⟩ := same_expert m (grid0.coords t) h
  have hi' : 1 ≤ t.val % 161 := coords_1 t ▸ hi
  have htn : t.val < 644 := t.isLt
  have hp : t.val - 1 < 644 := by omega
  have hp' : t.val - 1 < (cfgM m hO).N := lt_of_le_of_lt (Nat.sub_le _ _) t.isLt
  have hj : (grid0.coords (⟨t.val - 1, hp⟩ : Fin grid0.N) 0).val = (grid0.coords t 0).val := by
    rw [coords_0, coords_0]; show (t.val - 1) / 161 = t.val / 161; omega
  have hx : expert m (grid0.coords (⟨t.val - 1, hp⟩ : Fin grid0.N)) = expert m (grid0.coords t) := by
    rw [← he]
    refine congrArg (fun k : Fin 161 => beOf (cnt m) (ix1 k)) (Fin.ext ?_)
    show (grid0.coords (⟨t.val - 1, hp⟩ : Fin grid0.N) 1).val = (grid0.coords t 1).val - 1
    rw [coords_1, coords_1]; show (t.val - 1) % 161 = t.val % 161 - 1; omega
  have hE : expAt m hO ⟨t.val - 1, hp'⟩ = expAt m hO t := Fin.ext (congrArg BitVec.toNat hx)
  refine ⟨by omega, funext fun y => ?_, funext fun y => ?_⟩
  · obtain ⟨k, q, rfl⟩ := wIdx y
    refine (iblk_1 m hO c _ k q).trans (Eq.trans ?_ (iblk_1 m hO c t k q).symm)
    have hC : colG m hO ⟨t.val - 1, hp'⟩ q = colG m hO t q := Fin.ext (congrArg (fun j => j * 512 + q.val) hj)
    exact congrArg (V m c main_arg2) (congr (congrArg (fun e j => (ix4 0 e k j : S2x32x2048x4096.Idx)) hE) hC)
  · obtain ⟨k, q, rfl⟩ := wIdx y
    refine (iblk_2 m hO c _ k q).trans (Eq.trans ?_ (iblk_2 m hO c t k q).symm)
    have hC : colL m hO ⟨t.val - 1, hp'⟩ q = colL m hO t q := Fin.ext (congrArg (fun j => (j + 4) * 512 + q.val) hj)
    exact congrArg (V m c main_arg2) (congr (congrArg (fun e j => (ix4 0 e k j : S2x32x2048x4096.Idx)) hE) hC)

end Cert.Kernel4Ideal.Hidden

end
-- ==== Proof.Hidden.Frame.lean ====
/- The first product of the experts (`Cert.Kernel4Ideal`): the pipeline's proof data — after every
   point the scratches hold the current blocks' weights rounded —, the body at every point, the run,
   and the frame. Over any element values. -/
module

public import proofs.«01_k».proof.Proof.Hidden.Blocks

@[expose] public section

set_option maxRecDepth 16384

noncomputable section

namespace Cert.Kernel4Ideal.Hidden

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen
open Cert.Kernel3Ideal.Expert (condNew)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The two weights' blocks of point `t`, rounded: what the scratches hold after it. -/
def keptG (hO : Ok m) (c : Dev nD) (t : Fin (cfgM m hO).N) : Vec F S2048x512 .bf16 :=
  k0_pay1 (iblk m hO c 1 t)
def keptL (hO : Ok m) (c : Dev nD) (t : Fin (cfgM m hO).N) : Vec F S2048x512 .bf16 :=
  k0_pay2 (iblk m hO c 2 t)

/-- What point `t` leaves in the output's buffer. -/
def outAt (hO : Ok m) (c : Dev nD) (t : Fin (cfgM m hO).N) : Vec F S512x512 .bf16 :=
  blkOut (flag m (grid0.coords t)) (iblk m hO c 0 t) (keptG m hO c t) (keptL m hO c t) (iblk m hO c 3 t) (iblk m hO c 4 t)

/-- The scratches before point `k`: after the first point, the weights of the point before. -/
def carry (hO : Ok m) (c : Dev nD) (k : Fin ((cfgM m hO).N + 1)) : sProp 𝕄 :=
  iprop((∃ d, ⌜∀ s : Fin (cfgM m hO).N, s.val + 1 = k.val → d = keptG m hO c s⌝
      ∗ owns (c : Thread nD τ) scG fullShare d)
    ∗ (∃ d, ⌜∀ s : Fin (cfgM m hO).N, s.val + 1 = k.val → d = keptL m hO c s⌝
      ∗ owns (c : Thread nD τ) scL fullShare d))

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ k := iprop(iprop(carry m hO c k ∗ (∃ r, prngReg c r)) ∗ Pipeline.ΦT pre0 (tbl m) c)
  q := Pipeline.shareOf spec0
  owed _ := 0

theorem A_eq (hO : Ok m) (c : Dev nD) (w : Fin (cfgM m hO).W) :
    (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = outAt m hO c t := by dsimp only [dats]; try rfl

theorem held_0 (hO : Ok m) (c : Dev nD) (t : Fin (cfgM m hO).N) (d) : (dats m hO 0 c).before 0 t d = iblk m hO c 0 t :=
  before_0 m hO (dats m hO 0 c) (A_eq m hO c 0) (after_0 m hO c) t d
theorem held_1 (hO : Ok m) (c : Dev nD) (t : Fin (cfgM m hO).N) (d) : (dats m hO 0 c).before 1 t d = iblk m hO c 1 t :=
  before_1 m hO (dats m hO 0 c) (A_eq m hO c 1) (after_1 m hO c) t d
theorem held_2 (hO : Ok m) (c : Dev nD) (t : Fin (cfgM m hO).N) (d) : (dats m hO 0 c).before 2 t d = iblk m hO c 2 t :=
  before_2 m hO (dats m hO 0 c) (A_eq m hO c 2) (after_2 m hO c) t d
theorem held_3 (hO : Ok m) (c : Dev nD) (t : Fin (cfgM m hO).N) (d) : (dats m hO 0 c).before 3 t d = iblk m hO c 3 t :=
  before_3 m hO (dats m hO 0 c) (A_eq m hO c 3) (after_3 m hO c) t d
theorem held_4 (hO : Ok m) (c : Dev nD) (t : Fin (cfgM m hO).N) (d) : (dats m hO 0 c).before 4 t d = iblk m hO c 4 t :=
  before_4 m hO (dats m hO 0 c) (A_eq m hO c 4) (after_4 m hO c) t d

/-- What the body finds and leaves in the scratches: the current blocks' weights, loaded now or kept. -/
theorem scrG_kept (hO : Ok m) (c : Dev nD) (t : Fin (cfgM m hO).N)
    (k : Fin ((cfgM m hO).N + 1)) (hk : k.val = t.val) (d : Vec F S2048x512 .bf16)
    (hd : ∀ s : Fin (cfgM m hO).N, s.val + 1 = k.val → d = keptG m hO c s) :
    scrG (flag m (grid0.coords t)) (iblk m hO c 1 t) d = keptG m hO c t := by
  unfold scrG
  by_cases h : condNew (flag m (grid0.coords t))
  · rw [if_pos (show condNew (flag m (grid0.coords t)) from h)]; rfl
  · rw [if_neg (show ¬condNew (flag m (grid0.coords t)) from h)]
    obtain ⟨ht, he, -⟩ := iblk_prev m hO c t h
    rw [hd ⟨t.val - 1, lt_of_le_of_lt (Nat.sub_le _ _) t.isLt⟩ (by rw [hk]; exact Nat.sub_add_cancel ht)]
    exact congrArg (k0_pay1 (F := F)) he
theorem scrL_kept (hO : Ok m) (c : Dev nD) (t : Fin (cfgM m hO).N)
    (k : Fin ((cfgM m hO).N + 1)) (hk : k.val = t.val) (d : Vec F S2048x512 .bf16)
    (hd : ∀ s : Fin (cfgM m hO).N, s.val + 1 = k.val → d = keptL m hO c s) :
    scrL (flag m (grid0.coords t)) (iblk m hO c 2 t) d = keptL m hO c t := by
  unfold scrL
  by_cases h : condNew (flag m (grid0.coords t))
  · rw [if_pos (show condNew (flag m (grid0.coords t)) from h)]; rfl
  · rw [if_neg (show ¬condNew (flag m (grid0.coords t)) from h)]
    obtain ⟨ht, -, he⟩ := iblk_prev m hO c t h
    rw [hd ⟨t.val - 1, lt_of_le_of_lt (Nat.sub_le _ _) t.isLt⟩ (by rw [hk]; exact Nat.sub_add_cancel ht)]
    exact congrArg (k0_pay2 (F := F)) he

/-! ## The body at a point -/

/-- `body_run` with the flags' word, the kept weights and the stored block named. -/
theorem body_run_at (c : Dev nD) (i : grid0.Coords)
    (arg4 : Memref sig .tc .vmem S512x1024 .i32) (harg4 : arg4.IsWhole)
    (arg5 : Memref sig .tc .vmem S1x1x2048x512 .f32) (harg5 : arg5.IsWhole)
    (arg6 : Memref sig .tc .vmem S1x1x2048x512 .f32) (harg6 : arg6.IsWhole)
    (arg7 : Memref sig .tc .vmem S1x1x1x512 .f32) (harg7 : arg7.IsWhole)
    (arg8 : Memref sig .tc .vmem S1x1x1x512 .f32) (harg8 : arg8.IsWhole)
    (arg9 : Memref sig .tc .vmem S512x512 .bf16) (harg9 : arg9.IsWhole)
    (arg10 : Memref sig .tc .vmem S2048x512 .bf16) (harg10 : arg10.IsWhole)
    (arg11 : Memref sig .tc .vmem S2048x512 .bf16) (harg11 : arg11.IsWhole)
    (x0 : Vec F S512x1024 .i32) (x1 x2 : Vec F S1x1x2048x512 .f32) (x3 x4 : Vec F S1x1x1x512 .f32)
    (xg xl : Vec F S2048x512 .bf16) (xt0 : TbBuf (F := F) c tbE) (xt1 : TbBuf (F := F) c tbF)
    (f : BitVec 32) (wg wl : Vec F S2048x512 .bf16) (o : Vec F S512x512 .bf16) (hf : flagAt c xt1 i = f)
    (h32 : k0_cond3 f = 1#1 ↔ ¬k0_cond2 f = 1#1) (hwg : scrG f x1 xg = wg) (hwl : scrL f x2 xl = wl)
    (ho : blkOut f x0 wg wl x3 x4 = o)
    (E : Set ℕ) (K : PUnit → sProp 𝕄) :
    iprop(owns (c : Thread nD τ) arg4 fullShare x0 ∗ owns (c : Thread nD τ) arg5 fullShare x1
        ∗ owns (c : Thread nD τ) arg6 fullShare x2 ∗ owns (c : Thread nD τ) arg7 fullShare x3
        ∗ owns (c : Thread nD τ) arg8 fullShare x4 ∗ (∃ d, owns (c : Thread nD τ) arg9 fullShare d)
        ∗ owns (c : Thread nD τ) arg10 fullShare xg ∗ owns (c : Thread nD τ) arg11 fullShare xl
        ∗ tbPt c tbE xt0 ∗ tbPt c tbF xt1
        ∗ (iprop(owns (c : Thread nD τ) arg4 fullShare x0 ∗ owns (c : Thread nD τ) arg5 fullShare x1
            ∗ owns (c : Thread nD τ) arg6 fullShare x2 ∗ owns (c : Thread nD τ) arg7 fullShare x3
            ∗ owns (c : Thread nD τ) arg8 fullShare x4 ∗ owns (c : Thread nD τ) arg9 fullShare o
            ∗ owns (c : Thread nD τ) arg10 fullShare wg ∗ owns (c : Thread nD τ) arg11 fullShare wl
            ∗ tbPt c tbE xt0 ∗ tbPt c tbF xt1) -∗ K ⟨⟩))
      ⊢ wp frame (wpE (defs₀ (F := F)) Variants.none c none) E
          (cc0_moe_gmm1 i tbE (Memref.isWhole_whole _) tbF (Memref.isWhole_whole _) arg4 harg4
            arg5 harg5 arg6 harg6 arg7 harg7 arg8 harg8 arg9 harg9 arg10 harg10 arg11 harg11) K := by
  subst hf hwg hwl ho
  exact body_run c i arg4 harg4 arg5 harg5 arg6 harg6 arg7 harg7 arg8 harg8 arg9 harg9 arg10 harg10 arg11 harg11
    x0 x1 x2 x3 x4 xg xl xt0 xt1 h32 E K

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d))
    ∗ (∃ d, owns (c : Thread nD τ) (ms_5 m hO t) fullShare ((dats m hO 0 c).before 5 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ owns (c : Thread nD τ) (ms_3 m hO t) fullShare ((dats m hO 0 c).after 3 t)
    ∗ owns (c : Thread nD τ) (ms_4 m hO t) fullShare ((dats m hO 0 c).after 4 t)
    ∗ owns (c : Thread nD τ) (ms_5 m hO t) fullShare ((dats m hO 0 c).after 5 t))

set_option backward.isDefEq.respectTransparency.types false in
/-- The body at any point: it finds its blocks, leaves them, leaves the scratches at the blocks' weights and the output
    buffer at the block's value. -/
theorem sound_body (hO : Ok m) (c : Dev nD) (t : Fin (cfgM m hO).N) :
    bodyPre m hO c t ⊢ wp frame (wpE (defs₀ (F := F)) Variants.none c none) Set.univ (bodyAt (adm m hO) t)
      (fun _ => bodyPost m hO c t) := by
  unfold bodyPre bodyPost bodyAt
  simp only [held_0, held_1, held_2, held_3, held_4]
  rw [show (dats m hO 0 c).owesAt () t.succ = (dats m hO 0 c).owesAt () t.castSucc from rfl,
    after_0, after_1, after_2, after_3, after_4, after_5]
  rw [show (dats m hO 0 c).Φ t.castSucc
      = iprop(iprop(carry m hO c t.castSucc ∗ (∃ r, prngReg c r)) ∗ Pipeline.ΦT pre0 (tbl m) c) from rfl,
    show (dats m hO 0 c).Φ t.succ
      = iprop(iprop(carry m hO c t.succ ∗ (∃ r, prngReg c r)) ∗ Pipeline.ΦT pre0 (tbl m) c) from rfl, PhiT_eq]
  unfold carry
  iintro ⟨⟨⟨⟨⟨%dg, %hdg, HG⟩, ⟨%dl, %hdl, HL⟩⟩, Hg⟩, ⟨HT0, HT1⟩⟩, Ho, ⟨%d0, H0⟩, ⟨%d1, H1⟩, ⟨%d2, H2⟩, ⟨%d3, H3⟩, ⟨%d4, H4⟩, ⟨%d5, H5⟩⟩
  iapply (body_run_at c (grid0.coords t) _ _ _ _ _ _ _ _ _ _ _ _ _ _ _ _ (iblk m hO c 0 t) (iblk m hO c 1 t) (iblk m hO c 2 t)
    (iblk m hO c 3 t) (iblk m hO c 4 t)
    dg dl (tbl m 0) (tbl m 1) (flag m (grid0.coords t)) (keptG m hO c t) (keptL m hO c t) (outAt m hO c t) (flagAt_tbl m c (grid0.coords t))
    (branches m (grid0.coords t)) (scrG_kept m hO c t t.castSucc (Fin.val_castSucc t) dg hdg)
    (scrL_kept m hO c t t.castSucc (Fin.val_castSucc t) dl hdl) rfl Set.univ _)
  isplitl [H0]; · iexact H0
  isplitl [H1]; · iexact H1
  isplitl [H2]; · iexact H2
  isplitl [H3]; · iexact H3
  isplitl [H4]; · iexact H4
  isplitl [H5]; · iexists _; iexact H5
  isplitl [HG]; · iexact HG
  isplitl [HL]; · iexact HL
  isplitl [HT0]; · iexact HT0
  isplitl [HT1]; · iexact HT1
  iintro ⟨H0, H1, H2, H3, H4, H5, HG, HL, HT0, HT1⟩
  isplitl [HG HL Hg HT0 HT1]
  · isplitl [HG HL Hg]
    · isplitl [HG HL]
      · isplitl [HG]
        · iexists _; isplitr; swap; · iexact HG
          ipureintro
          exact fun s hs => congrArg (keptG m hO c) (Fin.ext (Nat.succ.inj (hs.trans (Fin.val_succ t)))).symm
        iexists _; isplitr; swap; · iexact HL
        ipureintro
        exact fun s hs => congrArg (keptL m hO c) (Fin.ext (Nat.succ.inj (hs.trans (Fin.val_succ t)))).symm
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

set_option backward.isDefEq.respectTransparency.types false in
/-- The pipeline's obligation: the output's window is idle at no point. -/
theorem body_obligation (hO : Ok m) (c : Dev nD) :
    BodyObligation (dats (F := F) m hO 0 c) (defs₀ (F := F)) Variants.none () Set.univ := fun t => by
  have hi : (cfgM m hO).idle (5 : Fin 6) ((cfgM m hO).grid.coords t) = false := idle_5 m (grid0.coords t)
  rw [bigSep_W0, bigSep_W0, defs₀_row m hO]
  refine triple_restated (sound_body m hO c t) rfl .rfl fun _ => ?_
  rw [hi]
  exact .rfl

/-! ## The run and the frame -/

theorem start (hO : Ok m) (c : Dev nD) :
    iprop(Pipeline.ΦA spec0 c ∗ Pipeline.ΦT pre0 (tbl m) c) ⊢ (dats m hO 0 c).Φ 0 := by
  rw [show (dats m hO 0 c).Φ 0
      = iprop(iprop(carry m hO c 0 ∗ (∃ r, prngReg c r)) ∗ Pipeline.ΦT pre0 (tbl m) c) from rfl, PhiA_eq]
  unfold carry
  iintro ⟨⟨⟨⟨%dg, HG⟩, ⟨%dl, HL⟩⟩, Hg⟩, HT⟩
  isplitl [HG HL Hg]
  · isplitl [HG HL]
    · isplitl [HG]
      · iexists dg; isplitr; swap; · iexact HG
        ipureintro
        exact fun s h => absurd h (Nat.succ_ne_zero _)
      iexists dl; isplitr; swap; · iexact HL
      ipureintro
      exact fun s h => absurd h (Nat.succ_ne_zero _)
    iexact Hg
  iexact HT

theorem stop (hO : Ok m) (c : Dev nD) :
    (dats m hO 0 c).Φ (Fin.last (cfgM m hO).N) ⊢ Pipeline.ΦA spec0 c := by
  rw [show (dats m hO 0 c).Φ (Fin.last (cfgM m hO).N)
      = iprop(iprop(carry m hO c (Fin.last (cfgM m hO).N) ∗ (∃ r, prngReg c r)) ∗ Pipeline.ΦT pre0 (tbl m) c) from rfl, PhiA_eq]
  unfold carry
  iintro ⟨⟨⟨⟨%dg, -, HG⟩, ⟨%dl, -, HL⟩⟩, Hg⟩, -⟩
  isplitl [HG HL]
  · isplitl [HG]
    · iexists dg; iexact HG
    iexists dl; iexact HL
  iexact Hg

set_option backward.isDefEq.respectTransparency.types false in
/-- The run: every array ends as the proof data say, every counter at zero. The two windows of weights share their
    array, and so do the two windows of biases. -/
theorem run_main (hO : Ok m) : θ_run defs (onTc (τ := τ) (main (F := F))) (s₀ m ρ)
    (fun r => Pipeline.FramePost (Pipeline.pin pcfgs fun _ => adm m hO) (dats m hO) (0 : Fin 1) (V m) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := start m hO) (hout := stop m hO)

set_option backward.isDefEq.respectTransparency.types false in
/-- The arguments end as they were. -/
theorem unchanged (hO : Ok m) (r : PUnit × MemSt nD τ sig (Elt F))
    (h : Pipeline.FramePost (Pipeline.pin pcfgs fun _ => adm m hO) (dats m hO) (0 : Fin 1) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (by decide : main_arg0 ∈ Pipeline.restRefs sig spec0)).trans (V_arg m c main_arg0 (by decide)),
    (Pipeline.FramePost.in_eq h c 0 rfl).trans ((A_eq m hO c 0).trans (V_arg m c main_arg1 (by decide))),
    (Pipeline.FramePost.in_eq h c 1 rfl).trans ((A_eq m hO c 1).trans (V_arg m c main_arg2 (by decide))),
    ((h c).2 main_arg3 (by decide : main_arg3 ∈ Pipeline.restRefs sig spec0)).trans (V_arg m c main_arg3 (by decide))⟩

/-- The kernel runs from any memory, its arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨unchanged m (ok m) r h.1, h.2⟩) (run_main m ρ (ok m))

end Cert.Kernel4Ideal.Hidden

end
-- ==== Proof.Hidden.Rows.lean ====
/- The first product of the experts (`Cert.Kernel4Ideal`), its value: every row of a live block is
   the gated activation of the row times its block's expert's weights plus the expert's biases,
   every row past the last expert's is zero; and the block a point stores, read at an entry. -/
module

public import proofs.«01_k».proof.Proof.Hidden.Frame
public import Idealize.ShloMosaic.Lib.Pointwise

@[expose] public section

set_option maxRecDepth 16384

noncomputable section

namespace Cert.Kernel4Ideal.Hidden

open Idealize.ShloMosaic Idealize.ShloMosaic.TcCoe Idealize.ShloMosaic.Tactic
open Cert.Kernel4Ideal Cert.Kernel4Ideal.Gen
open Cert.Kernel3Ideal.Expert (beOf liveOf be_le)

/-- The element that a word of the packed rows holds: its high half the first, its low half the second, each the bits
    of a bf16 number, so of the f32 number with zeros below. -/
def high (w : BitVec 32) : EReal := Ideal.ofBits .f32 (IntOp.andi w 4294901760#32)
def low (w : BitVec 32) : EReal := Ideal.ofBits .f32 (IntOp.shli .host w 16#32)

/-- The element `k` of a row of packed words: the words' high halves, then their low halves. -/
def element (x : Fin 1024 → BitVec 32) (k : Fin 2048) : EReal :=
  if h : k.val < 1024 then high (x ⟨k.val, h⟩) else low (x ⟨k.val - 1024, by omega⟩)

/-- The gated activation: the gate clamped above, times its sigmoid at 1.702 times it, times the clamped linear part
    plus one. -/
def gated (g l : EReal) : EReal :=
  let g' := min g (Ideal.ofBits .f32 0x40E00000#32)
  g' * Ideal.div 1 (1 + Ideal.exp (0 - Ideal.ofBits .f32 0x3FD9DB23#32 * g'))
    * (min (Ideal.ofBits .f32 0x40E00000#32) (max (Ideal.ofBits .f32 0xC0E00000#32) l) + 1)

/-- The expert of a block of rows. -/
abbrev expertOf (x0 : IVec S32 32) (i : Fin 161) : Fin 32 :=
  ⟨(beOf (F := Ideal) x0 (ix1 i)).toNat, Nat.lt_succ_of_le (be_le _ _)⟩

/-- The first product's entry of row `r` of block `i` and column `j`, of the counts, the packed rows, the experts'
    weights and their biases. -/
def hidden (x0 : IVec S32 32) (x1 : IVec S82432x1024 32) (x2 : FVec Ideal S2x32x2048x4096 .f32)
    (x3 : FVec Ideal S2x32x4096 .f32) (i : Fin 161) (r : Fin 82432) (j : Fin 4096) : EReal :=
  (∑ k : Fin 2048, element (fun k' => x1 (ix2 r k')) k * x2 (ix4 0 (expertOf x0 i) k j)) + x3 (ix3 0 (expertOf x0 i) j)

/-- The activated entry of row `r` and column `j`: the gates are the first 2048 columns, the linear parts the others. -/
def rowAt (x0 : IVec S32 32) (x1 : IVec S82432x1024 32) (x2 : FVec Ideal S2x32x2048x4096 .f32)
    (x3 : FVec Ideal S2x32x4096 .f32) (i : Fin 161) (r : Fin 82432) (j : Fin 2048) : EReal :=
  if liveOf (F := Ideal) x0 (ix1 i) = 1#1 then
    gated (hidden x0 x1 x2 x3 i r ⟨j.val, by omega⟩) (hidden x0 x1 x2 x3 i r ⟨2048 + j.val, by omega⟩)
  else 0

/-- The array: row `r` lies in block `r / 512`. -/
def rowsOf (x0 : IVec S32 32) (x1 : IVec S82432x1024 32) (x2 : FVec Ideal S2x32x2048x4096 .f32)
    (x3 : FVec Ideal S2x32x4096 .f32) : FVec Ideal S82432x2048 .bf16 := fun q =>
  rowAt x0 x1 x2 x3 ⟨(q 0).val / 512, by have : (q 0).val < 82432 := (q 0).isLt; omega⟩ (q 0) (q 1)

/-! ## The block a point stores, at an entry -/

variable (x : Vec Ideal S512x1024 .i32) (w w' : Vec Ideal S1x1x2048x512 .f32) (b b' : Vec Ideal S1x1x1x512 .f32)
  (p q : Fin 512)

/-- The rows unpacked. -/
theorem pay5_apply (k : Fin 2048) : k0_pay5 (F := Ideal) x (ix2 p k) = element (fun k' => x (ix2 p k')) k := by
  pointwise [k0_pay5]
  rfl

/-- The gates, clamped. -/
theorem pay6_apply : k0_pay6 x (k0_pay1 w) b (ix2 p q)
    = min ((∑ k : Fin 2048, element (fun k' => x (ix2 p k')) k * w (ix4 0 0 k q)) + b (ix4 0 0 0 q))
        (Ideal.ofBits .f32 0x40E00000#32) := by
  pointwise [k0_pay6, k0_pay1]
  simp only [pay5_apply]

/-- The linear parts, clamped. -/
theorem pay7_apply : k0_pay7 x (k0_pay2 w) b (ix2 p q)
    = min (Ideal.ofBits .f32 0x40E00000#32) (max (Ideal.ofBits .f32 0xC0E00000#32)
        ((∑ k : Fin 2048, element (fun k' => x (ix2 p k')) k * w (ix4 0 0 k q)) + b (ix4 0 0 0 q))) := by
  pointwise [k0_pay7, k0_pay2]
  simp only [pay5_apply]

/-- The sigmoids' denominators. -/
theorem pay8_apply : k0_pay8 x (k0_pay1 w) b (ix2 p q)
    = 1 + Ideal.exp (0 - Ideal.ofBits .f32 0x3FD9DB23#32 * k0_pay6 x (k0_pay1 w) b (ix2 p q)) := by
  pointwise [k0_pay8]

/-- The product of the gates, their sigmoids and the linear parts plus one. -/
theorem pay3_apply (g l d : FVec Ideal S512x512 .f32) : k0_pay3 g l d k0_pay9 (ix2 p q)
    = g (ix2 p q) * Ideal.div 1 (d (ix2 p q)) * (l (ix2 p q) + 1) := by
  pointwise [k0_pay3, k0_pay9]

/-- A live block's entry. -/
theorem active_apply : active x (k0_pay1 w) (k0_pay2 w') b b' (ix2 p q)
    = gated ((∑ k : Fin 2048, element (fun k' => x (ix2 p k')) k * w (ix4 0 0 k q)) + b (ix4 0 0 0 q))
        ((∑ k : Fin 2048, element (fun k' => x (ix2 p k')) k * w' (ix4 0 0 k q)) + b' (ix4 0 0 0 q)) := by
  unfold active
  rw [pay3_apply, pay8_apply, pay6_apply, pay7_apply]
  rfl

/-- Any other block's. -/
theorem pay4_apply : k0_pay4 (F := Ideal) (ix2 p q) = (0 : EReal) := by
  pointwise [k0_pay4]

end Cert.Kernel4Ideal.Hidden

end
-- ==== Proof.Hidden.Array.lean ====
/- The first product of the experts (`Cert.Kernel4Ideal`): the array that the run ends with. -/
module

public import proofs.«01_k».proof.Proof.Hidden.Rows

@[expose] public section

set_option maxRecDepth 16384
set_option backward.isDefEq.respectTransparency.types false

noncomputable section

namespace Cert.Kernel4Ideal.Hidden

open Idealize.ShloMosaic Idealize.ShloMosaic.TcCoe Idealize.ShloMosaic.Tactic Idealize.SL.Sem
open Cert.Kernel4Ideal Cert.Kernel4Ideal.Gen
open Cert.Kernel3Ideal.Expert (beOf liveOf be_le)

variable (m : (ℓ : Loc nD τ sig) → Buf (Elt Ideal) ℓ) (ρ : Dev nD → PrngReg) (c : Dev nD)

/-- The arguments on a core. -/
abbrev argX : IVec S82432x1024 32 := m ((c : Thread nD τ).loc main_arg1)
abbrev argW : FVec Ideal S2x32x2048x4096 .f32 := m ((c : Thread nD τ).loc main_arg2)
abbrev argB : FVec Ideal S2x32x4096 .f32 := m ((c : Thread nD τ).loc main_arg3)

/-- The array of the arguments. -/
def outOf : FVec Ideal S82432x2048 .bf16 := rowsOf (cnt m) (argX m c) (argW m c) (argB m c)

variable (hO : Ok m) (t : Fin (cfgM m hO).N)

/-- The block of rows of point `t`. -/
abbrev blkAt : Fin 161 := ⟨(grid0.coords t 1).val, (grid0.coords t 1).isLt⟩

theorem rows_at (p : Fin 512) (k : Fin 1024) :
    (iblk m hO c 0 t : Vec Ideal S512x1024 .i32) (ix2 p k) = argX m c (ix2 (rowAtPt m hO t p) k) :=
  (iblk_0 m hO c t p k).trans (congrFun (V_arg m c main_arg1 (by decide)) _)

theorem gate_weights_at (k : Fin 2048) (q : Fin 512) :
    (iblk m hO c 1 t : Vec Ideal S1x1x2048x512 .f32) (ix4 0 0 k q)
      = argW m c (ix4 0 (expAt m hO t) k (colG m hO t q)) :=
  (iblk_1 m hO c t k q).trans (congrFun (V_arg m c main_arg2 (by decide)) _)

theorem linear_weights_at (k : Fin 2048) (q : Fin 512) :
    (iblk m hO c 2 t : Vec Ideal S1x1x2048x512 .f32) (ix4 0 0 k q)
      = argW m c (ix4 0 (expAt m hO t) k (colL m hO t q)) :=
  (iblk_2 m hO c t k q).trans (congrFun (V_arg m c main_arg2 (by decide)) _)

/-- The biases with an axis of one added, read at an entry. -/
theorem cast_at (x : FVec Ideal S2x32x4096 .f32) (e : Fin 32) (j : Fin 4096) :
    shapeCast S2x32x1x4096 x shapeCasts_S2x32x4096_S2x32x1x4096 (ix4 0 e 0 j) = x (ix3 0 e j) := by
  refine shapeCast_apply x _ _ _ ?_
  rewrite [Shape.rowMajor_val_three, Shape.rowMajor_val_four]
  show (0 * 32 + e.val) * 4096 + j.val = ((0 * 32 + e.val) * 1 + 0) * 4096 + j.val
  omega

theorem gate_biases_at (q : Fin 512) :
    (iblk m hO c 3 t : Vec Ideal S1x1x1x512 .f32) (ix4 0 0 0 q)
      = argB m c (ix3 0 (expAt m hO t) (colG m hO t q)) := by
  refine (iblk_3 m hO c t q).trans ?_
  exact (congrFun (V_b1 m c) _).trans (cast_at (argB m c) (expAt m hO t) (colG m hO t q))

theorem linear_biases_at (q : Fin 512) :
    (iblk m hO c 4 t : Vec Ideal S1x1x1x512 .f32) (ix4 0 0 0 q)
      = argB m c (ix3 0 (expAt m hO t) (colL m hO t q)) := by
  refine (iblk_4 m hO c t q).trans ?_
  exact (congrFun (V_b1 m c) _).trans (cast_at (argB m c) (expAt m hO t) (colL m hO t q))

/-- What point `t` stores, at an entry. -/
theorem outAt_apply (p q : Fin 512) (j : Fin 2048) (hj : j.val = (grid0.coords t 0).val * 512 + q.val) :
    outAt m hO c t (ix2 p q)
      = rowAt (cnt m) (argX m c) (argW m c) (argB m c) (blkAt m hO t) (rowAtPt m hO t p) j := by
  have hG : colG m hO t q = ⟨j.val, by omega⟩ := Fin.ext hj.symm
  have hL : colL m hO t q = ⟨2048 + j.val, by omega⟩ := Fin.ext (by
    show ((grid0.coords t 0).val + 4) * 512 + q.val = 2048 + j.val
    omega)
  unfold outAt blkOut rowAt
  by_cases h : liveOf (cnt m) (ix1 (blkAt m hO t)) = 1#1
  · rw [if_pos ((live_iff m (grid0.coords t)).mpr h), if_pos h]
    unfold keptG keptL
    refine (active_apply _ _ _ _ _ p q).trans ?_
    unfold hidden
    rw [gate_biases_at, linear_biases_at, hG, hL]
    refine congr (congrArg gated (congrArg (· + _) (Finset.sum_congr rfl fun k _ => ?_)))
      (congrArg (· + _) (Finset.sum_congr rfl fun k _ => ?_))
    · rw [gate_weights_at, hG]
      simp only [rows_at]
    · rw [linear_weights_at, hL]
      simp only [rows_at]
  · rw [if_neg (fun h' => h ((live_iff m (grid0.coords t)).mp h')), if_neg h]
    exact pay4_apply p q

/-- The array that the run ends with. -/
theorem arr_eq : (dats m hO 0 c).arrAt 5 (cfgM m hO).N = outOf m c := by
  refine Pipeline.Dat.arrAt_eq_of_emb _ 5 _ (fun t _ y => ?_) (cover_5 m hO)
  have ht : t.val < 644 := t.isLt
  refine Eq.trans ?_ (congrArg (outOf m c) (emb_5 m hO t y)).symm
  obtain ⟨p, q, rfl⟩ : ∃ (p : Fin 512) (q : Fin 512), (show S512x512.Idx from y) = ix2 p q :=
    ⟨(show S512x512.Idx from y) 0, (show S512x512.Idx from y) 1, by
      funext a; match a with | ⟨0, _⟩ => rfl | ⟨1, _⟩ => rfl⟩
  have h0 : (grid0.coords t 1).val = t.val % 161 := coords_1 t
  have h1 : (grid0.coords t 0).val = t.val / 161 := coords_0 t
  refine (congrFun (after_5 m hO c t) (ix2 p q)).trans ((outAt_apply m c hO t p q
    ⟨t.val / 161 * 512 + q.val, by omega⟩ (by rw [h1])).trans ?_)
  unfold outOf rowsOf
  refine congr (congr (congrArg (rowAt (cnt m) (argX m c) (argW m c) (argB m c)) (Fin.ext ?_)) (Fin.ext ?_)) (Fin.ext ?_)
  · show (grid0.coords t 1).val = (t.val % 161 * 512 + p.val) / 512
    omega
  · show (grid0.coords t 1).val * 512 + p.val = t.val % 161 * 512 + p.val
    omega
  · rfl

/-- The run ends with that array, its arguments as they were. -/
theorem run : θ_run (defs (F := Ideal)) (onTc (τ := τ) (main (F := Ideal))) ⟨m, fun _ => 0, ρ⟩ (fun r => ∀ c : Dev nD,
      r.2.mem ((c.tc : Thread nD τ).loc main_v35) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 5).trans (arr_eq m c (ok m)), unchanged m (ok m) r h.1 c⟩)
    (run_main m ρ (ok m))

end Cert.Kernel4Ideal.Hidden

end
-- ==== Proof.Hidden.Reference.lean ====
/- The first product of the experts, the reference: its array is `Cert.Kernel4Ideal.Hidden.rowsOf`. -/
module

public import proofs.«01_k».proof.Proof.Hidden.Rows
public import proofs.«01_k».proof.Proof.Expert.Reference
public import proofs.«01_k».proof.Proof.Gen.Reference4Ideal.Read

@[expose] public section

set_option maxRecDepth 16384

noncomputable section

namespace Cert.Kernel4Ideal.Hidden

open Idealize.ShloMosaic Cert.Reference4Ideal Cert.Reference4Ideal.Read
open Cert.Kernel3Ideal.Expert (beOf liveOf be_le not_neg)

variable (x0 : IVec S32 32) (x1 : IVec S82432x1024 32) (x2 : FVec Ideal S2x32x2048x4096 .f32)
    (x3 : FVec Ideal S2x32x4096 .f32)

/-- The reference's index of a block: its expert, which is not negative. -/
theorem index_of (i : Fin 161) : val_main_v35 (F := Ideal) x0 (ix2 i 0) = BitVec.ofNat 32 (expertOf x0 i).val := by
  have hi : idx_main_v35 (ix2 i 0) = ix1 i := by funext a; match a with | ⟨0, _⟩ => rfl
  rw [val_main_v35_apply, hi, val_main_v34_apply, val_main_v31_apply, val_main_v30_apply, val_main_c_8_apply]
  unfold Scalar.select
  refine (if_neg (not_neg _ (be_le (F := Ideal) x0 i))).trans (BitVec.eq_of_toNat_eq ?_)
  rw [BitVec.toNat_ofNat]
  exact (Nat.mod_eq_of_lt (BitVec.isLt _)).symm

theorem index_of' (i : Fin 161) : val_main_v45 (F := Ideal) x0 (ix2 i 0) = BitVec.ofNat 32 (expertOf x0 i).val :=
  index_of x0 i

/-- The gathered weights. -/
theorem weights_of (i : Fin 161) (k : Fin 2048) (j : Fin 4096) : val_main_v36 (F := Ideal) x0 x2 (ix3 i k j)
    = x2 (ix4 0 (expertOf x0 i) k j) := by
  unfold val_main_v36
  refine (Cert.Gathered.matrix_apply _ rfl rfl rfl rfl rfl _ _ i k j _ (index_of x0 i) (by decide)).trans ?_
  generalize expertOf x0 i = e
  rw [val_main_v29_apply, val_main_v28_apply]
  refine congrArg x2 (funext fun a => Fin.ext ?_)
  have he := e.isLt
  match a with
  | ⟨0, _⟩ => rfl
  | ⟨1, _⟩ => show ((e.val * 2048 + k.val) * 4096 + j.val) / 8388608 % 32 = e.val; omega
  | ⟨2, _⟩ => show ((e.val * 2048 + k.val) * 4096 + j.val) / 4096 % 2048 = k.val; omega
  | ⟨3, _⟩ => show ((e.val * 2048 + k.val) * 4096 + j.val) % 4096 = j.val; omega

/-- The gathered biases. -/
theorem biases_of (i : Fin 161) (j : Fin 4096) : val_main_v46 (F := Ideal) x0 x3 (ix2 i j)
    = x3 (ix3 0 (expertOf x0 i) j) := by
  unfold val_main_v46
  refine (Routing.gather_row _ rfl rfl rfl rfl rfl _ _ i j _ (index_of' x0 i) (by decide)).trans ?_
  generalize expertOf x0 i = e
  refine (val_main_v39_apply _ _).trans ?_
  rw [val_main_v38_apply]
  refine congrArg x3 (funext fun a => Fin.ext ?_)
  have he := e.isLt
  match a with
  | ⟨0, _⟩ => rfl
  | ⟨1, _⟩ => show (e.val * 4096 + j.val) / 4096 % 32 = e.val; omega
  | ⟨2, _⟩ => show (e.val * 4096 + j.val) % 4096 = j.val; omega

/-- The reference's unpacked rows. -/
theorem unpacked_of (r : Fin 82432) (k : Fin 2048) : val_main_v26 (F := Ideal) x1 (ix2 r k)
    = element (fun k' => x1 (ix2 r k')) k := by
  pointwise [val_main_v26]
  unfold element
  by_cases h : k.val < 1024
  · rw [dif_pos h, dif_pos h, val_main_v22_apply, val_main_v21_apply, val_main_v20_apply, val_main_c_6_apply]
    rfl
  · rw [dif_neg h, dif_neg h, val_main_v25_apply, val_main_v24_apply, val_main_v23_apply, val_main_c_7_apply]
    rfl

/-- The rows in blocks. -/
theorem rows_of (i : Fin 161) (p : Fin 512) (k : Fin 2048) : val_main_v27 (F := Ideal) x1 (ix3 i p k)
    = element (fun k' => x1 (ix2 ⟨i.val * 512 + p.val, by omega⟩ k')) k := by
  have hi : idx_main_v27 (ix3 i p k) = ix2 ⟨i.val * 512 + p.val, by omega⟩ k := by
    funext a; apply Fin.ext
    match a with
    | ⟨0, _⟩ => show ((i.val * 512 + p.val) * 2048 + k.val) / 2048 = i.val * 512 + p.val; omega
    | ⟨1, _⟩ => show ((i.val * 512 + p.val) * 2048 + k.val) % 2048 = k.val; omega
  rw [val_main_v27_apply, hi, unpacked_of]

/-- The reference's first product. -/
theorem hidden_of (i : Fin 161) (p : Fin 512) (j : Fin 4096) : val_main_v49 (F := Ideal) x0 x1 x2 x3 (ix3 i p j)
    = hidden x0 x1 x2 x3 i ⟨i.val * 512 + p.val, by omega⟩ j := by
  have hl : ∀ k, lidx_main_v37 (ix3 i p j) k = ix3 i p k := fun k => by
    funext a; match a with | ⟨0, _⟩ => rfl | ⟨1, _⟩ => rfl | ⟨2, _⟩ => rfl
  have hr : ∀ k, ridx_main_v37 (ix3 i p j) k = ix3 i k j := fun k => by
    funext a; match a with | ⟨0, _⟩ => rfl | ⟨1, _⟩ => rfl | ⟨2, _⟩ => rfl
  have hb : idx_main_v47 (idx_main_v48 (ix3 i p j)) = ix2 i j := by
    funext a; match a with | ⟨0, _⟩ => rfl | ⟨1, _⟩ => rfl
  rw [val_main_v49_apply, val_main_v37_apply, val_main_v48_apply, val_main_v47_apply, hb, biases_of]
  simp only [hl, hr, rows_of, weights_of]
  rfl

/-- The reference's clamped gates. -/
theorem gate_of (i : Fin 161) (p : Fin 512) (j : Fin 2048) : val_main_v53 (F := Ideal) x0 x1 x2 x3 (ix3 i p j)
    = min (hidden x0 x1 x2 x3 i ⟨i.val * 512 + p.val, by omega⟩ ⟨j.val, by omega⟩)
        (Ideal.ofBits .f32 0x40E00000#32) := by
  have hi : idx_main_v50 (ix3 i p j) = ix3 i p ⟨j.val, by omega⟩ := by
    funext a; match a with | ⟨0, _⟩ => rfl | ⟨1, _⟩ => rfl | ⟨2, _⟩ => rfl
  rw [val_main_v53_apply, val_main_v50_apply, hi, hidden_of, val_main_v52_apply, val_main_cst_apply]
  rfl

/-- The reference's clamped linear parts. -/
theorem linear_of (i : Fin 161) (p : Fin 512) (j : Fin 2048) : val_main_v54 (F := Ideal) x0 x1 x2 x3 (ix3 i p j)
    = min (Ideal.ofBits .f32 0x40E00000#32) (max (Ideal.ofBits .f32 0xC0E00000#32)
        (hidden x0 x1 x2 x3 i ⟨i.val * 512 + p.val, by omega⟩ ⟨2048 + j.val, by omega⟩)) := by
  have hi : idx_main_v51 (ix3 i p j) = ix3 i p ⟨2048 + j.val, by omega⟩ := by
    funext a; match a with | ⟨0, _⟩ => rfl | ⟨1, _⟩ => rfl | ⟨2, _⟩ => rfl
  rw [val_main_v54_apply, val_main_call2_v4_apply, val_main_call2_v3_apply, val_main_cst_13_apply,
    val_main_call2_v2_apply, val_main_call2_v1_apply, val_main_call2_v0_apply, val_main_cst_12_apply,
    val_main_v51_apply, hi, hidden_of]
  rfl

/-- The constant one. -/
theorem one_eq : (FloatOps.ofBits .f32 0x3F800000#32 : Ideal .f32) = (1 : EReal) := Ideal.ofBits_one_f32

/-- The reference's activated blocks. -/
theorem block_of (i : Fin 161) (p : Fin 512) (j : Fin 2048) : val_main_v72 (F := Ideal) x0 x1 x2 x3 (ix3 i p j)
    = rowAt x0 x1 x2 x3 i ⟨i.val * 512 + p.val, by omega⟩ j := by
  have hm : idx_main_v71 (idx_main_call3_v1 (ix3 i p j)) = ix1 i := by
    funext a; match a with | ⟨0, _⟩ => rfl
  have hs : val_main_v66 (F := Ideal) x0 x1 x2 x3 (ix3 i p j)
      = gated (hidden x0 x1 x2 x3 i ⟨i.val * 512 + p.val, by omega⟩ ⟨j.val, by omega⟩)
        (hidden x0 x1 x2 x3 i ⟨i.val * 512 + p.val, by omega⟩ ⟨2048 + j.val, by omega⟩) := by
    rw [val_main_v66_apply, val_main_v63_apply, val_main_v62_apply, val_main_v61_apply, val_main_cst_16_apply,
      val_main_v60_apply, val_main_v59_apply, val_main_cst_15_apply, val_main_v58_apply, val_main_v57_apply,
      val_main_v56_apply, val_main_v55_apply, val_main_cst_14_apply, val_main_v65_apply, val_main_v64_apply,
      val_main_cst_17_apply, gate_of, linear_of, one_eq]
    unfold gated
    simp only [zero_sub]
    rfl
  rw [val_main_v72_apply, val_main_call3_v1_apply, val_main_v71_apply, hm,
    val_main_call3_v2_apply, val_main_call3_v0_apply, val_main_cst_18_apply, hs]
  unfold rowAt Scalar.select
  exact ite_congr rfl (fun _ => rfl) fun _ => Ideal.ofBits_zero_f32

/-- The reference's array. -/
theorem reference_rows : val_main_v74 (F := Ideal) x0 x1 x2 x3 = rowsOf x0 x1 x2 x3 := by
  funext q
  obtain ⟨r, j, rfl⟩ : ∃ (r : Fin 82432) (j : Fin 2048), q = ix2 r j := ⟨q 0, q 1, by
    funext a; match a with | ⟨0, _⟩ => rfl | ⟨1, _⟩ => rfl⟩
  have hr := r.isLt
  have hq : idx_main_v73 (ix2 r j) = ix3 ⟨r.val / 512, by omega⟩ ⟨r.val % 512, by omega⟩ j := by
    funext a; apply Fin.ext
    match a with
    | ⟨0, _⟩ => show (r.val * 2048 + j.val) / 1048576 = r.val / 512; omega
    | ⟨1, _⟩ => show (r.val * 2048 + j.val) / 2048 % 512 = r.val % 512; omega
    | ⟨2, _⟩ => show (r.val * 2048 + j.val) % 2048 = j.val; omega
  rw [val_main_v74_apply, val_main_v73_apply, hq, block_of]
  unfold rowsOf
  refine congrArg (fun r' => rowAt x0 x1 x2 x3 ⟨r.val / 512, by omega⟩ r' j) (Fin.ext ?_)
  show r.val / 512 * 512 + r.val % 512 = r.val
  omega

end Cert.Kernel4Ideal.Hidden

end
-- ==== Proof.Hidden.Claims.lean ====
module

public import proofs.«01_k».proof.Defs
public import proofs.«01_k».proof.Proof.Gen.Kernel4.Launch
public import proofs.«01_k».proof.Proof.Hidden.Array
public import proofs.«01_k».proof.Proof.Hidden.Reference
public import Idealize.ShloMosaic.Lib.Quiescent

/-! The claims about the experts' first product: both kernels and the reference run, and kernel and reference agree on
all arguments. -/

@[expose] public section
noncomputable section

namespace Cert.Kernel4Ideal.Hidden

open Idealize.ShloMosaic Idealize.SL.Sem

/-- The program at its own dtypes is the ideal one's text, so that its frame is the same statement. -/
theorem same_text :
    (∀ (m : (ℓ : Loc Cert.Kernel4.nD Cert.Kernel4.τ Cert.Kernel4.sig) → Buf (Elt Bits) ℓ) (g : Dev Cert.Kernel4.nD → PrngReg),
      θ_run (Cert.Kernel4.defs (F := Bits)) (onTc (τ := Cert.Kernel4.τ) (Cert.Kernel4.main (F := Bits))) ⟨m, fun _ => 0, g⟩ (fun r => (∀ c : Dev Cert.Kernel4.nD,
        r.2.mem ((c.tc : Thread Cert.Kernel4.nD Cert.Kernel4.τ).loc Cert.Kernel4.main_arg0) = m ((c.tc : Thread Cert.Kernel4.nD Cert.Kernel4.τ).loc Cert.Kernel4.main_arg0)
        ∧ r.2.mem ((c.tc : Thread Cert.Kernel4.nD Cert.Kernel4.τ).loc Cert.Kernel4.main_arg1) = m ((c.tc : Thread Cert.Kernel4.nD Cert.Kernel4.τ).loc Cert.Kernel4.main_arg1)
        ∧ r.2.mem ((c.tc : Thread Cert.Kernel4.nD Cert.Kernel4.τ).loc Cert.Kernel4.main_arg2) = m ((c.tc : Thread Cert.Kernel4.nD Cert.Kernel4.τ).loc Cert.Kernel4.main_arg2)
        ∧ r.2.mem ((c.tc : Thread Cert.Kernel4.nD Cert.Kernel4.τ).loc Cert.Kernel4.main_arg3) = m ((c.tc : Thread Cert.Kernel4.nD Cert.Kernel4.τ).loc Cert.Kernel4.main_arg3))
        ∧ r.2.sem = fun _ => 0))
    = (∀ (m : (ℓ : Loc Cert.Kernel4Ideal.nD Cert.Kernel4Ideal.τ Cert.Kernel4Ideal.sig) → Buf (Elt Bits) ℓ) (g : Dev Cert.Kernel4Ideal.nD → PrngReg),
      θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
        r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
        ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
        ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
        ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
        ∧ r.2.sem = fun _ => 0)) := by
  chain_rfl

/-- The kernel at its own dtypes runs, leaves its arguments as they were and every counter at zero. -/
theorem kernel_frame : Cert.quiescent_Kernel4 := fun m ρ _ => same_text.mpr (fun m ρ => frame m ρ) m ρ

/-- So does the ideal kernel. -/
theorem ideal_frame : Cert.quiescent_Kernel4Ideal := fun m ρ _ => frame m ρ

/-- So does the reference: it declares no counter. -/
theorem reference_frame : Cert.quiescent_Reference4Ideal := fun m ρ _ =>
  (θ_run Cert.Reference4Ideal.defs _ _).mono (fun _ h => ⟨fun c => (h c).2, sem_eq_zero_of_no_sems (by decide) _⟩) (Cert.Reference4Ideal.Value.run m ρ)

/-- Kernel and reference end with the same array: the gated activation of each row times its block's expert's weights plus the
    expert's biases, and zero past the last expert's rows. -/
theorem algebraic : Cert.algebraic_Kernel4Ideal_Reference4Ideal := fun m ρ m' ρ' _ harg =>
  ⟨fun c => outOf m c, run m ρ,
    (θ_run Cert.Reference4Ideal.defs _ _).mono (fun _ h c => ⟨by
      obtain ⟨e0, e1, e2, e3⟩ := harg c
      rw [(h c).1, Cert.Reference4Ideal.Read.val_main_v74_eq, e0, e1, e2, e3]
      obtain rfl : c = 0 := Subsingleton.elim _ _
      exact reference_rows _ _ _ _, (h c).2⟩) (Cert.Reference4Ideal.Value.run m' ρ')⟩

end Cert.Kernel4Ideal.Hidden

end
-- ==== Proof.Project.Run.lean ====
module

public import proofs.«01_k».proof.Proof.Gen.Kernel5Ideal.Frame

/-! The run of the seven products between the host lines: every array that the program can name ends at the contents
that the lines and the calls give it one after another. -/

@[expose] public section
set_option maxRecDepth 16384
noncomputable section

namespace Cert.Kernel5Ideal.Project

open Idealize.ShloMosaic Idealize.ShloMosaic.TcCoe Idealize.ShloMosaic.Tactic Cert.Kernel5Ideal Cert.Kernel5Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every array of the program ends at the contents after the last host line. -/
theorem run_contents : θ_run defs (onTc (τ := τ) (main (F := F))) ⟨m, fun _ => 0, ρ⟩ (fun r =>
      ∀ c : Dev nD, ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => h)

end Cert.Kernel5Ideal.Project

end
-- ==== Proof.Project.Products.lean ====
module

public import proofs.«01_k».proof.Proof.Gen.Kernel5Ideal.Frame
public import Idealize.ShloMosaic.Lib.Pipeline.ValueKit
public import Idealize.ShloMosaic.Lib.Pipeline.ReadBack
public import Idealize.ShloMosaic.Lib.Pointwise

/-! The seven products of the input projection: each call leaves the whole product of the tokens with its packed
weight. A point of a call works on 1024 tokens and on one block of the weight's columns. -/

@[expose] public section
set_option maxRecDepth 16384
noncomputable section

namespace Cert.Kernel5Ideal.Project

open Idealize.ShloMosaic Idealize.ShloMosaic.TcCoe Cert.Kernel5Ideal Cert.Kernel5Ideal.Gen Idealize.SL.Sem
open Idealize.ShloMosaic.Pipeline (Dat Cfg Window)

/-- Row `i`, column `j` of the product of the tokens with a weight of `n` columns. -/
def entry {n : ℕ} (X : (⟨2, ![16384, 2048]⟩ : Shape).Idx → EReal) (W : (⟨2, ![2048, n]⟩ : Shape).Idx → EReal) (i : Fin 16384) (j : Fin n) : EReal :=
  ∑ k : Fin 2048, X (ix2 i k) * W (ix2 k j)

variable (V : (c : Dev nD) → (b : Ref sig .tc) → Buf (Elt Ideal) ((c : Thread nD τ).loc b)) (c : Dev nD)

/-- The tokens as the calls find them. -/
abbrev tokens : FVec Ideal S16384x2048 .bf16 := V c main_v1

/-! The first call. -/

theorem body0 (x : Vec Ideal S1024x2048 .bf16) (w : Vec Ideal S2048x512 .bf16) (r : Fin 1024) (j : Fin 512) :
    (out0_2 (F := Ideal) x w : Vec Ideal S1024x512 .bf16) (ix2 r j) = ∑ k : Fin 2048, x (ix2 r k) * w (ix2 k j) := by
  unfold out0_2
  frame_out
  pointwise [k0_pay1]

theorem idx0 : ∀ t : Fin cfg0.N,
    (win0_0.index t 0 = t.val / 5 ∧ win0_0.index t 1 = 0) ∧ (win0_1.index t 0 = 0 ∧ win0_1.index t 1 = t.val % 5)
    ∧ (win0_2.index t 0 = t.val / 5 ∧ win0_2.index t 1 = t.val % 5) :=
  (by decide +kernel : ∀ t : Fin grid0.N, _)

theorem lt0 (t : Fin cfg0.N) : t.val < 80 := t.isLt.trans_eq N_0

abbrev row0 (t : Fin cfg0.N) (r : Fin 1024) : Fin 16384 := ⟨t.val / 5 * 1024 + r.val, by have := lt0 t; omega⟩
abbrev col0 (t : Fin cfg0.N) (j : Fin 512) : Fin 2560 := ⟨t.val % 5 * 512 + j.val, by omega⟩

abbrev weight0 : FVec Ideal S2048x2560 .bf16 := V c main_v23

theorem tokens0 (t : Fin cfg0.N) (r : Fin 1024) (k : Fin 2048) :
    (iblk0 V c 0 t : Vec Ideal S1024x2048 .bf16) (ix2 r k) = tokens V c (ix2 (row0 t r) k) := by
  obtain ⟨⟨e0, e1⟩, -, -⟩ := idx0 t
  blk_ext [iblk0, e0, e1]
theorem columns0 (t : Fin cfg0.N) (k : Fin 2048) (j : Fin 512) :
    (iblk0 V c 1 t : Vec Ideal S2048x512 .bf16) (ix2 k j) = weight0 V c (ix2 k (col0 t j)) := by
  obtain ⟨-, ⟨e0, e1⟩, -⟩ := idx0 t
  blk_ext [iblk0, e0, e1]

theorem block0 (t : Fin cfg0.N) (r : Fin 1024) (j : Fin 512) :
    ((dat0 V c).after 2 t : Vec Ideal S1024x512 .bf16) (ix2 r j) = entry (tokens V c) (weight0 V c) (row0 t r) (col0 t j) := by
  rw [after0_2, body0]
  simp only [tokens0, columns0]
  rfl

/-- The queries' product. -/
theorem product0 : (dat0 V c).arrAt 2 cfg0.N = (fun i => entry (tokens V c) (weight0 V c) (i 0) (i 1) : FVec Ideal S16384x2560 .bf16) := by
  refine (dat0 V c).arrAt_eq_of_covers 2 _ (by decide +kernel) fun t hf y => ?_
  obtain ⟨-, -, e0, e1⟩ := idx0 t
  obtain ⟨r, j, rfl⟩ : ∃ (r : Fin 1024) (j : Fin 512), y = ix2 r j := ⟨y 0, y 1, by funext a; match a with | ⟨0, _⟩ => rfl | ⟨1, _⟩ => rfl⟩
  refine (block0 V c t r j).trans ?_
  blk_simp
  refine congrArg₂ (entry (tokens V c) (weight0 V c)) (Fin.ext ?_) (Fin.ext ?_)
  · blk_simp [e0, e1]
  · blk_simp [e0, e1]

/-! The second call. -/

theorem body1 (x : Vec Ideal S1024x2048 .bf16) (w : Vec Ideal S2048x320 .bf16) (r : Fin 1024) (j : Fin 320) :
    (out1_2 (F := Ideal) x w : Vec Ideal S1024x320 .f32) (ix2 r j) = ∑ k : Fin 2048, x (ix2 r k) * w (ix2 k j) := by
  unfold out1_2
  frame_out
  pointwise [k1_pay1]

theorem idx1 : ∀ t : Fin cfg1.N,
    (win1_0.index t 0 = t.val ∧ win1_0.index t 1 = 0) ∧ (win1_1.index t 0 = 0 ∧ win1_1.index t 1 = 0)
    ∧ (win1_2.index t 0 = t.val ∧ win1_2.index t 1 = 0) :=
  (by decide +kernel : ∀ t : Fin grid1.N, _)

theorem lt1 (t : Fin cfg1.N) : t.val < 16 := t.isLt.trans_eq N_1

abbrev row1 (t : Fin cfg1.N) (r : Fin 1024) : Fin 16384 := ⟨t.val * 1024 + r.val, by have := lt1 t; omega⟩
abbrev col1 (t : Fin cfg1.N) (j : Fin 320) : Fin 320 := ⟨j.val, j.isLt⟩

abbrev weight1 : FVec Ideal S2048x320 .bf16 := V c main_v25

theorem tokens1 (t : Fin cfg1.N) (r : Fin 1024) (k : Fin 2048) :
    (iblk1 V c 0 t : Vec Ideal S1024x2048 .bf16) (ix2 r k) = tokens V c (ix2 (row1 t r) k) := by
  obtain ⟨⟨e0, e1⟩, -, -⟩ := idx1 t
  blk_ext [iblk1, e0, e1]
theorem columns1 (t : Fin cfg1.N) (k : Fin 2048) (j : Fin 320) :
    (iblk1 V c 1 t : Vec Ideal S2048x320 .bf16) (ix2 k j) = weight1 V c (ix2 k (col1 t j)) := by
  obtain ⟨-, ⟨e0, e1⟩, -⟩ := idx1 t
  blk_ext [iblk1, e0, e1]

theorem block1 (t : Fin cfg1.N) (r : Fin 1024) (j : Fin 320) :
    ((dat1 V c).after 2 t : Vec Ideal S1024x320 .f32) (ix2 r j) = entry (tokens V c) (weight1 V c) (row1 t r) (col1 t j) := by
  rw [after1_2, body1]
  simp only [tokens1, columns1]
  rfl

/-- The latent rows' product. -/
theorem product1 : (dat1 V c).arrAt 2 cfg1.N = (fun i => entry (tokens V c) (weight1 V c) (i 0) (i 1) : FVec Ideal S16384x320 .f32) := by
  refine (dat1 V c).arrAt_eq_of_covers 2 _ (by decide +kernel) fun t hf y => ?_
  obtain ⟨-, -, e0, e1⟩ := idx1 t
  obtain ⟨r, j, rfl⟩ : ∃ (r : Fin 1024) (j : Fin 320), y = ix2 r j := ⟨y 0, y 1, by funext a; match a with | ⟨0, _⟩ => rfl | ⟨1, _⟩ => rfl⟩
  refine (block1 V c t r j).trans ?_
  blk_simp
  refine congrArg₂ (entry (tokens V c) (weight1 V c)) (Fin.ext ?_) (Fin.ext ?_)
  · blk_simp [e0, e1]
  · blk_simp [e0, e1]

/-! The third call. -/

theorem body2 (x : Vec Ideal S1024x2048 .bf16) (w : Vec Ideal S2048x512 .bf16) (r : Fin 1024) (j : Fin 512) :
    (out2_2 (F := Ideal) x w : Vec Ideal S1024x512 .f32) (ix2 r j) = ∑ k : Fin 2048, x (ix2 r k) * w (ix2 k j) := by
  unfold out2_2
  frame_out
  pointwise [k2_pay1]

theorem idx2 : ∀ t : Fin cfg2.N,
    (win2_0.index t 0 = t.val / 2 ∧ win2_0.index t 1 = 0) ∧ (win2_1.index t 0 = 0 ∧ win2_1.index t 1 = t.val % 2)
    ∧ (win2_2.index t 0 = t.val / 2 ∧ win2_2.index t 1 = t.val % 2) :=
  (by decide +kernel : ∀ t : Fin grid2.N, _)

theorem lt2 (t : Fin cfg2.N) : t.val < 32 := t.isLt.trans_eq N_2

abbrev row2 (t : Fin cfg2.N) (r : Fin 1024) : Fin 16384 := ⟨t.val / 2 * 1024 + r.val, by have := lt2 t; omega⟩
abbrev col2 (t : Fin cfg2.N) (j : Fin 512) : Fin 1024 := ⟨t.val % 2 * 512 + j.val, by omega⟩

abbrev weight2 : FVec Ideal S2048x1024 .bf16 := V c main_v35

theorem tokens2 (t : Fin cfg2.N) (r : Fin 1024) (k : Fin 2048) :
    (iblk2 V c 0 t : Vec Ideal S1024x2048 .bf16) (ix2 r k) = tokens V c (ix2 (row2 t r) k) := by
  obtain ⟨⟨e0, e1⟩, -, -⟩ := idx2 t
  blk_ext [iblk2, e0, e1]
theorem columns2 (t : Fin cfg2.N) (k : Fin 2048) (j : Fin 512) :
    (iblk2 V c 1 t : Vec Ideal S2048x512 .bf16) (ix2 k j) = weight2 V c (ix2 k (col2 t j)) := by
  obtain ⟨-, ⟨e0, e1⟩, -⟩ := idx2 t
  blk_ext [iblk2, e0, e1]

theorem block2 (t : Fin cfg2.N) (r : Fin 1024) (j : Fin 512) :
    ((dat2 V c).after 2 t : Vec Ideal S1024x512 .f32) (ix2 r j) = entry (tokens V c) (weight2 V c) (row2 t r) (col2 t j) := by
  rw [after2_2, body2]
  simp only [tokens2, columns2]
  rfl

/-- The product of the block attention's keys and values. -/
theorem product2 : (dat2 V c).arrAt 2 cfg2.N = (fun i => entry (tokens V c) (weight2 V c) (i 0) (i 1) : FVec Ideal S16384x1024 .f32) := by
  refine (dat2 V c).arrAt_eq_of_covers 2 _ (by decide +kernel) fun t hf y => ?_
  obtain ⟨-, -, e0, e1⟩ := idx2 t
  obtain ⟨r, j, rfl⟩ : ∃ (r : Fin 1024) (j : Fin 512), y = ix2 r j := ⟨y 0, y 1, by funext a; match a with | ⟨0, _⟩ => rfl | ⟨1, _⟩ => rfl⟩
  refine (block2 V c t r j).trans ?_
  blk_simp
  refine congrArg₂ (entry (tokens V c) (weight2 V c)) (Fin.ext ?_) (Fin.ext ?_)
  · blk_simp [e0, e1]
  · blk_simp [e0, e1]

/-! The fourth call. -/

theorem body3 (x : Vec Ideal S1024x2048 .bf16) (w : Vec Ideal S2048x512 .bf16) (r : Fin 1024) (j : Fin 512) :
    (out3_2 (F := Ideal) x w : Vec Ideal S1024x512 .f32) (ix2 r j) = ∑ k : Fin 2048, x (ix2 r k) * w (ix2 k j) := by
  unfold out3_2
  frame_out
  pointwise [k3_pay1]

theorem idx3 : ∀ t : Fin cfg3.N,
    (win3_0.index t 0 = t.val / 2 ∧ win3_0.index t 1 = 0) ∧ (win3_1.index t 0 = 0 ∧ win3_1.index t 1 = t.val % 2)
    ∧ (win3_2.index t 0 = t.val / 2 ∧ win3_2.index t 1 = t.val % 2) :=
  (by decide +kernel : ∀ t : Fin grid3.N, _)

theorem lt3 (t : Fin cfg3.N) : t.val < 32 := t.isLt.trans_eq N_3

abbrev row3 (t : Fin cfg3.N) (r : Fin 1024) : Fin 16384 := ⟨t.val / 2 * 1024 + r.val, by have := lt3 t; omega⟩
abbrev col3 (t : Fin cfg3.N) (j : Fin 512) : Fin 1024 := ⟨t.val % 2 * 512 + j.val, by omega⟩

abbrev weight3 : FVec Ideal S2048x1024 .bf16 := V c main_v45

theorem tokens3 (t : Fin cfg3.N) (r : Fin 1024) (k : Fin 2048) :
    (iblk3 V c 0 t : Vec Ideal S1024x2048 .bf16) (ix2 r k) = tokens V c (ix2 (row3 t r) k) := by
  obtain ⟨⟨e0, e1⟩, -, -⟩ := idx3 t
  blk_ext [iblk3, e0, e1]
theorem columns3 (t : Fin cfg3.N) (k : Fin 2048) (j : Fin 512) :
    (iblk3 V c 1 t : Vec Ideal S2048x512 .bf16) (ix2 k j) = weight3 V c (ix2 k (col3 t j)) := by
  obtain ⟨-, ⟨e0, e1⟩, -⟩ := idx3 t
  blk_ext [iblk3, e0, e1]

theorem block3 (t : Fin cfg3.N) (r : Fin 1024) (j : Fin 512) :
    ((dat3 V c).after 2 t : Vec Ideal S1024x512 .f32) (ix2 r j) = entry (tokens V c) (weight3 V c) (row3 t r) (col3 t j) := by
  rw [after3_2, body3]
  simp only [tokens3, columns3]
  rfl

/-- The product of the forgetting attention's keys and values. -/
theorem product3 : (dat3 V c).arrAt 2 cfg3.N = (fun i => entry (tokens V c) (weight3 V c) (i 0) (i 1) : FVec Ideal S16384x1024 .f32) := by
  refine (dat3 V c).arrAt_eq_of_covers 2 _ (by decide +kernel) fun t hf y => ?_
  obtain ⟨-, -, e0, e1⟩ := idx3 t
  obtain ⟨r, j, rfl⟩ : ∃ (r : Fin 1024) (j : Fin 512), y = ix2 r j := ⟨y 0, y 1, by funext a; match a with | ⟨0, _⟩ => rfl | ⟨1, _⟩ => rfl⟩
  refine (block3 V c t r j).trans ?_
  blk_simp
  refine congrArg₂ (entry (tokens V c) (weight3 V c)) (Fin.ext ?_) (Fin.ext ?_)
  · blk_simp [e0, e1]
  · blk_simp [e0, e1]

/-! The fifth call. -/

theorem body4 (x : Vec Ideal S1024x2048 .bf16) (w : Vec Ideal S2048x512 .bf16) (r : Fin 1024) (j : Fin 512) :
    (out4_2 (F := Ideal) x w : Vec Ideal S1024x512 .f32) (ix2 r j) = ∑ k : Fin 2048, x (ix2 r k) * w (ix2 k j) := by
  unfold out4_2
  frame_out
  pointwise [k4_pay1]

theorem idx4 : ∀ t : Fin cfg4.N,
    (win4_0.index t 0 = t.val / 2 ∧ win4_0.index t 1 = 0) ∧ (win4_1.index t 0 = 0 ∧ win4_1.index t 1 = t.val % 2)
    ∧ (win4_2.index t 0 = t.val / 2 ∧ win4_2.index t 1 = t.val % 2) :=
  (by decide +kernel : ∀ t : Fin grid4.N, _)

theorem lt4 (t : Fin cfg4.N) : t.val < 32 := t.isLt.trans_eq N_4

abbrev row4 (t : Fin cfg4.N) (r : Fin 1024) : Fin 16384 := ⟨t.val / 2 * 1024 + r.val, by have := lt4 t; omega⟩
abbrev col4 (t : Fin cfg4.N) (j : Fin 512) : Fin 1024 := ⟨t.val % 2 * 512 + j.val, by omega⟩

abbrev weight4 : FVec Ideal S2048x1024 .bf16 := V c main_v46

theorem tokens4 (t : Fin cfg4.N) (r : Fin 1024) (k : Fin 2048) :
    (iblk4 V c 0 t : Vec Ideal S1024x2048 .bf16) (ix2 r k) = tokens V c (ix2 (row4 t r) k) := by
  obtain ⟨⟨e0, e1⟩, -, -⟩ := idx4 t
  blk_ext [iblk4, e0, e1]
theorem columns4 (t : Fin cfg4.N) (k : Fin 2048) (j : Fin 512) :
    (iblk4 V c 1 t : Vec Ideal S2048x512 .bf16) (ix2 k j) = weight4 V c (ix2 k (col4 t j)) := by
  obtain ⟨-, ⟨e0, e1⟩, -⟩ := idx4 t
  blk_ext [iblk4, e0, e1]

theorem block4 (t : Fin cfg4.N) (r : Fin 1024) (j : Fin 512) :
    ((dat4 V c).after 2 t : Vec Ideal S1024x512 .f32) (ix2 r j) = entry (tokens V c) (weight4 V c) (row4 t r) (col4 t j) := by
  rw [after4_2, body4]
  simp only [tokens4, columns4]
  rfl

/-- The product of the recurrence's gate. -/
theorem product4 : (dat4 V c).arrAt 2 cfg4.N = (fun i => entry (tokens V c) (weight4 V c) (i 0) (i 1) : FVec Ideal S16384x1024 .f32) := by
  refine (dat4 V c).arrAt_eq_of_covers 2 _ (by decide +kernel) fun t hf y => ?_
  obtain ⟨-, -, e0, e1⟩ := idx4 t
  obtain ⟨r, j, rfl⟩ : ∃ (r : Fin 1024) (j : Fin 512), y = ix2 r j := ⟨y 0, y 1, by funext a; match a with | ⟨0, _⟩ => rfl | ⟨1, _⟩ => rfl⟩
  refine (block4 V c t r j).trans ?_
  blk_simp
  refine congrArg₂ (entry (tokens V c) (weight4 V c)) (Fin.ext ?_) (Fin.ext ?_)
  · blk_simp [e0, e1]
  · blk_simp [e0, e1]

/-! The sixth call. -/

theorem body5 (x : Vec Ideal S1024x2048 .bf16) (w : Vec Ideal S2048x512 .bf16) (r : Fin 1024) (j : Fin 512) :
    (out5_2 (F := Ideal) x w : Vec Ideal S1024x512 .f32) (ix2 r j) = ∑ k : Fin 2048, x (ix2 r k) * w (ix2 k j) := by
  unfold out5_2
  frame_out
  pointwise [k5_pay1]

theorem idx5 : ∀ t : Fin cfg5.N,
    (win5_0.index t 0 = t.val / 3 ∧ win5_0.index t 1 = 0) ∧ (win5_1.index t 0 = 0 ∧ win5_1.index t 1 = t.val % 3)
    ∧ (win5_2.index t 0 = t.val / 3 ∧ win5_2.index t 1 = t.val % 3) :=
  (by decide +kernel : ∀ t : Fin grid5.N, _)

theorem lt5 (t : Fin cfg5.N) : t.val < 48 := t.isLt.trans_eq N_5

abbrev row5 (t : Fin cfg5.N) (r : Fin 1024) : Fin 16384 := ⟨t.val / 3 * 1024 + r.val, by have := lt5 t; omega⟩
abbrev col5 (t : Fin cfg5.N) (j : Fin 512) : Fin 1536 := ⟨t.val % 3 * 512 + j.val, by omega⟩

abbrev weight5 : FVec Ideal S2048x1536 .bf16 := V c main_v47

theorem tokens5 (t : Fin cfg5.N) (r : Fin 1024) (k : Fin 2048) :
    (iblk5 V c 0 t : Vec Ideal S1024x2048 .bf16) (ix2 r k) = tokens V c (ix2 (row5 t r) k) := by
  obtain ⟨⟨e0, e1⟩, -, -⟩ := idx5 t
  blk_ext [iblk5, e0, e1]
theorem columns5 (t : Fin cfg5.N) (k : Fin 2048) (j : Fin 512) :
    (iblk5 V c 1 t : Vec Ideal S2048x512 .bf16) (ix2 k j) = weight5 V c (ix2 k (col5 t j)) := by
  obtain ⟨-, ⟨e0, e1⟩, -⟩ := idx5 t
  blk_ext [iblk5, e0, e1]

theorem block5 (t : Fin cfg5.N) (r : Fin 1024) (j : Fin 512) :
    ((dat5 V c).after 2 t : Vec Ideal S1024x512 .f32) (ix2 r j) = entry (tokens V c) (weight5 V c) (row5 t r) (col5 t j) := by
  rw [after5_2, body5]
  simp only [tokens5, columns5]
  rfl

/-- The product of the recurrence's input. -/
theorem product5 : (dat5 V c).arrAt 2 cfg5.N = (fun i => entry (tokens V c) (weight5 V c) (i 0) (i 1) : FVec Ideal S16384x1536 .f32) := by
  refine (dat5 V c).arrAt_eq_of_covers 2 _ (by decide +kernel) fun t hf y => ?_
  obtain ⟨-, -, e0, e1⟩ := idx5 t
  obtain ⟨r, j, rfl⟩ : ∃ (r : Fin 1024) (j : Fin 512), y = ix2 r j := ⟨y 0, y 1, by funext a; match a with | ⟨0, _⟩ => rfl | ⟨1, _⟩ => rfl⟩
  refine (block5 V c t r j).trans ?_
  blk_simp
  refine congrArg₂ (entry (tokens V c) (weight5 V c)) (Fin.ext ?_) (Fin.ext ?_)
  · blk_simp [e0, e1]
  · blk_simp [e0, e1]

/-! The last call. -/

theorem body6 (x : Vec Ideal S1024x2048 .bf16) (w : Vec Ideal S2048x128 .bf16) (r : Fin 1024) (j : Fin 128) :
    (out6_2 (F := Ideal) x w : Vec Ideal S1024x128 .f32) (ix2 r j) = ∑ k : Fin 2048, x (ix2 r k) * w (ix2 k j) := by
  unfold out6_2
  frame_out
  pointwise [k6_pay1]

theorem idx6 : ∀ t : Fin cfg6.N,
    (win6_0.index t 0 = t.val ∧ win6_0.index t 1 = 0) ∧ (win6_1.index t 0 = 0 ∧ win6_1.index t 1 = 0)
    ∧ (win6_2.index t 0 = t.val ∧ win6_2.index t 1 = 0) :=
  (by decide +kernel : ∀ t : Fin grid6.N, _)

theorem lt6 (t : Fin cfg6.N) : t.val < 16 := t.isLt.trans_eq N_6

abbrev row6 (t : Fin cfg6.N) (r : Fin 1024) : Fin 16384 := ⟨t.val * 1024 + r.val, by have := lt6 t; omega⟩
abbrev col6 (t : Fin cfg6.N) (j : Fin 128) : Fin 128 := ⟨j.val, j.isLt⟩

abbrev weight6 : FVec Ideal S2048x128 .bf16 := V c main_v51

theorem tokens6 (t : Fin cfg6.N) (r : Fin 1024) (k : Fin 2048) :
    (iblk6 V c 0 t : Vec Ideal S1024x2048 .bf16) (ix2 r k) = tokens V c (ix2 (row6 t r) k) := by
  obtain ⟨⟨e0, e1⟩, -, -⟩ := idx6 t
  blk_ext [iblk6, e0, e1]
theorem columns6 (t : Fin cfg6.N) (k : Fin 2048) (j : Fin 128) :
    (iblk6 V c 1 t : Vec Ideal S2048x128 .bf16) (ix2 k j) = weight6 V c (ix2 k (col6 t j)) := by
  obtain ⟨-, ⟨e0, e1⟩, -⟩ := idx6 t
  blk_ext [iblk6, e0, e1]

theorem block6 (t : Fin cfg6.N) (r : Fin 1024) (j : Fin 128) :
    ((dat6 V c).after 2 t : Vec Ideal S1024x128 .f32) (ix2 r j) = entry (tokens V c) (weight6 V c) (row6 t r) (col6 t j) := by
  rw [after6_2, body6]
  simp only [tokens6, columns6]
  rfl

/-- The product of the small columns. -/
theorem product6 : (dat6 V c).arrAt 2 cfg6.N = (fun i => entry (tokens V c) (weight6 V c) (i 0) (i 1) : FVec Ideal S16384x128 .f32) := by
  refine (dat6 V c).arrAt_eq_of_covers 2 _ (by decide +kernel) fun t hf y => ?_
  obtain ⟨-, -, e0, e1⟩ := idx6 t
  obtain ⟨r, j, rfl⟩ : ∃ (r : Fin 1024) (j : Fin 128), y = ix2 r j := ⟨y 0, y 1, by funext a; match a with | ⟨0, _⟩ => rfl | ⟨1, _⟩ => rfl⟩
  refine (block6 V c t r j).trans ?_
  blk_simp
  refine congrArg₂ (entry (tokens V c) (weight6 V c)) (Fin.ext ?_) (Fin.ext ?_)
  · blk_simp [e0, e1]
  · blk_simp [e0, e1]

end Cert.Kernel5Ideal.Project

end
-- ==== Proof.Project.Host.lean ====
module

public import proofs.«01_k».proof.Proof.Project.Products

/-! The host lines before the calls: the tokens as one array of rows, and the seven packed weights, each column read off
the layer's combined input weight. -/

@[expose] public section
set_option maxRecDepth 16384
noncomputable section

namespace Cert.Kernel5Ideal.Project

open Idealize.ShloMosaic Idealize.ShloMosaic.TcCoe Cert.Kernel5Ideal Cert.Kernel5Ideal.Gen Idealize.SL.Sem

variable (m : (ℓ : Loc nD τ sig) → Buf (Elt Ideal) ℓ) (ρ : Dev nD → PrngReg) (c : Dev nD)

/-- The layer's input. -/
abbrev X : FVec Ideal S8x2048x2048 .f32 := m ((c : Thread nD τ).loc main_arg0)
/-- The layer's combined input weight. -/
abbrev Wt : FVec Ideal S2048x7524 .f32 := m ((c : Thread nD τ).loc main_arg1)

/-- Row `b · 2048 + s` of the tokens is token `s` of sequence `b`. -/
theorem host_tokens (b : Fin 8) (s : Fin 2048) (k : Fin 2048) :
    (W1 m ρ c main_v1 : FVec Ideal S16384x2048 .bf16) (ix2 ⟨b.val * 2048 + s.val, by omega⟩ k) = X m c (ix3 b s k) := by
  dsimp only [W1]
  after_results
  pointwise []
  exact congrArg (X m c) (congrArg₂ (ix3 · · k) (Fin.ext (by dsimp only; omega)) (Fin.ext (by dsimp only; omega)))

/-- The packed weight of the queries. -/
def packQ (w : FVec Ideal S2048x7524 .f32) : FVec Ideal S2048x2560 .bf16 :=
  truncf .bf16 (concatenate S2048x2560 1
    [⟨S2048x1024, mulf (extractStridedSlice S2048x1024 ![0, 768] w slices_S2048x7524_S2048x1024_0_768) (broadcastInDim S2048x1024 ![] bcast_S_S2048x1024 (constant (F := Ideal) S_ .f32 0x3E000000#32))⟩,
     ⟨S2048x512, extractStridedSlice S2048x512 ![0, 0] w slices_S2048x7524_S2048x512_0_0⟩,
     ⟨S2048x512, extractStridedSlice S2048x512 ![0, 0] (extractStridedSlice S2048x1536 ![0, 1872] w slices_S2048x7524_S2048x1536_0_1872) slices_S2048x1536_S2048x512_0_0⟩,
     ⟨S2048x512, extractStridedSlice S2048x512 ![0, 0] (extractStridedSlice S2048x1536 ![0, 5984] w slices_S2048x7524_S2048x1536_0_5984) slices_S2048x1536_S2048x512_0_0⟩]
    concatenates_S2048x1024_S2048x512_S2048x512_S2048x512_S2048x2560_d1) bitsLt_bf16_f32

theorem host_q : (W1 m ρ c main_v23 : FVec Ideal S2048x2560 .bf16) = packQ (Wt m c) := by
  dsimp only [W1]
  after_results
  rfl

/-- Two reads of one row whose columns have the same number. -/
theorem at_col (w : FVec Ideal S2048x7524 .f32) (k : Fin 2048) {i j : Fin 7524} (h : i.val = j.val) : w (ix2 k i) = w (ix2 k j) :=
  congrArg (fun j => w (ix2 k j)) (Fin.ext h)

theorem packQ_idx (w : FVec Ideal S2048x7524 .f32) (k : Fin 2048) (j : Fin 1024) :
    packQ w (ix2 k ⟨j.val, by omega⟩) = w (ix2 k ⟨768 + j.val, by omega⟩) * Ideal.ofBits .f32 0x3E000000#32 := by
  unfold packQ
  pointwise []

theorem packQ_dsa (w : FVec Ideal S2048x7524 .f32) (k : Fin 2048) (j : Fin 512) :
    packQ w (ix2 k ⟨1024 + j.val, by omega⟩) = w (ix2 k ⟨j.val, by omega⟩) := by
  unfold packQ
  pointwise []

theorem packQ_moba (w : FVec Ideal S2048x7524 .f32) (k : Fin 2048) (j : Fin 512) :
    packQ w (ix2 k ⟨1536 + j.val, by omega⟩) = w (ix2 k ⟨1872 + j.val, by omega⟩) := by
  unfold packQ
  pointwise []
  rw [dif_neg (by omega), dif_neg (by omega), dif_pos (by omega)]
  exact at_col w k (by dsimp only; omega)

theorem packQ_fox (w : FVec Ideal S2048x7524 .f32) (k : Fin 2048) (j : Fin 512) :
    packQ w (ix2 k ⟨2048 + j.val, by omega⟩) = w (ix2 k ⟨5984 + j.val, by omega⟩) := by
  unfold packQ
  pointwise []
  rw [dif_neg (by omega), dif_neg (by omega), dif_neg (by omega)]
  exact at_col w k (by dsimp only; omega)

/-- The packed weight of the latent rows. -/
def packD (w : FVec Ideal S2048x7524 .f32) : FVec Ideal S2048x320 .bf16 :=
  truncf .bf16 (concatenate S2048x320 1
    [⟨S2048x256, extractStridedSlice S2048x256 ![0, 512] w slices_S2048x7524_S2048x256_0_512⟩,
     ⟨S2048x64, extractStridedSlice S2048x64 ![0, 1792] w slices_S2048x7524_S2048x64_0_1792⟩]
    concatenates_S2048x256_S2048x64_S2048x320_d1) bitsLt_bf16_f32

theorem host_d : (W1 m ρ c main_v25 : FVec Ideal S2048x320 .bf16) = packD (Wt m c) := by
  dsimp only [W1]
  after_results
  rfl

/-- The column of `w` that column `j` of the packed weight holds. -/
def colD (j : Fin 320) : Fin 7524 := if j.val < 256 then ⟨512 + j.val, by omega⟩ else ⟨1792 + (j.val - 256), by omega⟩

theorem packD_apply (w : FVec Ideal S2048x7524 .f32) (k : Fin 2048) (j : Fin 320) :
    packD w (ix2 k j) = w (ix2 k (colD j)) := by
  unfold packD colD
  pointwise []
  split_ifs <;> rfl

/-- The packed weight of an attention's keys and values, head by head: a head's keys, then its values. -/
def packKV (k v : FVec Ideal S2048x512 .f32) : FVec Ideal S2048x1024 .bf16 :=
  truncf .bf16 (concatenate S2048x1024 1
    [⟨S2048x128, extractStridedSlice S2048x128 ![0, 0] k slices_S2048x512_S2048x128_0_0⟩,
     ⟨S2048x128, extractStridedSlice S2048x128 ![0, 0] v slices_S2048x512_S2048x128_0_0⟩,
     ⟨S2048x128, extractStridedSlice S2048x128 ![0, 128] k slices_S2048x512_S2048x128_0_128⟩,
     ⟨S2048x128, extractStridedSlice S2048x128 ![0, 128] v slices_S2048x512_S2048x128_0_128⟩,
     ⟨S2048x128, extractStridedSlice S2048x128 ![0, 256] k slices_S2048x512_S2048x128_0_256⟩,
     ⟨S2048x128, extractStridedSlice S2048x128 ![0, 256] v slices_S2048x512_S2048x128_0_256⟩,
     ⟨S2048x128, extractStridedSlice S2048x128 ![0, 384] k slices_S2048x512_S2048x128_0_384⟩,
     ⟨S2048x128, extractStridedSlice S2048x128 ![0, 384] v slices_S2048x512_S2048x128_0_384⟩]
    concatenates_S2048x128_S2048x128_S2048x128_S2048x128_S2048x128_S2048x128_S2048x128_S2048x128_S2048x1024_d1) bitsLt_bf16_f32

/-- The keys' and the values' part of a group of 1536 columns. -/
abbrev keysOf (g : FVec Ideal S2048x1536 .f32) : FVec Ideal S2048x512 .f32 := extractStridedSlice S2048x512 ![0, 512] g slices_S2048x1536_S2048x512_0_512
abbrev valuesOf (g : FVec Ideal S2048x1536 .f32) : FVec Ideal S2048x512 .f32 := extractStridedSlice S2048x512 ![0, 1024] g slices_S2048x1536_S2048x512_0_1024
abbrev mobaCols (w : FVec Ideal S2048x7524 .f32) : FVec Ideal S2048x1536 .f32 := extractStridedSlice S2048x1536 ![0, 1872] w slices_S2048x7524_S2048x1536_0_1872
abbrev foxCols (w : FVec Ideal S2048x7524 .f32) : FVec Ideal S2048x1536 .f32 := extractStridedSlice S2048x1536 ![0, 5984] w slices_S2048x7524_S2048x1536_0_5984

theorem host_m : (W1 m ρ c main_v35 : FVec Ideal S2048x1024 .bf16) = packKV (keysOf (mobaCols (Wt m c))) (valuesOf (mobaCols (Wt m c))) := by
  dsimp only [W1]
  after_results
  rfl

theorem host_f : (W1 m ρ c main_v45 : FVec Ideal S2048x1024 .bf16) = packKV (keysOf (foxCols (Wt m c))) (valuesOf (foxCols (Wt m c))) := by
  dsimp only [W1]
  after_results
  rfl

theorem at_key (u : FVec Ideal S2048x512 .f32) (k : Fin 2048) {i j : Fin 512} (h : i.val = j.val) : u (ix2 k i) = u (ix2 k j) :=
  congrArg (fun j => u (ix2 k j)) (Fin.ext h)

theorem packKV_key (u v : FVec Ideal S2048x512 .f32) (k : Fin 2048) (h : Fin 4) (d : Fin 128) :
    packKV u v (ix2 k ⟨h.val * 256 + d.val, by omega⟩) = u (ix2 k ⟨h.val * 128 + d.val, by omega⟩) := by
  unfold packKV
  pointwise []
  split_ifs <;> first | (exfalso; omega) | exact at_key u k (by dsimp only; omega)

theorem packKV_value (u v : FVec Ideal S2048x512 .f32) (k : Fin 2048) (h : Fin 4) (d : Fin 128) :
    packKV u v (ix2 k ⟨h.val * 256 + (128 + d.val), by omega⟩) = v (ix2 k ⟨h.val * 128 + d.val, by omega⟩) := by
  unfold packKV
  pointwise []
  split_ifs <;> first | (exfalso; omega) | exact at_key v k (by dsimp only; omega)

/-- The packed weight of the small columns. -/
def packS (w : FVec Ideal S2048x7524 .f32) : FVec Ideal S2048x128 .bf16 :=
  truncf .bf16 (concatenate S2048x128 1
    [⟨S2048x16, mulf (extractStridedSlice S2048x16 ![0, 1856] w slices_S2048x7524_S2048x16_0_1856) (broadcastInDim S2048x16 ![] bcast_S_S2048x16 (constant (F := Ideal) S_ .f32 0x3E800000#32))⟩,
     ⟨S2048x16, extractStridedSlice S2048x16 ![0, 5968] w slices_S2048x7524_S2048x16_0_5968⟩,
     ⟨S2048x4, extractStridedSlice S2048x4 ![0, 7520] w slices_S2048x7524_S2048x4_0_7520⟩,
     ⟨S2048x92, broadcastInDim S2048x92 ![] bcast_S_S2048x92 (constant (F := Ideal) S_ .f32 0x00000000#32)⟩]
    concatenates_S2048x16_S2048x16_S2048x4_S2048x92_S2048x128_d1) bitsLt_bf16_f32

theorem host_s : (W1 m ρ c main_v51 : FVec Ideal S2048x128 .bf16) = packS (Wt m c) := by
  dsimp only [W1]
  after_results
  rfl

theorem packS_w (w : FVec Ideal S2048x7524 .f32) (k : Fin 2048) (j : Fin 16) :
    packS w (ix2 k ⟨j.val, by omega⟩) = w (ix2 k ⟨1856 + j.val, by omega⟩) * Ideal.ofBits .f32 0x3E800000#32 := by
  unfold packS
  pointwise []

theorem packS_dt (w : FVec Ideal S2048x7524 .f32) (k : Fin 2048) (j : Fin 16) :
    packS w (ix2 k ⟨16 + j.val, by omega⟩) = w (ix2 k ⟨5968 + j.val, by omega⟩) := by
  unfold packS
  pointwise []

theorem packS_f (w : FVec Ideal S2048x7524 .f32) (k : Fin 2048) (j : Fin 4) :
    packS w (ix2 k ⟨32 + j.val, by omega⟩) = w (ix2 k ⟨7520 + j.val, by omega⟩) := by
  unfold packS
  pointwise []
  rw [dif_neg (by omega), dif_neg (by omega), dif_pos (by omega)]
  exact at_col w k (by dsimp only; omega)

theorem host_z (k : Fin 2048) (j : Fin 1024) :
    (W1 m ρ c main_v46 : FVec Ideal S2048x1024 .bf16) (ix2 k j) = Wt m c (ix2 k ⟨3408 + j.val, by omega⟩) := by
  dsimp only [W1]
  after_results
  pointwise []

theorem host_x (k : Fin 2048) (j : Fin 1536) :
    (W1 m ρ c main_v47 : FVec Ideal S2048x1536 .bf16) (ix2 k j) = Wt m c (ix2 k ⟨4432 + j.val, by omega⟩) := by
  dsimp only [W1]
  after_results
  pointwise []

end Cert.Kernel5Ideal.Project

end
-- ==== Proof.Project.Reference.lean ====
module

public import proofs.«01_k».proof.Proof.Gen.Reference5Ideal.Read
public import Idealize.ShloMosaic.Lib.Pointwise

/-! The reference of the input projection, read at an index: a column of the product of the layer's input with its
combined weight, the indexer's two results by their scale. -/

@[expose] public section
set_option maxRecDepth 16384
noncomputable section

namespace Cert.Reference5Ideal.Project

open Idealize.ShloMosaic Idealize.ShloMosaic.TcCoe Cert.Reference5Ideal Cert.Reference5Ideal.Gen Cert.Reference5Ideal.Read Idealize.SL.Sem

/-- Token `s` of sequence `b` times column `j` of the combined weight. -/
def proj (x : FVec Ideal S8x2048x2048 .f32) (w : FVec Ideal S2048x7524 .f32) (b : Fin 8) (s : Fin 2048) (j : Fin 7524) : EReal :=
  ∑ k : Fin 2048, x (ix3 b s k) * w (ix2 k j)

/-- The combined weight's column that column `j` of a latent row takes: the latent's, then the indexer's key's. -/
def colD (j : Fin 320) : Fin 7524 := if j.val < 256 then ⟨512 + j.val, by omega⟩ else ⟨1792 + (j.val - 256), by omega⟩

variable (x : FVec Ideal S8x2048x2048 .f32) (w : FVec Ideal S2048x7524 .f32) (b : Fin 8) (s : Fin 2048)

theorem whole (j : Fin 7524) : val_main_v0 (F := Ideal) x w (ix3 b s j) = proj x w b s j := by
  unfold proj
  pointwise [val_main_v0]

/-- The indexer's queries. -/
theorem idx_q (h : Fin 16) (d : Fin 64) :
    val_main_v19 (F := Ideal) x w (ix4 b s h d) = proj x w b s ⟨768 + (h.val * 64 + d.val), by omega⟩ * Ideal.ofBits .f32 0x3E000000#32 := by
  pointwise [val_main_v19, val_main_v18, val_main_v17, val_main_cst, val_main_v16, val_main_v3, whole]

/-- The three attentions' queries. -/
theorem dsa_q (h : Fin 4) (d : Fin 128) :
    val_main_v21 (F := Ideal) x w (ix4 b s h d) = proj x w b s ⟨h.val * 128 + d.val, by omega⟩ := by
  pointwise [val_main_v21, val_main_v20, val_main_v1, whole]
theorem moba_q (h : Fin 4) (d : Fin 128) :
    val_main_v23 (F := Ideal) x w (ix4 b s h d) = proj x w b s ⟨1872 + (h.val * 128 + d.val), by omega⟩ := by
  pointwise [val_main_v23, val_main_v22, val_main_v6, whole]
theorem fox_q (h : Fin 4) (d : Fin 128) :
    val_main_v25 (F := Ideal) x w (ix4 b s h d) = proj x w b s ⟨5984 + (h.val * 128 + d.val), by omega⟩ := by
  pointwise [val_main_v25, val_main_v24, val_main_v12, whole]

/-- The latent rows. -/
theorem dsa_row (j : Fin 320) : val_main_v26 (F := Ideal) x w (ix3 b s j) = proj x w b s (colD j) := by
  unfold colD
  pointwise [val_main_v26, val_main_v2, val_main_v4, whole]
  split_ifs <;> rfl

/-- A key or a value of a head of the block attention's rows. -/
theorem moba_row (h : Fin 4) (d : Fin 256) :
    val_main_v29 (F := Ideal) x w (ix4 b s h d)
      = if hd : d.val < 128 then proj x w b s ⟨2384 + (h.val * 128 + d.val), by omega⟩ else proj x w b s ⟨2896 + (h.val * 128 + (d.val - 128)), by omega⟩ := by
  pointwise [val_main_v29, val_main_v28, val_main_v27, val_main_v7, val_main_v8, whole]

/-- A key or a value of a head of the forgetting attention's rows. -/
theorem fox_row (h : Fin 4) (d : Fin 256) :
    val_main_v32 (F := Ideal) x w (ix4 b s h d)
      = if hd : d.val < 128 then proj x w b s ⟨6496 + (h.val * 128 + d.val), by omega⟩ else proj x w b s ⟨7008 + (h.val * 128 + (d.val - 128)), by omega⟩ := by
  pointwise [val_main_v32, val_main_v31, val_main_v30, val_main_v13, val_main_v14, whole]

/-- The recurrence's gate, its input, and the last three rows of that input. -/
theorem ssm_z (j : Fin 1024) : val_main_v9 (F := Ideal) x w (ix3 b s j) = proj x w b s ⟨3408 + j.val, by omega⟩ := by
  pointwise [val_main_v9, whole]
theorem ssm_xbc (j : Fin 1536) : val_main_v10 (F := Ideal) x w (ix3 b s j) = proj x w b s ⟨4432 + j.val, by omega⟩ := by
  pointwise [val_main_v10, whole]
theorem tail (t : Fin 3) (j : Fin 1536) :
    val_main_v35 (F := Ideal) x w (ix3 b t j) = proj x w b ⟨2045 + t.val, by omega⟩ ⟨4432 + j.val, by omega⟩ := by
  pointwise [val_main_v35, val_main_v10, whole]

/-- The indexer's weights, the recurrence's time steps, the forgetting attention's gates. -/
theorem idx_w (j : Fin 16) :
    val_main_v34 (F := Ideal) x w (ix3 b s j) = proj x w b s ⟨1856 + j.val, by omega⟩ * Ideal.ofBits .f32 0x3E800000#32 := by
  pointwise [val_main_v34, val_main_v33, val_main_cst_0, val_main_v5, whole]
theorem ssm_dt (j : Fin 16) : val_main_v11 (F := Ideal) x w (ix3 b s j) = proj x w b s ⟨5968 + j.val, by omega⟩ := by
  pointwise [val_main_v11, whole]
theorem fox_f (j : Fin 4) : val_main_v15 (F := Ideal) x w (ix3 b s j) = proj x w b s ⟨7520 + j.val, by omega⟩ := by
  pointwise [val_main_v15, whole]

end Cert.Reference5Ideal.Project

end
-- ==== Proof.Project.Results.lean ====
module

public import proofs.«01_k».proof.Proof.Project.Host
public import proofs.«01_k».proof.Proof.Project.Reference

/-! What the seven calls leave: a row of a call's result is a token times the columns of its packed weight. Hence the
thirteen results are the reference's. -/

@[expose] public section
set_option maxRecDepth 16384
noncomputable section

namespace Cert.Kernel5Ideal.Project

open Idealize.ShloMosaic Idealize.ShloMosaic.TcCoe Cert.Kernel5Ideal Cert.Kernel5Ideal.Gen Idealize.SL.Sem
open Cert.Reference5Ideal.Read
open Cert.Reference5Ideal.Project (proj)

variable (m : (ℓ : Loc nD τ sig) → Buf (Elt Ideal) ℓ) (ρ : Dev nD → PrngReg) (c : Dev nD)

/-! Every call finds the tokens as the host lines left them. -/

theorem found2 : W2 m ρ c main_v1 = W1 m ρ c main_v1 := W2_of m ρ c main_v1 (by decide)
theorem found3 : W3 m ρ c main_v1 = W1 m ρ c main_v1 := (W3_of m ρ c main_v1 (by decide)).trans (found2 m ρ c)
theorem found4 : W4 m ρ c main_v1 = W1 m ρ c main_v1 := (W4_of m ρ c main_v1 (by decide)).trans (found3 m ρ c)
theorem found5 : W5 m ρ c main_v1 = W1 m ρ c main_v1 := (W5_of m ρ c main_v1 (by decide)).trans (found4 m ρ c)
theorem found6 : W6 m ρ c main_v1 = W1 m ρ c main_v1 := (W6_of m ρ c main_v1 (by decide)).trans (found5 m ρ c)
theorem found7 : W7 m ρ c main_v1 = W1 m ρ c main_v1 := (W7_of m ρ c main_v1 (by decide)).trans (found6 m ρ c)

/-! Each call's result at the end of the calls: later calls leave it, and earlier ones leave its weight. -/

theorem call0 : (W8 m ρ c main_v52 : FVec Ideal S16384x2560 .bf16) = fun i => entry (W1 m ρ c main_v1) (W1 m ρ c main_v23) (i 0) (i 1) := by
  rw [W8_of_ne m ρ c main_v52 (by decide), W7_of_ne m ρ c main_v52 (by decide), W6_of_ne m ρ c main_v52 (by decide), W5_of_ne m ρ c main_v52 (by decide),
    W4_of_ne m ρ c main_v52 (by decide), W3_of_ne m ρ c main_v52 (by decide)]
  exact (W2_arr m ρ c 2).trans (product0 (V1 m ρ) c)

theorem call1 : (W8 m ρ c main_v53 : FVec Ideal S16384x320 .f32) = fun i => entry (W1 m ρ c main_v1) (W1 m ρ c main_v25) (i 0) (i 1) := by
  rw [W8_of_ne m ρ c main_v53 (by decide), W7_of_ne m ρ c main_v53 (by decide), W6_of_ne m ρ c main_v53 (by decide), W5_of_ne m ρ c main_v53 (by decide),
    W4_of_ne m ρ c main_v53 (by decide), ← found2 m ρ c, ← W2_of_ne m ρ c main_v25 (by decide)]
  exact (W3_arr m ρ c 2).trans (product1 (V2 m ρ) c)

theorem call2 : (W8 m ρ c main_v54 : FVec Ideal S16384x1024 .f32) = fun i => entry (W1 m ρ c main_v1) (W1 m ρ c main_v35) (i 0) (i 1) := by
  rw [W8_of_ne m ρ c main_v54 (by decide), W7_of_ne m ρ c main_v54 (by decide), W6_of_ne m ρ c main_v54 (by decide), W5_of_ne m ρ c main_v54 (by decide),
    ← found3 m ρ c, ← W2_of_ne m ρ c main_v35 (by decide), ← W3_of_ne m ρ c main_v35 (by decide)]
  exact (W4_arr m ρ c 2).trans (product2 (V3 m ρ) c)

theorem call3 : (W8 m ρ c main_v55 : FVec Ideal S16384x1024 .f32) = fun i => entry (W1 m ρ c main_v1) (W1 m ρ c main_v45) (i 0) (i 1) := by
  rw [W8_of_ne m ρ c main_v55 (by decide), W7_of_ne m ρ c main_v55 (by decide), W6_of_ne m ρ c main_v55 (by decide), ← found4 m ρ c,
    ← W2_of_ne m ρ c main_v45 (by decide), ← W3_of_ne m ρ c main_v45 (by decide), ← W4_of_ne m ρ c main_v45 (by decide)]
  exact (W5_arr m ρ c 2).trans (product3 (V4 m ρ) c)

theorem call4 : (W8 m ρ c main_v56 : FVec Ideal S16384x1024 .f32) = fun i => entry (W1 m ρ c main_v1) (W1 m ρ c main_v46) (i 0) (i 1) := by
  rw [W8_of_ne m ρ c main_v56 (by decide), W7_of_ne m ρ c main_v56 (by decide), ← found5 m ρ c, ← W2_of_ne m ρ c main_v46 (by decide),
    ← W3_of_ne m ρ c main_v46 (by decide), ← W4_of_ne m ρ c main_v46 (by decide), ← W5_of_ne m ρ c main_v46 (by decide)]
  exact (W6_arr m ρ c 2).trans (product4 (V5 m ρ) c)

theorem call5 : (W8 m ρ c main_v57 : FVec Ideal S16384x1536 .f32) = fun i => entry (W1 m ρ c main_v1) (W1 m ρ c main_v47) (i 0) (i 1) := by
  rw [W8_of_ne m ρ c main_v57 (by decide), ← found6 m ρ c, ← W2_of_ne m ρ c main_v47 (by decide), ← W3_of_ne m ρ c main_v47 (by decide),
    ← W4_of_ne m ρ c main_v47 (by decide), ← W5_of_ne m ρ c main_v47 (by decide), ← W6_of_ne m ρ c main_v47 (by decide)]
  exact (W7_arr m ρ c 2).trans (product5 (V6 m ρ) c)

theorem call6 : (W8 m ρ c main_v58 : FVec Ideal S16384x128 .f32) = fun i => entry (W1 m ρ c main_v1) (W1 m ρ c main_v51) (i 0) (i 1) := by
  rw [← found7 m ρ c, ← W2_of_ne m ρ c main_v51 (by decide), ← W3_of_ne m ρ c main_v51 (by decide), ← W4_of_ne m ρ c main_v51 (by decide),
    ← W5_of_ne m ρ c main_v51 (by decide), ← W6_of_ne m ρ c main_v51 (by decide), ← W7_of_ne m ρ c main_v51 (by decide)]
  exact (W8_arr m ρ c 2).trans (product6 (V7 m ρ) c)

/-- A token's row of a call's result, over the layer's input. -/
theorem entry_row {n : ℕ} (W : (⟨2, ![2048, n]⟩ : Shape).Idx → EReal) (b : Fin 8) (s : Fin 2048) (j : Fin n) :
    entry (W1 m ρ c main_v1) W ⟨b.val * 2048 + s.val, by omega⟩ j = ∑ k : Fin 2048, X m c (ix3 b s k) * W (ix2 k j) :=
  Finset.sum_congr rfl fun k _ => congrArg (· * W (ix2 k j)) (host_tokens m ρ c b s k)

/-- A column of a packed weight that is a column of the combined weight gives that column's product. -/
theorem entry_proj {n : ℕ} (W : (⟨2, ![2048, n]⟩ : Shape).Idx → EReal) (b : Fin 8) (s : Fin 2048) (j : Fin n) (i : Fin 7524)
    (h : ∀ k, W (ix2 k j) = Wt m c (ix2 k i)) : entry (W1 m ρ c main_v1) W ⟨b.val * 2048 + s.val, by omega⟩ j = proj (X m c) (Wt m c) b s i :=
  (entry_row m ρ c W b s j).trans (Finset.sum_congr rfl fun k _ => congrArg (X m c (ix3 b s k) * ·) (h k))

/-- A nonnegative finite factor comes out of a sum of extended reals. -/
theorem sum_scale {ι : Type} (t : Finset ι) (f g : ι → EReal) {a : EReal} (h0 : 0 ≤ a) (ht : a ≠ ⊤) :
    ∑ k ∈ t, f k * (g k * a) = (∑ k ∈ t, f k * g k) * a := by
  classical
  induction t using Finset.induction_on with
  | empty => simp
  | insert k t hk ih =>
    rw [Finset.sum_insert hk, Finset.sum_insert hk, ih, EReal.right_distrib_of_nonneg_of_ne_top h0 ht, mul_assoc]

/-- The same of a column that is a column of the combined weight times a scale. -/
theorem entry_scaled {n : ℕ} (W : (⟨2, ![2048, n]⟩ : Shape).Idx → EReal) (b : Fin 8) (s : Fin 2048) (j : Fin n) (i : Fin 7524) {a : EReal}
    (h0 : 0 ≤ a) (ht : a ≠ ⊤) (h : ∀ k, W (ix2 k j) = Wt m c (ix2 k i) * a) :
    entry (W1 m ρ c main_v1) W ⟨b.val * 2048 + s.val, by omega⟩ j = proj (X m c) (Wt m c) b s i * a :=
  (entry_row m ρ c W b s j).trans ((Finset.sum_congr rfl fun k _ => congrArg (X m c (ix3 b s k) * ·) (h k)).trans (sum_scale _ _ _ h0 ht))

/-- The indexer's two scales, an eighth and a quarter. -/
theorem eighth : Ideal.ofBits .f32 0x3E000000#32 = ((1 / 8 : ℝ) : EReal) := by
  simp [Ideal.ofBits, Ideal.ieee, -EReal.coe_mul]; norm_num
theorem quarter : Ideal.ofBits .f32 0x3E800000#32 = ((1 / 4 : ℝ) : EReal) := by
  simp [Ideal.ofBits, Ideal.ieee, -EReal.coe_mul]; norm_num

theorem scale_nonneg {r : ℝ} (h : 0 ≤ r) : (0 : EReal) ≤ (r : EReal) := EReal.coe_nonneg.mpr h

/-! Arrays that agree at every index agree. -/

theorem ext3 {p q r : ℕ} {f g : (⟨3, ![p, q, r]⟩ : Shape).Idx → EReal} (h : ∀ (a : Fin p) (b : Fin q) (d : Fin r), f (ix3 a b d) = g (ix3 a b d)) : f = g := by
  funext i
  have e : i = ix3 (i 0) (i 1) (i 2) := by funext a; match a with | ⟨0, _⟩ => rfl | ⟨1, _⟩ => rfl | ⟨2, _⟩ => rfl
  rw [e]
  exact h _ _ _
theorem ext4 {p q r s : ℕ} {f g : (⟨4, ![p, q, r, s]⟩ : Shape).Idx → EReal} (h : ∀ (a : Fin p) (b : Fin q) (d : Fin r) (e : Fin s), f (ix4 a b d e) = g (ix4 a b d e)) : f = g := by
  funext i
  have e : i = ix4 (i 0) (i 1) (i 2) (i 3) := by funext a; match a with | ⟨0, _⟩ => rfl | ⟨1, _⟩ => rfl | ⟨2, _⟩ => rfl | ⟨3, _⟩ => rfl
  rw [e]
  exact h _ _ _ _

/-! The host lines after the calls, read at an index. -/

theorem idx_q_at (b : Fin 8) (s : Fin 2048) (h : Fin 16) (d : Fin 64) :
    (W9 m ρ c main_v60 : FVec Ideal S8x2048x16x64 .bf16) (ix4 b s h d)
      = (W8 m ρ c main_v52 : FVec Ideal S16384x2560 .bf16) (ix2 ⟨b.val * 2048 + s.val, by omega⟩ ⟨h.val * 64 + d.val, by omega⟩) := by
  dsimp only [W9]
  after_results
  pointwise []

theorem dsa_q_at (b : Fin 8) (s : Fin 2048) (h : Fin 4) (d : Fin 128) :
    (W9 m ρ c main_v62 : FVec Ideal S8x2048x4x128 .bf16) (ix4 b s h d)
      = (W8 m ρ c main_v52 : FVec Ideal S16384x2560 .bf16) (ix2 ⟨b.val * 2048 + s.val, by omega⟩ ⟨1024 + (h.val * 128 + d.val), by omega⟩) := by
  dsimp only [W9]
  after_results
  pointwise []

theorem moba_q_at (b : Fin 8) (s : Fin 2048) (h : Fin 4) (d : Fin 128) :
    (W9 m ρ c main_v64 : FVec Ideal S8x2048x4x128 .bf16) (ix4 b s h d)
      = (W8 m ρ c main_v52 : FVec Ideal S16384x2560 .bf16) (ix2 ⟨b.val * 2048 + s.val, by omega⟩ ⟨1536 + (h.val * 128 + d.val), by omega⟩) := by
  dsimp only [W9]
  after_results
  pointwise []

theorem fox_q_at (b : Fin 8) (s : Fin 2048) (h : Fin 4) (d : Fin 128) :
    (W9 m ρ c main_v66 : FVec Ideal S8x2048x4x128 .bf16) (ix4 b s h d)
      = (W8 m ρ c main_v52 : FVec Ideal S16384x2560 .bf16) (ix2 ⟨b.val * 2048 + s.val, by omega⟩ ⟨2048 + (h.val * 128 + d.val), by omega⟩) := by
  dsimp only [W9]
  after_results
  pointwise []

theorem dsa_row_at (b : Fin 8) (s : Fin 2048) (j : Fin 320) :
    (W9 m ρ c main_v67 : FVec Ideal S8x2048x320 .f32) (ix3 b s j)
      = (W8 m ρ c main_v53 : FVec Ideal S16384x320 .f32) (ix2 ⟨b.val * 2048 + s.val, by omega⟩ j) := by
  dsimp only [W9]
  after_results
  pointwise []

theorem moba_row_at (b : Fin 8) (s : Fin 2048) (h : Fin 4) (d : Fin 256) :
    (W9 m ρ c main_v68 : FVec Ideal S8x2048x4x256 .f32) (ix4 b s h d)
      = (W8 m ρ c main_v54 : FVec Ideal S16384x1024 .f32) (ix2 ⟨b.val * 2048 + s.val, by omega⟩ ⟨h.val * 256 + d.val, by omega⟩) := by
  dsimp only [W9]
  after_results
  pointwise []

theorem fox_row_at (b : Fin 8) (s : Fin 2048) (h : Fin 4) (d : Fin 256) :
    (W9 m ρ c main_v69 : FVec Ideal S8x2048x4x256 .f32) (ix4 b s h d)
      = (W8 m ρ c main_v55 : FVec Ideal S16384x1024 .f32) (ix2 ⟨b.val * 2048 + s.val, by omega⟩ ⟨h.val * 256 + d.val, by omega⟩) := by
  dsimp only [W9]
  after_results
  pointwise []

theorem ssm_z_at (b : Fin 8) (s : Fin 2048) (j : Fin 1024) :
    (W9 m ρ c main_v70 : FVec Ideal S8x2048x1024 .f32) (ix3 b s j)
      = (W8 m ρ c main_v56 : FVec Ideal S16384x1024 .f32) (ix2 ⟨b.val * 2048 + s.val, by omega⟩ j) := by
  dsimp only [W9]
  after_results
  pointwise []

theorem ssm_xbc_at (b : Fin 8) (s : Fin 2048) (j : Fin 1536) :
    (W9 m ρ c main_v71 : FVec Ideal S8x2048x1536 .f32) (ix3 b s j)
      = (W8 m ρ c main_v57 : FVec Ideal S16384x1536 .f32) (ix2 ⟨b.val * 2048 + s.val, by omega⟩ j) := by
  dsimp only [W9]
  after_results
  pointwise []

theorem idx_w_at (b : Fin 8) (s : Fin 2048) (j : Fin 16) :
    (W9 m ρ c main_v73 : FVec Ideal S8x2048x16 .f32) (ix3 b s j)
      = (W8 m ρ c main_v58 : FVec Ideal S16384x128 .f32) (ix2 ⟨b.val * 2048 + s.val, by omega⟩ ⟨j.val, by omega⟩) := by
  dsimp only [W9]
  after_results
  pointwise []

theorem ssm_dt_at (b : Fin 8) (s : Fin 2048) (j : Fin 16) :
    (W9 m ρ c main_v75 : FVec Ideal S8x2048x16 .f32) (ix3 b s j)
      = (W8 m ρ c main_v58 : FVec Ideal S16384x128 .f32) (ix2 ⟨b.val * 2048 + s.val, by omega⟩ ⟨16 + j.val, by omega⟩) := by
  dsimp only [W9]
  after_results
  pointwise []

theorem fox_f_at (b : Fin 8) (s : Fin 2048) (j : Fin 4) :
    (W9 m ρ c main_v77 : FVec Ideal S8x2048x4 .f32) (ix3 b s j)
      = (W8 m ρ c main_v58 : FVec Ideal S16384x128 .f32) (ix2 ⟨b.val * 2048 + s.val, by omega⟩ ⟨32 + j.val, by omega⟩) := by
  dsimp only [W9]
  after_results
  pointwise []

theorem tail_at (b : Fin 8) (t : Fin 3) (j : Fin 1536) :
    (W9 m ρ c main_v79 : FVec Ideal S8x3x1536 .f32) (ix3 b t j)
      = (W8 m ρ c main_v57 : FVec Ideal S16384x1536 .f32) (ix2 ⟨b.val * 2048 + (2045 + t.val), by omega⟩ j) := by
  dsimp only [W9]
  after_results
  pointwise []

/-! The thirteen results are the reference's. -/

theorem idx_q_eq : (W9 m ρ c main_v60 : FVec Ideal S8x2048x16x64 .bf16) = val_main_v19 (F := Ideal) (X m c) (Wt m c) :=
  ext4 fun b s h d => (idx_q_at m ρ c b s h d).trans ((congrFun (call0 m ρ c) _).trans
    ((entry_scaled m ρ c _ b s _ ⟨768 + (h.val * 64 + d.val), by omega⟩ (eighth ▸ scale_nonneg (by norm_num)) (eighth ▸ EReal.coe_ne_top _)
      fun k => (congrFun (host_q m ρ c) _).trans (packQ_idx _ k ⟨h.val * 64 + d.val, by omega⟩)).trans
    (Cert.Reference5Ideal.Project.idx_q _ _ b s h d).symm))

theorem dsa_q_eq : (W9 m ρ c main_v62 : FVec Ideal S8x2048x4x128 .bf16) = val_main_v21 (F := Ideal) (X m c) (Wt m c) :=
  ext4 fun b s h d => (dsa_q_at m ρ c b s h d).trans ((congrFun (call0 m ρ c) _).trans
    ((entry_proj m ρ c _ b s _ ⟨h.val * 128 + d.val, by omega⟩
      fun k => (congrFun (host_q m ρ c) _).trans (packQ_dsa _ k ⟨h.val * 128 + d.val, by omega⟩)).trans
    (Cert.Reference5Ideal.Project.dsa_q _ _ b s h d).symm))

theorem moba_q_eq : (W9 m ρ c main_v64 : FVec Ideal S8x2048x4x128 .bf16) = val_main_v23 (F := Ideal) (X m c) (Wt m c) :=
  ext4 fun b s h d => (moba_q_at m ρ c b s h d).trans ((congrFun (call0 m ρ c) _).trans
    ((entry_proj m ρ c _ b s _ ⟨1872 + (h.val * 128 + d.val), by omega⟩
      fun k => (congrFun (host_q m ρ c) _).trans (packQ_moba _ k ⟨h.val * 128 + d.val, by omega⟩)).trans
    (Cert.Reference5Ideal.Project.moba_q _ _ b s h d).symm))

theorem fox_q_eq : (W9 m ρ c main_v66 : FVec Ideal S8x2048x4x128 .bf16) = val_main_v25 (F := Ideal) (X m c) (Wt m c) :=
  ext4 fun b s h d => (fox_q_at m ρ c b s h d).trans ((congrFun (call0 m ρ c) _).trans
    ((entry_proj m ρ c _ b s _ ⟨5984 + (h.val * 128 + d.val), by omega⟩
      fun k => (congrFun (host_q m ρ c) _).trans (packQ_fox _ k ⟨h.val * 128 + d.val, by omega⟩)).trans
    (Cert.Reference5Ideal.Project.fox_q _ _ b s h d).symm))

theorem dsa_row_eq : (W9 m ρ c main_v67 : FVec Ideal S8x2048x320 .f32) = val_main_v26 (F := Ideal) (X m c) (Wt m c) :=
  ext3 fun b s j => (dsa_row_at m ρ c b s j).trans ((congrFun (call1 m ρ c) _).trans
    ((entry_proj m ρ c _ b s j _ fun k => (congrFun (host_d m ρ c) _).trans (packD_apply _ k j)).trans
    (Cert.Reference5Ideal.Project.dsa_row _ _ b s j).symm))

/-- A head's keys and values: the column of `packKV` for the key or the value, as the group of columns holds it. -/
theorem kv_proj (u v : FVec Ideal S2048x512 .f32) (W : (⟨2, ![2048, 1024]⟩ : Shape).Idx → EReal) (hW : W = packKV u v) (o p : ℕ) (ho : o + 512 ≤ 7524) (hp : p + 512 ≤ 7524)
    (hu : ∀ k (j : Fin 512), u (ix2 k j) = Wt m c (ix2 k ⟨o + j.val, by omega⟩)) (hv : ∀ k (j : Fin 512), v (ix2 k j) = Wt m c (ix2 k ⟨p + j.val, by omega⟩))
    (b : Fin 8) (s : Fin 2048) (h : Fin 4) (d : Fin 256) :
    entry (W1 m ρ c main_v1) W ⟨b.val * 2048 + s.val, by omega⟩ ⟨h.val * 256 + d.val, by omega⟩
      = if hd : d.val < 128 then proj (X m c) (Wt m c) b s ⟨o + (h.val * 128 + d.val), by omega⟩ else proj (X m c) (Wt m c) b s ⟨p + (h.val * 128 + (d.val - 128)), by omega⟩ := by
  subst hW
  split_ifs with hd
  · exact entry_proj m ρ c _ b s _ _ fun k => (packKV_key u v k h ⟨d.val, hd⟩).trans (hu k _)
  · have e : (⟨h.val * 256 + d.val, by omega⟩ : Fin 1024) = ⟨h.val * 256 + (128 + (d.val - 128)), by omega⟩ := Fin.ext (by dsimp only; omega)
    rw [e]
    exact entry_proj m ρ c _ b s _ _ fun k => (packKV_value u v k h ⟨d.val - 128, by omega⟩).trans (hv k _)

theorem group_keys (w : FVec Ideal S2048x7524 .f32) (k : Fin 2048) (j : Fin 512) :
    keysOf (mobaCols w) (ix2 k j) = w (ix2 k ⟨2384 + j.val, by omega⟩) ∧ valuesOf (mobaCols w) (ix2 k j) = w (ix2 k ⟨2896 + j.val, by omega⟩)
    ∧ keysOf (foxCols w) (ix2 k j) = w (ix2 k ⟨6496 + j.val, by omega⟩) ∧ valuesOf (foxCols w) (ix2 k j) = w (ix2 k ⟨7008 + j.val, by omega⟩) := by
  unfold keysOf valuesOf mobaCols foxCols
  pointwise []
  exact ⟨at_col w k (by dsimp only; omega), at_col w k (by dsimp only; omega), at_col w k (by dsimp only; omega), at_col w k (by dsimp only; omega)⟩

theorem moba_row_eq : (W9 m ρ c main_v68 : FVec Ideal S8x2048x4x256 .f32) = val_main_v29 (F := Ideal) (X m c) (Wt m c) :=
  ext4 fun b s h d => (moba_row_at m ρ c b s h d).trans ((congrFun (call2 m ρ c) _).trans
    ((kv_proj m ρ c _ _ _ (host_m m ρ c) 2384 2896 (by decide) (by decide) (fun k j => (group_keys _ k j).1) (fun k j => (group_keys _ k j).2.1) b s h d).trans
    (Cert.Reference5Ideal.Project.moba_row _ _ b s h d).symm))

theorem fox_row_eq : (W9 m ρ c main_v69 : FVec Ideal S8x2048x4x256 .f32) = val_main_v32 (F := Ideal) (X m c) (Wt m c) :=
  ext4 fun b s h d => (fox_row_at m ρ c b s h d).trans ((congrFun (call3 m ρ c) _).trans
    ((kv_proj m ρ c _ _ _ (host_f m ρ c) 6496 7008 (by decide) (by decide) (fun k j => (group_keys _ k j).2.2.1) (fun k j => (group_keys _ k j).2.2.2) b s h d).trans
    (Cert.Reference5Ideal.Project.fox_row _ _ b s h d).symm))

theorem ssm_z_eq : (W9 m ρ c main_v70 : FVec Ideal S8x2048x1024 .f32) = val_main_v9 (F := Ideal) (X m c) (Wt m c) :=
  ext3 fun b s j => (ssm_z_at m ρ c b s j).trans ((congrFun (call4 m ρ c) _).trans
    ((entry_proj m ρ c _ b s j _ fun k => host_z m ρ c k j).trans (Cert.Reference5Ideal.Project.ssm_z _ _ b s j).symm))

theorem ssm_xbc_eq : (W9 m ρ c main_v71 : FVec Ideal S8x2048x1536 .f32) = val_main_v10 (F := Ideal) (X m c) (Wt m c) :=
  ext3 fun b s j => (ssm_xbc_at m ρ c b s j).trans ((congrFun (call5 m ρ c) _).trans
    ((entry_proj m ρ c _ b s j _ fun k => host_x m ρ c k j).trans (Cert.Reference5Ideal.Project.ssm_xbc _ _ b s j).symm))

theorem tail_eq : (W9 m ρ c main_v79 : FVec Ideal S8x3x1536 .f32) = val_main_v35 (F := Ideal) (X m c) (Wt m c) :=
  ext3 fun b t j => (tail_at m ρ c b t j).trans ((congrFun (call5 m ρ c) _).trans
    ((entry_proj m ρ c _ b ⟨2045 + t.val, by omega⟩ j _ fun k => host_x m ρ c k j).trans (Cert.Reference5Ideal.Project.tail _ _ b t j).symm))

theorem idx_w_eq : (W9 m ρ c main_v73 : FVec Ideal S8x2048x16 .f32) = val_main_v34 (F := Ideal) (X m c) (Wt m c) :=
  ext3 fun b s j => (idx_w_at m ρ c b s j).trans ((congrFun (call6 m ρ c) _).trans
    ((entry_scaled m ρ c _ b s _ _ (quarter ▸ scale_nonneg (by norm_num)) (quarter ▸ EReal.coe_ne_top _)
      fun k => (congrFun (host_s m ρ c) _).trans (packS_w _ k j)).trans (Cert.Reference5Ideal.Project.idx_w _ _ b s j).symm))

theorem ssm_dt_eq : (W9 m ρ c main_v75 : FVec Ideal S8x2048x16 .f32) = val_main_v11 (F := Ideal) (X m c) (Wt m c) :=
  ext3 fun b s j => (ssm_dt_at m ρ c b s j).trans ((congrFun (call6 m ρ c) _).trans
    ((entry_proj m ρ c _ b s _ _ fun k => (congrFun (host_s m ρ c) _).trans (packS_dt _ k j)).trans (Cert.Reference5Ideal.Project.ssm_dt _ _ b s j).symm))

theorem fox_f_eq : (W9 m ρ c main_v77 : FVec Ideal S8x2048x4 .f32) = val_main_v15 (F := Ideal) (X m c) (Wt m c) :=
  ext3 fun b s j => (fox_f_at m ρ c b s j).trans ((congrFun (call6 m ρ c) _).trans
    ((entry_proj m ρ c _ b s _ _ fun k => (congrFun (host_s m ρ c) _).trans (packS_f _ k j)).trans (Cert.Reference5Ideal.Project.fox_f _ _ b s j).symm))

end Cert.Kernel5Ideal.Project

end
-- ==== Proof.Project.Claims.lean ====
module

public import proofs.«01_k».proof.Defs
public import proofs.«01_k».proof.Proof.Project.Run
public import proofs.«01_k».proof.Proof.Project.Results
public import Idealize.ShloMosaic.Lib.Quiescent

/-! The claims about the input projection: its reference runs, and kernel and reference agree on all arguments. -/

@[expose] public section
noncomputable section

namespace Cert.Kernel5Ideal.Project

open Idealize.ShloMosaic Idealize.ShloMosaic.TcCoe Cert.Kernel5Ideal Cert.Kernel5Ideal.Gen Idealize.SL.Sem
open Cert.Reference5Ideal.Read

/-- The reference runs, leaves its arguments as they were and every counter at zero: it declares none. -/
theorem reference_frame : Cert.quiescent_Reference5Ideal := fun m ρ _ =>
  (θ_run Cert.Reference5Ideal.defs _ _).mono
    (fun _ h => ⟨fun c => (h c).2.2.2.2.2.2.2.2.2.2.2.2.2, sem_eq_zero_of_no_sems (by decide) _⟩)
    (Cert.Reference5Ideal.Value.run m ρ)

/-- Kernel and reference end with the same thirteen arrays. -/
theorem algebraic : Cert.algebraic_Kernel5Ideal_Reference5Ideal := fun m ρ m' ρ' _ harg =>
  ⟨fun c => W9 m ρ c main_v60, fun c => W9 m ρ c main_v62, fun c => W9 m ρ c main_v64, fun c => W9 m ρ c main_v66,
    fun c => W9 m ρ c main_v67, fun c => W9 m ρ c main_v68, fun c => W9 m ρ c main_v69, fun c => W9 m ρ c main_v70,
    fun c => W9 m ρ c main_v71, fun c => W9 m ρ c main_v73, fun c => W9 m ρ c main_v75, fun c => W9 m ρ c main_v77,
    fun c => W9 m ρ c main_v79,
    (θ_run defs _ _).mono (fun _ h c => ⟨
      h c _ (mem_uc main_v60 (by decide)), h c _ (mem_uc main_v62 (by decide)), h c _ (mem_uc main_v64 (by decide)),
      h c _ (mem_uc main_v66 (by decide)), h c _ (mem_uc main_v67 (by decide)), h c _ (mem_uc main_v68 (by decide)),
      h c _ (mem_uc main_v69 (by decide)), h c _ (mem_uc main_v70 (by decide)), h c _ (mem_uc main_v71 (by decide)),
      h c _ (mem_uc main_v73 (by decide)), h c _ (mem_uc main_v75 (by decide)), h c _ (mem_uc main_v77 (by decide)),
      h c _ (mem_uc main_v79 (by decide)),
      (h c _ (mem_uc main_arg0 (by decide))).trans (W9_main_arg0 m ρ c),
      (h c _ (mem_uc main_arg1 (by decide))).trans (W9_main_arg1 m ρ c)⟩) (run_contents m ρ),
    (θ_run Cert.Reference5Ideal.defs _ _).mono (fun _ h c => by
      obtain ⟨e0, e1⟩ := harg c
      obtain ⟨h0, h1, h2, h3, h4, h5, h6, h7, h8, h9, h10, h11, h12, ha⟩ := h c
      rw [e0, e1] at h0 h1 h2 h3 h4 h5 h6 h7 h8 h9 h10 h11 h12
      exact ⟨h0.trans ((val_main_v19_eq _ _).trans (idx_q_eq m ρ c).symm), h1.trans ((val_main_v21_eq _ _).trans (dsa_q_eq m ρ c).symm),
        h2.trans ((val_main_v23_eq _ _).trans (moba_q_eq m ρ c).symm), h3.trans ((val_main_v25_eq _ _).trans (fox_q_eq m ρ c).symm),
        h4.trans ((val_main_v26_eq _ _).trans (dsa_row_eq m ρ c).symm), h5.trans ((val_main_v29_eq _ _).trans (moba_row_eq m ρ c).symm),
        h6.trans ((val_main_v32_eq _ _).trans (fox_row_eq m ρ c).symm), h7.trans ((val_main_v9_eq _ _).trans (ssm_z_eq m ρ c).symm),
        h8.trans ((val_main_v10_eq _ _).trans (ssm_xbc_eq m ρ c).symm), h9.trans ((val_main_v34_eq _ _).trans (idx_w_eq m ρ c).symm),
        h10.trans ((val_main_v11_eq _ _).trans (ssm_dt_eq m ρ c).symm), h11.trans ((val_main_v15_eq _ _).trans (fox_f_eq m ρ c).symm),
        h12.trans ((val_main_v35_eq _ _).trans (tail_eq m ρ c).symm), ha⟩) (Cert.Reference5Ideal.Value.run m' ρ')⟩

end Cert.Kernel5Ideal.Project

end
-- ==== Proof.Memory.Run.lean ====
module

public import proofs.«01_k».proof.Proof.Gen.Kernel6Ideal.Frame

/-! The run of the four calls between the host lines: every array that the program can name ends at the contents
that the lines and the calls give it one after another. -/

@[expose] public section
set_option maxRecDepth 16384
noncomputable section

namespace Cert.Kernel6Ideal.Memory

open Idealize.ShloMosaic Idealize.ShloMosaic.TcCoe Idealize.ShloMosaic.Tactic Cert.Kernel6Ideal Cert.Kernel6Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every array of the program ends at the contents after the last host line. -/
theorem run_contents : θ_run defs (onTc (τ := τ) (main (F := F))) ⟨m, fun _ => 0, ρ⟩ (fun r =>
      ∀ c : Dev nD, ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

end Cert.Kernel6Ideal.Memory

end
-- ==== Proof.Norm.Row.lean ====
module

public import Idealize.ShloMosaic.Lib.Pointwise

/-! An output projection with its residual and the layer norm after it, one row at a time. -/

@[expose] public section
noncomputable section

namespace Cert.Norm

open Idealize.ShloMosaic

/-- The mean of the 2048 entries of a row. -/
def mean (z : Fin 2048 → EReal) : EReal := Ideal.div (∑ k, z k) (Ideal.ofBits .f32 0x45000000#32)

/-- Entry `j` of a row's layer norm, with the scales `g` and the shifts `b`. -/
def normed (z g b : Fin 2048 → EReal) (j : Fin 2048) : EReal :=
  (z j - mean z) * Ideal.rsqrt (mean (fun k => (z k - mean z) * (z k - mean z)) + Ideal.ofBits .f32 0x3727C5AC#32) * g j + b j

/-- An entry before the norm: the scaled residual plus the projected row. -/
def summed {K : ℕ} (x : EReal) (a w : Fin K → EReal) : EReal := Ideal.ofBits .f32 0x3FB504F3#32 * x + ∑ k, a k * w k

/-- The normalised array of the projected rows `A` by `W` added to the scaled `X`. -/
def layer {K : ℕ} (A : (⟨2, ![16384, K]⟩ : Shape).Idx → EReal) (W : (⟨2, ![K, 2048]⟩ : Shape).Idx → EReal)
    (X : (⟨2, ![16384, 2048]⟩ : Shape).Idx → EReal) (G B : (⟨1, ![2048]⟩ : Shape).Idx → EReal) (j : (⟨2, ![16384, 2048]⟩ : Shape).Idx) : EReal :=
  normed (fun i => summed (X (ix2 (j 0) i)) (fun k => A (ix2 (j 0) k)) (fun k => W (ix2 k i))) (fun i => G (ix1 i)) (fun i => B (ix1 i)) (j 1)

end Cert.Norm

end
-- ==== Proof.Memory.Attend.lean ====
module

public import proofs.«01_k».proof.Proof.Norm.Row

/-! The attention over the prompt's memory as functions of the arguments, entry by entry. -/

@[expose] public section
noncomputable section

namespace Cert.Kernel6Ideal.Memory

open Idealize.ShloMosaic

/-- The scaled product of a query and a key. -/
def logit (q k : Fin 128 → EReal) : EReal := (∑ x, q x * k x) * Ideal.ofBits .f32 0x3DB504F3#32

/-- The greatest of the 256 logits. -/
def top (L : Fin 256 → EReal) : EReal := Finset.univ.fold max (Ideal.ofBits .f32 0xFF800000#32) L

/-- The softmax weight of memory row `i`. -/
def weight (L : Fin 256 → EReal) (i : Fin 256) : EReal := Ideal.div (Ideal.exp (L i - top L)) (∑ k, Ideal.exp (L k - top L))

/-- The weighted sum of the values. -/
def attend (L v : Fin 256 → EReal) : EReal := ∑ i, weight L i * v i

/-- A matrix product's entry. -/
def entry {a n : ℕ} (X : (⟨2, ![a, 2048]⟩ : Shape).Idx → EReal) (W : (⟨2, ![2048, n]⟩ : Shape).Idx → EReal) (i : Fin a) (j : Fin n) : EReal :=
  ∑ k : Fin 2048, X (ix2 i k) * W (ix2 k j)

/-- The key's column of entry `x` of column `j`'s head, and the value's column of column `j`. -/
abbrev kcol (j : Fin 512) (x : Fin 128) : Fin 1024 := ⟨j.val / 128 * 256 + x.val, by omega⟩
abbrev vcol (j : Fin 512) : Fin 1024 := ⟨j.val / 128 * 256 + (128 + j.val % 128), by omega⟩
/-- The query's column of entry `x` of column `j`'s head. -/
abbrev qcol (j : Fin 512) (x : Fin 128) : Fin 512 := ⟨j.val / 128 * 128 + x.val, by omega⟩
/-- Row `i` of the memory of token `r`'s prompt. -/
abbrev mrow (r : Fin 16384) (i : Fin 256) : Fin 2048 := ⟨r.val / 2048 * 256 + i.val, by omega⟩

/-- The attention of token `r` at column `j`, from the queries `Q` and the memory's keys and values `KV`. -/
def attended (Q : (⟨2, ![16384, 512]⟩ : Shape).Idx → EReal) (KV : (⟨2, ![2048, 1024]⟩ : Shape).Idx → EReal) (r : Fin 16384) (j : Fin 512) : EReal :=
  attend (fun i => logit (fun x => Q (ix2 r (qcol j x))) (fun x => KV (ix2 (mrow r i) (kcol j x)))) (fun i => KV (ix2 (mrow r i) (vcol j)))

/-- The rows of the memories of the eight prompts one after another. -/
def rows (X : (⟨3, ![8, 256, 2048]⟩ : Shape).Idx → EReal) (i : (⟨2, ![2048, 2048]⟩ : Shape).Idx) : EReal :=
  X (ix3 ⟨(i 0).val / 256, by have : (i 0).val < 2048 := (i 0).isLt; omega⟩ ⟨(i 0).val % 256, by omega⟩ (i 1))

section
variable (H : (⟨2, ![16384, 2048]⟩ : Shape).Idx → EReal) (X : (⟨3, ![8, 256, 2048]⟩ : Shape).Idx → EReal) (WKV : (⟨2, ![2048, 1024]⟩ : Shape).Idx → EReal)
  (WQ : (⟨2, ![2048, 512]⟩ : Shape).Idx → EReal) (WO : (⟨2, ![512, 2048]⟩ : Shape).Idx → EReal) (G B : (⟨1, ![2048]⟩ : Shape).Idx → EReal)

/-- The memory's keys and values, the queries, and the attention, as arrays. -/
def keysValues (i : (⟨2, ![2048, 1024]⟩ : Shape).Idx) : EReal := entry (rows X) WKV (i 0) (i 1)
def queries (i : (⟨2, ![16384, 512]⟩ : Shape).Idx) : EReal := entry H WQ (i 0) (i 1)
def attention (i : (⟨2, ![16384, 512]⟩ : Shape).Idx) : EReal := attended (queries H WQ) (keysValues X WKV) (i 0) (i 1)

/-- The layer's new hidden states. -/
def hidden : (⟨2, ![16384, 2048]⟩ : Shape).Idx → EReal := Norm.layer (attention H X WKV WQ) WO H G B
end

end Cert.Kernel6Ideal.Memory

end
-- ==== Proof.Memory.Products.lean ====
module

public import proofs.«01_k».proof.Proof.Memory.Attend
public import proofs.«01_k».proof.Proof.Gen.Kernel6Ideal.Frame
public import Idealize.ShloMosaic.Lib.Pipeline.ValueKit
public import Idealize.ShloMosaic.Lib.Pipeline.ReadBack

/-! The two products: the memory's keys and values, and the queries. A point of a call works on 1024 rows and on 512
columns. -/

@[expose] public section
set_option maxRecDepth 16384
noncomputable section

namespace Cert.Kernel6Ideal.Memory

open Idealize.ShloMosaic Idealize.ShloMosaic.TcCoe Cert.Kernel6Ideal Cert.Kernel6Ideal.Gen Idealize.SL.Sem
open Idealize.ShloMosaic.Pipeline (Dat Cfg Window)

variable (V : (c : Dev nD) → (b : Ref sig .tc) → Buf (Elt Ideal) ((c : Thread nD τ).loc b)) (c : Dev nD)

/-! The memory's keys and values. -/

theorem body0 (x : Vec Ideal S1024x2048 .bf16) (w : Vec Ideal S2048x512 .bf16) (r : Fin 1024) (j : Fin 512) :
    (out0_2 (F := Ideal) x w : Vec Ideal S1024x512 .f32) (ix2 r j) = ∑ k : Fin 2048, x (ix2 r k) * w (ix2 k j) := by
  unfold out0_2
  frame_out
  pointwise [k0_pay1]

theorem idx0 : ∀ t : Fin cfg0.N,
    (win0_0.index t 0 = t.val / 2 ∧ win0_0.index t 1 = 0) ∧ (win0_1.index t 0 = 0 ∧ win0_1.index t 1 = t.val % 2)
    ∧ (win0_2.index t 0 = t.val / 2 ∧ win0_2.index t 1 = t.val % 2) :=
  (by decide +kernel : ∀ t : Fin grid0.N, _)

theorem lt0 (t : Fin cfg0.N) : t.val < 4 := t.isLt.trans_eq N_0

abbrev row0 (t : Fin cfg0.N) (r : Fin 1024) : Fin 2048 := ⟨t.val / 2 * 1024 + r.val, by have := lt0 t; omega⟩
abbrev col0 (t : Fin cfg0.N) (j : Fin 512) : Fin 1024 := ⟨t.val % 2 * 512 + j.val, by omega⟩

/-- The arrays that the call reads. -/
abbrev left0 : FVec Ideal S2048x2048 .bf16 := V c main_v1
abbrev right0 : FVec Ideal S2048x1024 .bf16 := V c main_v2

theorem rows0 (t : Fin cfg0.N) (r : Fin 1024) (k : Fin 2048) :
    (iblk0 V c 0 t : Vec Ideal S1024x2048 .bf16) (ix2 r k) = left0 V c (ix2 (row0 t r) k) := by
  obtain ⟨⟨e0, e1⟩, -, -⟩ := idx0 t
  blk_ext [iblk0, e0, e1]
theorem columns0 (t : Fin cfg0.N) (k : Fin 2048) (j : Fin 512) :
    (iblk0 V c 1 t : Vec Ideal S2048x512 .bf16) (ix2 k j) = right0 V c (ix2 k (col0 t j)) := by
  obtain ⟨-, ⟨e0, e1⟩, -⟩ := idx0 t
  blk_ext [iblk0, e0, e1]

theorem block0 (t : Fin cfg0.N) (r : Fin 1024) (j : Fin 512) :
    ((dat0 V c).after 2 t : Vec Ideal S1024x512 .f32) (ix2 r j) = entry (left0 V c) (right0 V c) (row0 t r) (col0 t j) := by
  rw [after0_2, body0]
  simp only [rows0, columns0]
  rfl

/-- The product of the memory's rows. -/
theorem product0 : (dat0 V c).arrAt 2 cfg0.N = (fun i => entry (left0 V c) (right0 V c) (i 0) (i 1) : FVec Ideal S2048x1024 .f32) := by
  refine (dat0 V c).arrAt_eq_of_covers 2 _ (by decide +kernel) fun t hf y => ?_
  obtain ⟨-, -, e0, e1⟩ := idx0 t
  obtain ⟨r, j, rfl⟩ : ∃ (r : Fin 1024) (j : Fin 512), y = ix2 r j := ⟨y 0, y 1, by funext a; match a with | ⟨0, _⟩ => rfl | ⟨1, _⟩ => rfl⟩
  refine (block0 V c t r j).trans ?_
  blk_simp
  refine congrArg₂ (entry (left0 V c) (right0 V c)) (Fin.ext ?_) (Fin.ext ?_)
  · blk_simp [e0, e1]
  · blk_simp [e0, e1]

/-! The queries. -/

theorem body1 (x : Vec Ideal S1024x2048 .bf16) (w : Vec Ideal S2048x512 .bf16) (r : Fin 1024) (j : Fin 512) :
    (out1_2 (F := Ideal) x w : Vec Ideal S1024x512 .bf16) (ix2 r j) = ∑ k : Fin 2048, x (ix2 r k) * w (ix2 k j) := by
  unfold out1_2
  frame_out
  pointwise [k1_pay1]

theorem idx1 : ∀ t : Fin cfg1.N,
    (win1_0.index t 0 = t.val ∧ win1_0.index t 1 = 0) ∧ (win1_1.index t 0 = 0 ∧ win1_1.index t 1 = 0)
    ∧ (win1_2.index t 0 = t.val ∧ win1_2.index t 1 = 0) :=
  (by decide +kernel : ∀ t : Fin grid1.N, _)

theorem lt1 (t : Fin cfg1.N) : t.val < 16 := t.isLt.trans_eq N_1

abbrev row1 (t : Fin cfg1.N) (r : Fin 1024) : Fin 16384 := ⟨t.val * 1024 + r.val, by have := lt1 t; omega⟩

/-- The arrays that the call reads. -/
abbrev left1 : FVec Ideal S16384x2048 .bf16 := V c main_v4
abbrev right1 : FVec Ideal S2048x512 .bf16 := V c main_v5

theorem rows1 (t : Fin cfg1.N) (r : Fin 1024) (k : Fin 2048) :
    (iblk1 V c 0 t : Vec Ideal S1024x2048 .bf16) (ix2 r k) = left1 V c (ix2 (row1 t r) k) := by
  obtain ⟨⟨e0, e1⟩, -, -⟩ := idx1 t
  blk_ext [iblk1, e0, e1]
theorem columns1 (t : Fin cfg1.N) (k : Fin 2048) (j : Fin 512) :
    (iblk1 V c 1 t : Vec Ideal S2048x512 .bf16) (ix2 k j) = right1 V c (ix2 k j) := by
  obtain ⟨-, ⟨e0, e1⟩, -⟩ := idx1 t
  blk_ext [iblk1, e0, e1]

theorem block1 (t : Fin cfg1.N) (r : Fin 1024) (j : Fin 512) :
    ((dat1 V c).after 2 t : Vec Ideal S1024x512 .bf16) (ix2 r j) = entry (left1 V c) (right1 V c) (row1 t r) j := by
  rw [after1_2, body1]
  simp only [rows1, columns1]
  rfl

/-- The queries' product. -/
theorem product1 : (dat1 V c).arrAt 2 cfg1.N = (fun i => entry (left1 V c) (right1 V c) (i 0) (i 1) : FVec Ideal S16384x512 .bf16) := by
  refine (dat1 V c).arrAt_eq_of_covers 2 _ (by decide +kernel) fun t hf y => ?_
  obtain ⟨-, -, e0, e1⟩ := idx1 t
  obtain ⟨r, j, rfl⟩ : ∃ (r : Fin 1024) (j : Fin 512), y = ix2 r j := ⟨y 0, y 1, by funext a; match a with | ⟨0, _⟩ => rfl | ⟨1, _⟩ => rfl⟩
  refine (block1 V c t r j).trans ?_
  blk_simp
  refine congrArg₂ (entry (left1 V c) (right1 V c)) (Fin.ext ?_) (Fin.ext ?_)
  · blk_simp [e0, e1]
  · blk_simp [e0, e1]

end Cert.Kernel6Ideal.Memory

end
-- ==== Proof.Memory.Heads.lean ====
module

public import proofs.«01_k».proof.Proof.Memory.Attend
public import proofs.«01_k».proof.Proof.Gen.Kernel6Ideal.Frame
public import Idealize.ShloMosaic.Lib.Pipeline.ValueKit
public import Idealize.ShloMosaic.Lib.Pipeline.ReadBack

/-! The attention over the memory: what a grid point computes for each of the four heads. -/

@[expose] public section
set_option maxRecDepth 16384
noncomputable section

namespace Cert.Kernel6Ideal.Memory

open Idealize.ShloMosaic Idealize.ShloMosaic.TcCoe Cert.Kernel6Ideal Cert.Kernel6Ideal.Gen Idealize.SL.Sem
open Idealize.ShloMosaic.Pipeline (Dat Cfg Window)

section
variable (k v : Vec Ideal S256x128 .f32) (q : Vec Ideal S512x128 .bf16) (r : Fin 512) (j : Fin 128)

/-- One head's attention of row `r` at column `j`, from the head's keys, values and queries. -/
abbrev headAt : EReal := attend (fun i => logit (fun x => q (ix2 r x)) (fun x => k (ix2 i x))) (fun i => v (ix2 i j))

theorem head0 : k2_pay2 (F := Ideal) k v q (ix2 r j) = headAt k v q r j := by
  pointwise [k2_pay2]
  rfl
theorem head1 : k2_pay6 (F := Ideal) (k2_pay3 v) (k2_pay4 k q) (k2_pay5 k q) (ix2 r j) = headAt k v q r j := by
  pointwise [k2_pay6, k2_pay3, k2_pay4, k2_pay5]
  rfl
theorem head2 : k2_pay7 (F := Ideal) k v q (ix2 r j) = headAt k v q r j := by
  pointwise [k2_pay7]
  rfl
theorem head3 : k2_pay1 (F := Ideal) (k2_pay8 k) v q (ix2 r j) = headAt k v q r j := by
  pointwise [k2_pay1, k2_pay8]
  rfl
end

variable (Q : Vec Ideal S512x512 .bf16) (KV : Vec Ideal S256x1024 .f32) (r : Fin 512)

/-- A block's attention of row `r` at column `j`. -/
abbrev battend (j : Fin 512) : EReal :=
  attend (fun i => logit (fun x => Q (ix2 r (qcol j x))) (fun x => KV (ix2 i (kcol j x)))) (fun i => KV (ix2 i (vcol j)))

/-- A head's piece of the keys and values, and of the queries, read at an index. -/
theorem ld_kv (o : ℕ) (inb : ∀ a, (![0, o] : Fin 2 → ℕ) a + S256x128.size a ≤ S256x1024.size a) (i : Fin 256) (x : Fin 128) (h : o + x.val < 1024) :
    View.ld KV (Rect.unit (s := S256x1024) ![0, o] S256x128.size inb) (ix2 i x) = KV (ix2 i ⟨o + x.val, h⟩) := by
  refine congrArg KV (funext fun a => Fin.ext ?_)
  match a with
  | ⟨0, _⟩ => show 0 + 1 * i.val = i.val; omega
  | ⟨1, _⟩ => show o + 1 * x.val = o + x.val; omega
theorem ld_q (o : ℕ) (inb : ∀ a, (![0, o] : Fin 2 → ℕ) a + S512x128.size a ≤ S512x512.size a) (x : Fin 128) (h : o + x.val < 512) :
    View.ld Q (Rect.unit (s := S512x512) ![0, o] S512x128.size inb) (ix2 r x) = Q (ix2 r ⟨o + x.val, h⟩) := by
  refine congrArg Q (funext fun a => Fin.ext ?_)
  match a with
  | ⟨0, _⟩ => show 0 + 1 * r.val = r.val; omega
  | ⟨1, _⟩ => show o + 1 * x.val = o + x.val; omega

/-- A head's attention from its pieces is the block's attention at the head's columns. -/
theorem head_eq (n : ℕ) (hn : n < 4) (ik iv iq) (x : Fin 128) (j : Fin 512) (hj : j.val = n * 128 + x.val) :
    headAt (View.ld KV (Rect.unit (s := S256x1024) ![0, n * 256] S256x128.size ik)) (View.ld KV (Rect.unit (s := S256x1024) ![0, n * 256 + 128] S256x128.size iv))
      (View.ld Q (Rect.unit (s := S512x512) ![0, n * 128] S512x128.size iq)) r x = battend Q KV r j := by
  have e : j.val / 128 = n := by omega
  have ex : j.val % 128 = x.val := by omega
  unfold headAt battend
  refine congrArg₂ attend (funext fun i => congrArg₂ logit (funext fun y => ?_) (funext fun y => ?_)) (funext fun i => ?_)
  · rw [ld_q Q r _ _ y (by omega)]
    exact congrArg (fun c => Q (ix2 r c)) (Fin.ext (by show n * 128 + y.val = j.val / 128 * 128 + y.val; rw [e]))
  · rw [ld_kv KV _ _ i y (by omega)]
    exact congrArg (fun c => KV (ix2 i c)) (Fin.ext (by show n * 256 + y.val = j.val / 128 * 256 + y.val; rw [e]))
  · rw [ld_kv KV _ _ i x (by omega)]
    exact congrArg (fun c => KV (ix2 i c)) (Fin.ext (by show n * 256 + 128 + x.val = j.val / 128 * 256 + (128 + j.val % 128); rw [e, ex]; omega))

/-- What the body leaves at row `r` and column `j`: the attention of the column's head. -/
theorem body2 (j : Fin 512) : (out2_2 (F := Ideal) Q KV : Vec Ideal S512x512 .bf16) (ix2 r j) = battend Q KV r j := by
  unfold out2_2
  canon_tiles x h
  all_goals
    obtain ⟨r', y, rfl⟩ : ∃ (r' : Fin 512) (y : Fin 128), x = ix2 r' y := ⟨x 0, x 1, by funext a; match a with | ⟨0, _⟩ => rfl | ⟨1, _⟩ => rfl⟩
    obtain rfl : r = r' := Fin.ext h0
  · exact (head3 _ _ _ r y).trans (head_eq Q KV r 3 (by decide) _ _ _ y j h1)
  · exact (head2 _ _ _ r y).trans (head_eq Q KV r 2 (by decide) _ _ _ y j h1)
  · exact (head1 _ _ _ r y).trans (head_eq Q KV r 1 (by decide) _ _ _ y j h1)
  · exact (head0 _ _ _ r y).trans (head_eq Q KV r 0 (by decide) _ _ _ y j (h1.trans (by show y.val = 0 * 128 + y.val; omega)))

variable (V : (c : Dev nD) → (b : Ref sig .tc) → Buf (Elt Ideal) ((c : Thread nD τ).loc b)) (c : Dev nD)

theorem idx2 : ∀ t : Fin cfg2.N,
    (win2_0.index t 0 = t.val ∧ win2_0.index t 1 = 0) ∧ (win2_1.index t 0 = t.val / 4 ∧ win2_1.index t 1 = 0)
    ∧ (win2_2.index t 0 = t.val ∧ win2_2.index t 1 = 0) :=
  (by decide +kernel : ∀ t : Fin grid2.N, _)

theorem lt2 (t : Fin cfg2.N) : t.val < 32 := t.isLt.trans_eq N_2

/-- The token that row `r` of the point's block is. -/
abbrev row2 (t : Fin cfg2.N) (r : Fin 512) : Fin 16384 := ⟨t.val * 512 + r.val, by have := lt2 t; omega⟩

/-- The arrays that the call reads. -/
abbrev left2 : FVec Ideal S16384x512 .bf16 := V c main_v6
abbrev right2 : FVec Ideal S2048x1024 .f32 := V c main_v3

theorem rows2 (t : Fin cfg2.N) (r : Fin 512) (k : Fin 512) :
    (iblk2 V c 0 t : Vec Ideal S512x512 .bf16) (ix2 r k) = left2 V c (ix2 (row2 t r) k) := by
  obtain ⟨⟨e0, e1⟩, -, -⟩ := idx2 t
  blk_ext [iblk2, e0, e1]
theorem memory2 (t : Fin cfg2.N) (r : Fin 512) (i : Fin 256) (k : Fin 1024) :
    (iblk2 V c 1 t : Vec Ideal S256x1024 .f32) (ix2 i k) = right2 V c (ix2 (mrow (row2 t r) i) k) := by
  obtain ⟨-, ⟨e0, e1⟩, -⟩ := idx2 t
  have := lt2 t
  have e : (t.val * 512 + r.val) / 2048 = t.val / 4 := by omega
  blk_ext [iblk2, e0, e1, e]

theorem block2 (t : Fin cfg2.N) (r j : Fin 512) :
    ((dat2 V c).after 2 t : Vec Ideal S512x512 .bf16) (ix2 r j) = attended (left2 V c) (right2 V c) (row2 t r) j := by
  rw [after2_2, body2]
  simp only [battend, rows2, memory2 V c t r]
  rfl

/-- The attention's array. -/
theorem product2 : (dat2 V c).arrAt 2 cfg2.N = (fun i => attended (left2 V c) (right2 V c) (i 0) (i 1) : FVec Ideal S16384x512 .bf16) := by
  refine (dat2 V c).arrAt_eq_of_covers 2 _ (by decide +kernel) fun t hf y => ?_
  obtain ⟨-, -, e0, e1⟩ := idx2 t
  obtain ⟨r, j, rfl⟩ : ∃ (r j : Fin 512), y = ix2 r j := ⟨y 0, y 1, by funext a; match a with | ⟨0, _⟩ => rfl | ⟨1, _⟩ => rfl⟩
  refine (block2 V c t r j).trans ?_
  blk_simp
  refine congrArg₂ (attended (left2 V c) (right2 V c)) (Fin.ext ?_) (Fin.ext ?_)
  · blk_simp [e0, e1]
  · blk_simp [e0, e1]

end Cert.Kernel6Ideal.Memory

end
-- ==== Proof.Memory.Norm.lean ====
module

public import proofs.«01_k».proof.Proof.Memory.Attend
public import proofs.«01_k».proof.Proof.Gen.Kernel6Ideal.Frame
public import Idealize.ShloMosaic.Lib.Pipeline.ValueKit
public import Idealize.ShloMosaic.Lib.Pipeline.ReadBack

/-! The attention's output projection with its norm: what a grid point reads and leaves, and the two arrays. Point `t`
of the 32 works on the 512 tokens of block `t` and on all columns. -/

@[expose] public section
set_option maxRecDepth 16384
noncomputable section

namespace Cert.Kernel6Ideal.Memory

open Idealize.ShloMosaic Idealize.ShloMosaic.TcCoe Cert.Kernel6Ideal Cert.Kernel6Ideal.Gen Idealize.SL.Sem
open Idealize.ShloMosaic.Pipeline (Dat Cfg Window)

section
variable (a : Vec Ideal S512x512 .bf16) (w : Vec Ideal S512x2048 .bf16) (x : Vec Ideal S512x2048 .f32) (g b : Vec Ideal S1x2048 .f32)
  (r : Fin 512) (j : Fin 2048)

/-- A normalised entry computed from blocks. -/
abbrev bnormed : EReal :=
  Norm.normed (fun i => Norm.summed (x (ix2 r i)) (fun k => a (ix2 r k)) (fun k => w (ix2 k i))) (fun i => g (ix2 0 i)) (fun i => b (ix2 0 i)) j

theorem pay_value : k3_pay1 (F := Ideal) x a w g b (ix2 r j) = bnormed a w x g b r j := by
  pointwise [k3_pay1]
  rfl

/-- What the body leaves at row `r` and column `j` of the first result, and of the second. -/
theorem body5 : (out3_5 (F := Ideal) a w x g b : Vec Ideal S512x2048 .f32) (ix2 r j) = bnormed a w x g b r j := by
  unfold out3_5
  frame_out
  exact pay_value a w x g b r j
theorem body6 : (out3_6 (F := Ideal) a w x g b : Vec Ideal S512x2048 .bf16) (ix2 r j) = bnormed a w x g b r j := by
  unfold out3_6
  frame_out
  exact pay_value a w x g b r j
end

variable (V : (c : Dev nD) → (b : Ref sig .tc) → Buf (Elt Ideal) ((c : Thread nD τ).loc b)) (c : Dev nD)

theorem lt3 (t : Fin cfg3.N) : t.val < 32 := t.isLt.trans_eq N_3

/-- The token that row `r` of the point's block is. -/
abbrev row3 (t : Fin cfg3.N) (r : Fin 512) : Fin 16384 := ⟨t.val * 512 + r.val, by have := lt3 t; omega⟩

theorem idx3_rows : ∀ t : Fin cfg3.N,
    (win3_0.index t 0 = t.val ∧ win3_0.index t 1 = 0) ∧ (win3_2.index t 0 = t.val ∧ win3_2.index t 1 = 0)
    ∧ (win3_5.index t 0 = t.val ∧ win3_5.index t 1 = 0) ∧ (win3_6.index t 0 = t.val ∧ win3_6.index t 1 = 0) :=
  (by decide +kernel : ∀ t : Fin grid3.N, _)

theorem idx3_weights : ∀ t : Fin cfg3.N,
    (win3_1.index t 0 = 0 ∧ win3_1.index t 1 = 0) ∧ (win3_3.index t 0 = 0 ∧ win3_3.index t 1 = 0)
    ∧ (win3_4.index t 0 = 0 ∧ win3_4.index t 1 = 0) :=
  (by decide +kernel : ∀ t : Fin grid3.N, _)

/-- The arrays that the call reads. -/
abbrev left3 : FVec Ideal S16384x512 .bf16 := V c main_v7
abbrev right3 : FVec Ideal S512x2048 .bf16 := V c main_v8
abbrev resid3 : FVec Ideal S16384x2048 .f32 := V c main_arg0
abbrev scale3 : FVec Ideal S1x2048 .f32 := V c main_v9
abbrev shift3 : FVec Ideal S1x2048 .f32 := V c main_v10

theorem read3_0 (t : Fin cfg3.N) (r k : Fin 512) :
    (iblk3 V c 0 t : Vec Ideal S512x512 .bf16) (ix2 r k) = left3 V c (ix2 (row3 t r) k) := by
  obtain ⟨⟨e0, e1⟩, -, -, -⟩ := idx3_rows t
  blk_ext [iblk3, e0, e1]
theorem read3_1 (t : Fin cfg3.N) (k : Fin 512) (j : Fin 2048) :
    (iblk3 V c 1 t : Vec Ideal S512x2048 .bf16) (ix2 k j) = right3 V c (ix2 k j) := by
  obtain ⟨⟨e0, e1⟩, -, -⟩ := idx3_weights t
  blk_ext [iblk3, e0, e1]
theorem read3_2 (t : Fin cfg3.N) (r : Fin 512) (k : Fin 2048) :
    (iblk3 V c 2 t : Vec Ideal S512x2048 .f32) (ix2 r k) = resid3 V c (ix2 (row3 t r) k) := by
  obtain ⟨-, ⟨e0, e1⟩, -, -⟩ := idx3_rows t
  blk_ext [iblk3, e0, e1]
theorem read3_3 (t : Fin cfg3.N) (j : Fin 2048) :
    (iblk3 V c 3 t : Vec Ideal S1x2048 .f32) (ix2 0 j) = scale3 V c (ix2 0 j) := by
  obtain ⟨-, ⟨e0, e1⟩, -⟩ := idx3_weights t
  blk_ext [iblk3, e0, e1]
theorem read3_4 (t : Fin cfg3.N) (j : Fin 2048) :
    (iblk3 V c 4 t : Vec Ideal S1x2048 .f32) (ix2 0 j) = shift3 V c (ix2 0 j) := by
  obtain ⟨-, -, e0, e1⟩ := idx3_weights t
  blk_ext [iblk3, e0, e1]

/-- The normalised array of what the call reads. -/
abbrev layer3 (j : S16384x2048.Idx) : EReal :=
  Norm.layer (left3 V c) (right3 V c) (resid3 V c) (fun i => scale3 V c (ix2 0 (i 0))) (fun i => shift3 V c (ix2 0 (i 0))) j

/-- What point `t` leaves at row `r` and column `j` of its block, in both results. -/
theorem block3_5 (t : Fin cfg3.N) (r : Fin 512) (j : Fin 2048) :
    ((dat3 V c).after 5 t : Vec Ideal S512x2048 .f32) (ix2 r j) = layer3 V c (ix2 (row3 t r) j) := by
  rw [after3_5, body5]
  simp only [bnormed, read3_0, read3_1, read3_2, read3_3, read3_4]
  rfl
theorem block3_6 (t : Fin cfg3.N) (r : Fin 512) (j : Fin 2048) :
    ((dat3 V c).after 6 t : Vec Ideal S512x2048 .bf16) (ix2 r j) = layer3 V c (ix2 (row3 t r) j) := by
  rw [after3_6, body6]
  simp only [bnormed, read3_0, read3_1, read3_2, read3_3, read3_4]
  rfl

/-- The two arrays after the call. -/
theorem final3_5 : (dat3 V c).arrAt 5 cfg3.N = (layer3 V c : FVec Ideal S16384x2048 .f32) := by
  refine (dat3 V c).arrAt_eq_of_covers 5 _ (by decide +kernel) fun t hf y => ?_
  obtain ⟨-, -, ⟨e0, e1⟩, -⟩ := idx3_rows t
  obtain ⟨r, j, rfl⟩ : ∃ (r : Fin 512) (j : Fin 2048), y = ix2 r j := ⟨y 0, y 1, by funext a; match a with | ⟨0, _⟩ => rfl | ⟨1, _⟩ => rfl⟩
  refine (block3_5 V c t r j).trans ?_
  blk_simp
  refine congrArg (layer3 V c) (funext fun a => Fin.ext ?_)
  match a with
  | ⟨0, _⟩ => blk_simp [e0, e1]
  | ⟨1, _⟩ => blk_simp [e0, e1]
theorem final3_6 : (dat3 V c).arrAt 6 cfg3.N = (layer3 V c : FVec Ideal S16384x2048 .bf16) := by
  refine (dat3 V c).arrAt_eq_of_covers 6 _ (by decide +kernel) fun t hf y => ?_
  obtain ⟨-, -, -, ⟨e0, e1⟩⟩ := idx3_rows t
  obtain ⟨r, j, rfl⟩ : ∃ (r : Fin 512) (j : Fin 2048), y = ix2 r j := ⟨y 0, y 1, by funext a; match a with | ⟨0, _⟩ => rfl | ⟨1, _⟩ => rfl⟩
  refine (block3_6 V c t r j).trans ?_
  blk_simp
  refine congrArg (layer3 V c) (funext fun a => Fin.ext ?_)
  match a with
  | ⟨0, _⟩ => blk_simp [e0, e1]
  | ⟨1, _⟩ => blk_simp [e0, e1]

end Cert.Kernel6Ideal.Memory

end
-- ==== Proof.Memory.Arrays.lean ====
module

public import proofs.«01_k».proof.Proof.Memory.Products
public import proofs.«01_k».proof.Proof.Memory.Heads
public import proofs.«01_k».proof.Proof.Memory.Norm

/-! The arrays that the host lines and the calls leave one after another, up to the three results. -/

@[expose] public section
set_option maxRecDepth 16384
noncomputable section

namespace Cert.Kernel6Ideal.Memory

open Idealize.ShloMosaic Idealize.ShloMosaic.TcCoe Cert.Kernel6Ideal Cert.Kernel6Ideal.Gen Idealize.SL.Sem

variable (m : (ℓ : Loc nD τ sig) → Buf (Elt Ideal) ℓ) (ρ : Dev nD → PrngReg) (c : Dev nD)

/-- The arguments: the hidden states, the memory, the three weights, and the norm's scales and shifts. -/
abbrev H : FVec Ideal S16384x2048 .f32 := m ((c : Thread nD τ).loc main_arg0)
abbrev X : FVec Ideal S8x256x2048 .f32 := m ((c : Thread nD τ).loc main_arg1)
abbrev WKV : FVec Ideal S2048x1024 .f32 := m ((c : Thread nD τ).loc main_arg2)
abbrev WQ : FVec Ideal S2048x512 .f32 := m ((c : Thread nD τ).loc main_arg3)
abbrev WO : FVec Ideal S512x2048 .f32 := m ((c : Thread nD τ).loc main_arg4)
abbrev G : FVec Ideal S2048 .f32 := m ((c : Thread nD τ).loc main_arg5)
abbrev B : FVec Ideal S2048 .f32 := m ((c : Thread nD τ).loc main_arg6)

theorem host_rows : (W1 m ρ c main_v1 : FVec Ideal S2048x2048 .bf16) = rows (X m c) := by
  funext i
  obtain ⟨r, k, rfl⟩ : ∃ r k : Fin 2048, i = ix2 r k := ⟨i 0, i 1, by funext a; match a with | ⟨0, _⟩ => rfl | ⟨1, _⟩ => rfl⟩
  dsimp only [W1]
  after_results
  pointwise []
  rfl

theorem host_wkv : (W1 m ρ c main_v2 : FVec Ideal S2048x1024 .bf16) = WKV m c := by
  dsimp only [W1]
  after_results
  rfl

/-- The first call leaves the memory's keys and values. -/
theorem call_kv : (W2 m ρ c main_v3 : FVec Ideal S2048x1024 .f32) = keysValues (X m c) (WKV m c) := by
  refine (W2_arr m ρ c 2).trans ((product0 (V1 m ρ) c).trans ?_)
  show (fun i => entry (W1 m ρ c main_v1 : FVec Ideal S2048x2048 .bf16) (W1 m ρ c main_v2 : FVec Ideal S2048x1024 .bf16) (i 0) (i 1) : FVec Ideal S2048x1024 .f32) = _
  rw [host_rows, host_wkv]
  rfl

theorem host_h : (W3 m ρ c main_v4 : FVec Ideal S16384x2048 .bf16) = H m c := by
  dsimp only [W3]
  after_results
  exact W2_args m ρ c main_arg0 (by decide)

theorem host_wq : (W3 m ρ c main_v5 : FVec Ideal S2048x512 .bf16) = WQ m c := by
  dsimp only [W3]
  after_results
  exact W2_args m ρ c main_arg3 (by decide)

/-- The second call leaves the queries. -/
theorem call_q : (W4 m ρ c main_v6 : FVec Ideal S16384x512 .bf16) = queries (H m c) (WQ m c) := by
  refine (W4_arr m ρ c 2).trans ((product1 (V3 m ρ) c).trans ?_)
  show (fun i => entry (W3 m ρ c main_v4 : FVec Ideal S16384x2048 .bf16) (W3 m ρ c main_v5 : FVec Ideal S2048x512 .bf16) (i 0) (i 1) : FVec Ideal S16384x512 .bf16) = _
  rw [host_h, host_wq]
  rfl

theorem kept_kv4 : (W4 m ρ c main_v3 : FVec Ideal S2048x1024 .f32) = keysValues (X m c) (WKV m c) :=
  (W4_of m ρ c main_v3 (by decide)).trans ((W3_of m ρ c main_v3 (by decide)).trans (call_kv m ρ c))

/-- The third call leaves the attention. -/
theorem call_attention : (W5 m ρ c main_v7 : FVec Ideal S16384x512 .bf16) = attention (H m c) (X m c) (WKV m c) (WQ m c) := by
  refine (W5_arr m ρ c 2).trans ((product2 (V4 m ρ) c).trans ?_)
  show (fun i => attended (W4 m ρ c main_v6 : FVec Ideal S16384x512 .bf16) (W4 m ρ c main_v3 : FVec Ideal S2048x1024 .f32) (i 0) (i 1) : FVec Ideal S16384x512 .bf16) = _
  rw [call_q, kept_kv4]
  rfl

theorem host_attention : (W6 m ρ c main_v7 : FVec Ideal S16384x512 .bf16) = attention (H m c) (X m c) (WKV m c) (WQ m c) :=
  (W6_of m ρ c main_v7 (by decide)).trans (call_attention m ρ c)

theorem host_wo : (W6 m ρ c main_v8 : FVec Ideal S512x2048 .bf16) = WO m c := by
  dsimp only [W6]
  after_results
  exact W5_args m ρ c main_arg4 (by decide)

theorem host_g (j : Fin 2048) : (W6 m ρ c main_v9 : FVec Ideal S1x2048 .f32) (ix2 0 j) = G m c (ix1 j) := by
  have e : W5 m ρ c (Proc.devRef .tc main_arg5) = m ((c : Thread nD τ).loc main_arg5) := W5_args m ρ c main_arg5 (by decide)
  dsimp only [W6]
  after_results
  rw [e]
  pointwise []

theorem host_b (j : Fin 2048) : (W6 m ρ c main_v10 : FVec Ideal S1x2048 .f32) (ix2 0 j) = B m c (ix1 j) := by
  have e : W5 m ρ c (Proc.devRef .tc main_arg6) = m ((c : Thread nD τ).loc main_arg6) := W5_args m ρ c main_arg6 (by decide)
  dsimp only [W6]
  after_results
  rw [e]
  pointwise []

/-- The new hidden states of the arguments as launched. -/
abbrev hiddenOf (i : S16384x2048.Idx) : EReal := hidden (H m c) (X m c) (WKV m c) (WQ m c) (WO m c) (G m c) (B m c) i

/-- What the fourth call reads is what its array is stated of. -/
theorem layer3_eq : layer3 (V6 m ρ) c = hiddenOf m c := by
  have e0 : left3 (V6 m ρ) c = attention (H m c) (X m c) (WKV m c) (WQ m c) := host_attention m ρ c
  have e1 : right3 (V6 m ρ) c = WO m c := host_wo m ρ c
  have e2 : resid3 (V6 m ρ) c = H m c := W6_args m ρ c main_arg0 (by decide)
  have e3 : (fun i : (⟨1, ![2048]⟩ : Shape).Idx => scale3 (V6 m ρ) c (ix2 0 (i 0))) = G m c :=
    funext fun i => (host_g m ρ c (i 0)).trans (congrArg (G m c) (funext fun a => match a with | ⟨0, _⟩ => rfl))
  have e4 : (fun i : (⟨1, ![2048]⟩ : Shape).Idx => shift3 (V6 m ρ) c (ix2 0 (i 0))) = B m c :=
    funext fun i => (host_b m ρ c (i 0)).trans (congrArg (B m c) (funext fun a => match a with | ⟨0, _⟩ => rfl))
  unfold layer3
  rw [e0, e1, e2, e3, e4]
  rfl

/-- The first two results are the new hidden states. -/
theorem result_h : (W8 m ρ c main_v11_0 : FVec Ideal S16384x2048 .f32) = hiddenOf m c :=
  (W8_of m ρ c main_v11_0 (by decide)).trans ((W7_arr m ρ c 5).trans ((final3_5 (V6 m ρ) c).trans (layer3_eq m ρ c)))
theorem result_hb : (W8 m ρ c main_v11_1 : FVec Ideal S16384x2048 .bf16) = hiddenOf m c :=
  (W8_of m ρ c main_v11_1 (by decide)).trans ((W7_arr m ρ c 6).trans ((final3_6 (V6 m ρ) c).trans (layer3_eq m ρ c)))

theorem kept_kv7 : (W7 m ρ c main_v3 : FVec Ideal S2048x1024 .f32) = keysValues (X m c) (WKV m c) :=
  (W7_of m ρ c main_v3 (by decide)).trans ((W6_of m ρ c main_v3 (by decide)).trans ((W5_of m ρ c main_v3 (by decide)).trans (kept_kv4 m ρ c)))

/-- The third result is the memory's keys and values, by prompt, row, head and entry. -/
theorem result_kv (b : Fin 8) (i : Fin 256) (h : Fin 4) (x : Fin 256) :
    (W8 m ρ c main_v12 : FVec Ideal S8x256x4x256 .f32) (ix4 b i h x)
      = ∑ k : Fin 2048, X m c (ix3 b i k) * WKV m c (ix2 k ⟨h.val * 256 + x.val, by omega⟩) := by
  have e := kept_kv7 m ρ c
  dsimp only [W8]
  after_results
  rw [e]
  pointwise []
  show ∑ k : Fin 2048, X m c (ix3 _ _ k) * WKV m c (ix2 k _) = _
  refine Finset.sum_congr rfl fun k _ => ?_
  congr 2
  exact congrArg₂ (ix3 · · k) (Fin.ext (by show (b.val * 256 + i.val) / 256 = b.val; omega)) (Fin.ext (by show (b.val * 256 + i.val) % 256 = i.val; omega))

end Cert.Kernel6Ideal.Memory

end
-- ==== Proof.Memory.Reference.lean ====
module

public import proofs.«01_k».proof.Proof.Memory.Attend
public import proofs.«01_k».proof.Proof.Gen.Reference6Ideal.Read

/-! The reference of the attention over the memory, read at an entry: it is the attention, projection and norm of `Attend.lean`. -/

@[expose] public section
set_option maxRecDepth 16384
noncomputable section

namespace Cert.Kernel6Ideal.Memory

open Idealize.ShloMosaic Cert.Reference6Ideal Cert.Reference6Ideal.Read

variable (x0 : FVec Ideal S16384x2048 .f32) (x1 : FVec Ideal S8x256x2048 .f32) (x2 : FVec Ideal S2048x1024 .f32) (x3 : FVec Ideal S2048x512 .f32)
  (x4 : FVec Ideal S512x2048 .f32) (x5 x6 : FVec Ideal S2048 .f32)

theorem neg_inf : Ideal.ofBits .f32 0xFF800000#32 = ⊥ := by simp [Ideal.ofBits, Ideal.ieee]

/-- Row `k` of prompt `b` among the rows of all memories. -/
theorem rows_at (b : Fin 8) (k : Fin 256) (i : Fin 2048) : rows x1 (ix2 ⟨b.val * 256 + k.val, by omega⟩ i) = x1 (ix3 b k i) :=
  congrArg₂ (fun p q => x1 (ix3 p q i)) (Fin.ext (by show (b.val * 256 + k.val) / 256 = b.val; omega))
    (Fin.ext (by show (b.val * 256 + k.val) % 256 = k.val; omega))

/-- The memory's keys and values at prompt `b`, row `k`, column `j`. -/
theorem keysValues_at (b : Fin 8) (k : Fin 256) (j : Fin 1024) :
    keysValues x1 x2 (ix2 ⟨b.val * 256 + k.val, by omega⟩ j) = ∑ i : Fin 2048, x1 (ix3 b k i) * x2 (ix2 i j) := by
  show ∑ i : Fin 2048, rows x1 (ix2 _ i) * x2 (ix2 i j) = _
  exact Finset.sum_congr rfl fun i _ => congrArg (· * x2 (ix2 i j)) (rows_at x1 b k i)

/-- The logits of token `s` of prompt `b` in head `h`. -/
def logits (b : Fin 8) (h : Fin 4) (s : Fin 2048) (k : Fin 256) : EReal :=
  logit (fun x => queries x0 x3 (ix2 ⟨b.val * 2048 + s.val, by omega⟩ ⟨h.val * 128 + x.val, by omega⟩))
    (fun x => keysValues x1 x2 (ix2 ⟨b.val * 256 + k.val, by omega⟩ ⟨h.val * 256 + x.val, by omega⟩))

variable (b : Fin 8) (h : Fin 4) (s : Fin 2048) (k : Fin 256)

theorem ref_logit : val_main_v7 (F := Ideal) x0 x1 x2 x3 (ix4 b h s k) = logits x0 x1 x2 x3 b h s k := by
  rw [val_main_v7_apply, val_main_v6_apply, val_main_cst_apply]
  unfold logits logit
  refine congrArg (· * Ideal.ofBits .f32 0x3DB504F3#32) ?_
  simp only [keysValues_at]
  pointwise [val_main_v5, val_main_v4, val_main_v3, val_main_v2, val_main_v1, val_main_v0]
  rfl

theorem ref_top : val_main_v10 (F := Ideal) x0 x1 x2 x3 (ix3 b h s) = top (logits x0 x1 x2 x3 b h s) := by
  rw [val_main_v10_apply, val_main_v9_apply, val_main_cst_1_apply]
  have e : val_main_v8 (F := Ideal) x0 x1 x2 x3 (ix3 b h s) = top (logits x0 x1 x2 x3 b h s) := by
    pointwise [val_main_v8, val_main_cst_0]
    simp only [ref_logit]
    rfl
  rw [e]
  show max (Ideal.ofBits .f32 0xFF800000#32) _ = _
  rw [neg_inf]
  exact max_eq_right bot_le

theorem ref_exp : val_main_v14 (F := Ideal) x0 x1 x2 x3 (ix4 b h s k)
    = Ideal.exp (logits x0 x1 x2 x3 b h s k - top (logits x0 x1 x2 x3 b h s)) := by
  rw [val_main_v14_apply, val_main_v13_apply, val_main_v12_apply, val_main_v11_apply]
  have e : idx_main_v11 (idx_main_v12 (ix4 b h s k)) = ix3 b h s := by funext a; match a with | ⟨0, _⟩ => rfl | ⟨1, _⟩ => rfl | ⟨2, _⟩ => rfl
  rw [e, ref_top, ref_logit]
  rfl

theorem ref_mass : val_main_v15 (F := Ideal) x0 x1 x2 x3 (ix3 b h s)
    = ∑ k, Ideal.exp (logits x0 x1 x2 x3 b h s k - top (logits x0 x1 x2 x3 b h s)) := by
  rw [val_main_v15_apply, val_main_cst_2_apply]
  have e : ∀ k, idx_main_v15 (ix3 b h s) k = ix4 b h s k := fun k => by funext a; match a with | ⟨0, _⟩ => rfl | ⟨1, _⟩ => rfl | ⟨2, _⟩ => rfl | ⟨3, _⟩ => rfl
  simp only [e, ref_exp]
  show Ideal.ofBits .f32 0x00000000#32 + _ = _
  rw [Ideal.ofBits_zero_f32, zero_add]

theorem ref_weight : val_main_v18 (F := Ideal) x0 x1 x2 x3 (ix4 b h s k) = weight (logits x0 x1 x2 x3 b h s) k := by
  rw [val_main_v18_apply, val_main_v17_apply, val_main_v16_apply]
  have e : idx_main_v16 (idx_main_v17 (ix4 b h s k)) = ix3 b h s := by funext a; match a with | ⟨0, _⟩ => rfl | ⟨1, _⟩ => rfl | ⟨2, _⟩ => rfl
  rw [e, ref_mass, ref_exp]
  rfl

/-- The logits of token `r` in the head of column `j` are those of its prompt, place and head. -/
theorem logits_at (r : Fin 16384) (j : Fin 512) (k : Fin 256) :
    logits x0 x1 x2 x3 ⟨r.val / 2048, by omega⟩ ⟨j.val / 128, by omega⟩ ⟨r.val % 2048, by omega⟩ k
      = logit (fun x => queries x0 x3 (ix2 r (qcol j x))) (fun x => keysValues x1 x2 (ix2 (mrow r k) (kcol j x))) :=
  congrArg (fun p => logit (fun x => queries x0 x3 (ix2 p (qcol j x))) (fun x => keysValues x1 x2 (ix2 (mrow r k) (kcol j x))))
    (Fin.ext (by show r.val / 2048 * 2048 + r.val % 2048 = r.val; omega))

/-- The reference's attention is the attention. -/
theorem ref_attention (r : Fin 16384) (j : Fin 512) : val_main_v22 (F := Ideal) x0 x1 x2 x3 (ix2 r j) = attention x0 x1 x2 x3 (ix2 r j) := by
  pointwise [val_main_v22, val_main_v21, val_main_v20, val_main_v19, val_main_v1, val_main_v0]
  show _ = ∑ i, weight _ i * keysValues x1 x2 (ix2 (mrow r i) (vcol j))
  refine Finset.sum_congr rfl fun i _ => ?_
  rw [ref_weight, mul_comm]
  refine congrArg₂ (· * ·) (congrArg (weight · i) (funext fun k => logits_at x0 x1 x2 x3 r j k)) ?_
  exact (keysValues_at x1 x2 ⟨r.val / 2048, by omega⟩ i (vcol j)).symm

/-- The reference's row before the norm. -/
theorem ref_summed (r : Fin 16384) (j : Fin 2048) :
    val_main_v26 (F := Ideal) x0 x1 x2 x3 x4 (ix2 r j)
      = Norm.summed (x0 (ix2 r j)) (fun k => attention x0 x1 x2 x3 (ix2 r k)) (fun k => x4 (ix2 k j)) := by
  pointwise [val_main_v26, val_main_v25, val_main_v24, val_main_v23, val_main_cst_3]
  simp only [ref_attention]
  rfl

/-- The centred entry. -/
theorem ref_centred (r : Fin 16384) (j : Fin 2048) :
    val_main_v32 (F := Ideal) x0 x1 x2 x3 x4 (ix2 r j)
      = val_main_v26 (F := Ideal) x0 x1 x2 x3 x4 (ix2 r j) - Norm.mean (fun k => val_main_v26 (F := Ideal) x0 x1 x2 x3 x4 (ix2 r k)) := by
  pointwise [val_main_v32, val_main_v31, val_main_v30, val_main_v29, val_main_v28, val_main_v27, val_main_cst_4, val_main_cst_5]
  rfl

/-- The normalised entry from the centred ones. -/
theorem ref_scaled (r : Fin 16384) (j : Fin 2048) :
    val_main_v48 (F := Ideal) x0 x1 x2 x3 x4 x5 x6 (ix2 r j)
      = val_main_v32 (F := Ideal) x0 x1 x2 x3 x4 (ix2 r j)
        * Ideal.rsqrt (Norm.mean (fun k => val_main_v32 (F := Ideal) x0 x1 x2 x3 x4 (ix2 r k) * val_main_v32 (F := Ideal) x0 x1 x2 x3 x4 (ix2 r k))
          + Ideal.ofBits .f32 0x3727C5AC#32)
        * x5 (ix1 j) + x6 (ix1 j) := by
  pointwise [val_main_v48, val_main_v47, val_main_v46, val_main_v45, val_main_v44, val_main_v43, val_main_v42, val_main_v41, val_main_v40, val_main_v39, val_main_v38,
    val_main_v37, val_main_v36, val_main_v35, val_main_v34, val_main_v33, val_main_cst_6, val_main_cst_7, val_main_cst_8]
  rfl

/-- The reference's first result is the layer's new hidden states. -/
theorem ref_hidden : val_main_v48 (F := Ideal) x0 x1 x2 x3 x4 x5 x6 = (hidden x0 x1 x2 x3 x4 x5 x6 : FVec Ideal S16384x2048 .f32) := by
  funext i
  obtain ⟨r, j, rfl⟩ : ∃ (r : Fin 16384) (j : Fin 2048), i = ix2 r j := ⟨i 0, i 1, by funext a; match a with | ⟨0, _⟩ => rfl | ⟨1, _⟩ => rfl⟩
  rw [ref_scaled]
  simp only [ref_centred, ref_summed]
  rfl

/-- The reference's third result, by prompt, row, head and entry. -/
theorem ref_kv (i : Fin 256) (x : Fin 256) :
    val_main_v1 (F := Ideal) x1 x2 (ix4 b i h x) = ∑ k : Fin 2048, x1 (ix3 b i k) * x2 (ix2 k ⟨h.val * 256 + x.val, by omega⟩) := by
  pointwise [val_main_v1, val_main_v0]

end Cert.Kernel6Ideal.Memory

end
-- ==== Proof.Memory.Claims.lean ====
module

public import proofs.«01_k».proof.Defs
public import proofs.«01_k».proof.Proof.Memory.Run
public import proofs.«01_k».proof.Proof.Memory.Arrays
public import proofs.«01_k».proof.Proof.Memory.Reference
public import Idealize.ShloMosaic.Lib.Quiescent

/-! The claims about the attention over the prompt's memory: its reference runs, and kernel and reference agree on all
arguments. -/

@[expose] public section
noncomputable section

namespace Cert.Kernel6Ideal.Memory

open Idealize.ShloMosaic Idealize.ShloMosaic.TcCoe Cert.Kernel6Ideal Cert.Kernel6Ideal.Gen Idealize.SL.Sem
open Cert.Reference6Ideal.Read

/-- The reference runs, leaves its arguments as they were and every counter at zero: it declares none. -/
theorem reference_frame : Cert.quiescent_Reference6Ideal := fun m ρ _ =>
  (θ_run Cert.Reference6Ideal.defs _ _).mono (fun _ h => ⟨fun c => (h c).2.2.2, sem_eq_zero_of_no_sems (by decide) _⟩)
    (Cert.Reference6Ideal.Value.run m ρ)

/-- The reference's keys and values are the kernel's third result. -/
theorem kv_eq (m : (ℓ : Loc nD τ sig) → Buf (Elt Ideal) ℓ) (ρ : Dev nD → PrngReg) (c : Dev nD) :
    val_main_v1 (F := Ideal) (X m c) (WKV m c) = (W8 m ρ c main_v12 : FVec Ideal S8x256x4x256 .f32) := by
  funext i
  obtain ⟨b, r, h, x, rfl⟩ : ∃ (b : Fin 8) (r : Fin 256) (h : Fin 4) (x : Fin 256), i = ix4 b r h x :=
    ⟨i 0, i 1, i 2, i 3, by funext a; match a with | ⟨0, _⟩ => rfl | ⟨1, _⟩ => rfl | ⟨2, _⟩ => rfl | ⟨3, _⟩ => rfl⟩
  exact (ref_kv (X m c) (WKV m c) b h r x).trans (result_kv m ρ c b r h x).symm

/-- Kernel and reference end with the same three arrays: the new hidden states twice, and the memory's keys and values. -/
theorem algebraic : Cert.algebraic_Kernel6Ideal_Reference6Ideal := fun m ρ m' ρ' _ harg =>
  ⟨fun c => hiddenOf m c, fun c => hiddenOf m c, fun c => W8 m ρ c main_v12,
    (θ_run defs _ _).mono (fun _ h c => ⟨
      (h c _ (mem_uc main_v11_0 (by decide))).trans (result_h m ρ c), (h c _ (mem_uc main_v11_1 (by decide))).trans (result_hb m ρ c),
      h c _ (mem_uc main_v12 (by decide)),
      (h c _ (mem_uc main_arg0 (by decide))).trans (W8_main_arg0 m ρ c), (h c _ (mem_uc main_arg1 (by decide))).trans (W8_main_arg1 m ρ c),
      (h c _ (mem_uc main_arg2 (by decide))).trans (W8_main_arg2 m ρ c), (h c _ (mem_uc main_arg3 (by decide))).trans (W8_main_arg3 m ρ c),
      (h c _ (mem_uc main_arg4 (by decide))).trans (W8_main_arg4 m ρ c), (h c _ (mem_uc main_arg5 (by decide))).trans (W8_main_arg5 m ρ c),
      (h c _ (mem_uc main_arg6 (by decide))).trans (W8_main_arg6 m ρ c)⟩) (run_contents m ρ),
    (θ_run Cert.Reference6Ideal.defs _ _).mono (fun _ h c => by
      obtain ⟨e0, e1, e2, e3, e4, e5, e6⟩ := harg c
      obtain ⟨h0, h1, h2, ha⟩ := h c
      rw [val_main_v48_eq] at h0
      rw [val_main_v49_eq] at h1
      rw [e0, e1, e2, e3, e4, e5, e6] at h0 h1
      rw [e1, e2] at h2
      exact ⟨h0.trans (ref_hidden _ _ _ _ _ _ _), h1.trans (ref_hidden _ _ _ _ _ _ _), h2.trans ((val_main_v1_eq _ _).trans (kv_eq m ρ c)), ha⟩)
      (Cert.Reference6Ideal.Value.run m' ρ')⟩

end Cert.Kernel6Ideal.Memory

end
-- ==== Proof.Norm.Block.lean ====
module

public import proofs.«01_k».proof.Proof.Norm.Row
public import proofs.«01_k».proof.Proof.Gen.Kernel7Ideal.Value
public import Idealize.ShloMosaic.Lib.Pipeline.ValueKit
public import Idealize.ShloMosaic.Lib.Pipeline.ReadBack

/-! The mixer's output projection with its norm: what a grid point reads and leaves, and the two result arrays. Point `t`
of the 32 works on the 512 tokens of block `t` and on all columns. -/

@[expose] public section
set_option maxRecDepth 16384
noncomputable section

namespace Cert.Norm

open Idealize.ShloMosaic Idealize.ShloMosaic.TcCoe Cert.Kernel7Ideal Cert.Kernel7Ideal.Gen Idealize.SL.Sem
open Idealize.ShloMosaic.Pipeline (Dat Cfg Window)

section
variable (a : Vec Ideal S512x2048 .bf16) (w : Vec Ideal S2048x2048 .bf16) (x : Vec Ideal S512x2048 .f32) (g b : Vec Ideal S1x2048 .f32)
  (r : Fin 512) (j : Fin 2048)

/-- A normalised entry computed from blocks. -/
abbrev bnormed : EReal :=
  normed (fun i => summed (x (ix2 r i)) (fun k => a (ix2 r k)) (fun k => w (ix2 k i))) (fun i => g (ix2 0 i)) (fun i => b (ix2 0 i)) j

theorem pay_value : k0_pay1 (F := Ideal) x a w g b (ix2 r j) = bnormed a w x g b r j := by
  pointwise [k0_pay1]
  rfl

/-- What the body leaves at row `r` and column `j` of the first result, and of the second. -/
theorem body5 : (out0_5 (F := Ideal) a w x g b : Vec Ideal S512x2048 .f32) (ix2 r j) = bnormed a w x g b r j := by
  unfold out0_5
  frame_out
  exact pay_value a w x g b r j
theorem body6 : (out0_6 (F := Ideal) a w x g b : Vec Ideal S512x2048 .bf16) (ix2 r j) = bnormed a w x g b r j := by
  unfold out0_6
  frame_out
  exact pay_value a w x g b r j
end

variable (m : (ℓ : Loc nD τ sig) → Buf (Elt Ideal) ℓ) (c : Dev nD) (t : Fin cfg0.N)

theorem N_lt : t.val < 32 := t.isLt.trans_eq N_0

/-- The token that row `r` of the point's block is. -/
abbrev row (r : Fin 512) : Fin 16384 := ⟨t.val * 512 + r.val, by have := N_lt t; omega⟩

theorem idx_rows : ∀ t : Fin cfg0.N,
    (win0_0.index t 0 = t.val ∧ win0_0.index t 1 = 0) ∧ (win0_2.index t 0 = t.val ∧ win0_2.index t 1 = 0)
    ∧ (win0_5.index t 0 = t.val ∧ win0_5.index t 1 = 0) ∧ (win0_6.index t 0 = t.val ∧ win0_6.index t 1 = 0) :=
  (by decide +kernel : ∀ t : Fin grid0.N, _)

theorem idx_weights : ∀ t : Fin cfg0.N,
    (win0_1.index t 0 = 0 ∧ win0_1.index t 1 = 0) ∧ (win0_3.index t 0 = 0 ∧ win0_3.index t 1 = 0)
    ∧ (win0_4.index t 0 = 0 ∧ win0_4.index t 1 = 0) :=
  (by decide +kernel : ∀ t : Fin grid0.N, _)

theorem read0 (r : Fin 512) (k : Fin 2048) :
    (iblk m c 0 t : Vec Ideal S512x2048 .bf16) (ix2 r k) = (m ((c : Thread nD τ).loc main_arg0) : FVec Ideal S16384x2048 .bf16) (ix2 (row t r) k) := by
  obtain ⟨⟨e0, e1⟩, -, -, -⟩ := idx_rows t
  have := N_lt t
  blk_ext [iblk, V_main_arg0, e0, e1]
theorem read1 (k j : Fin 2048) :
    (iblk m c 1 t : Vec Ideal S2048x2048 .bf16) (ix2 k j) = (m ((c : Thread nD τ).loc main_arg1) : FVec Ideal S2048x2048 .f32) (ix2 k j) := by
  obtain ⟨⟨e0, e1⟩, -, -⟩ := idx_weights t
  have := N_lt t
  blk_ext! [iblk, V, e0, e1]
theorem read2 (r : Fin 512) (k : Fin 2048) :
    (iblk m c 2 t : Vec Ideal S512x2048 .f32) (ix2 r k) = (m ((c : Thread nD τ).loc main_arg2) : FVec Ideal S16384x2048 .f32) (ix2 (row t r) k) := by
  obtain ⟨-, ⟨e0, e1⟩, -, -⟩ := idx_rows t
  have := N_lt t
  blk_ext [iblk, V_main_arg2, e0, e1]
theorem read3 (j : Fin 2048) :
    (iblk m c 3 t : Vec Ideal S1x2048 .f32) (ix2 0 j) = (m ((c : Thread nD τ).loc main_arg3) : FVec Ideal S2048 .f32) (ix1 j) := by
  obtain ⟨-, ⟨e0, e1⟩, -⟩ := idx_weights t
  have := N_lt t
  blk_ext! [iblk, V, e0, e1]
theorem read4 (j : Fin 2048) :
    (iblk m c 4 t : Vec Ideal S1x2048 .f32) (ix2 0 j) = (m ((c : Thread nD τ).loc main_arg4) : FVec Ideal S2048 .f32) (ix1 j) := by
  obtain ⟨-, -, e0, e1⟩ := idx_weights t
  have := N_lt t
  blk_ext! [iblk, V, e0, e1]

/-- The normalised array of the arguments as launched. -/
abbrev layerOf (j : S16384x2048.Idx) : EReal :=
  layer (m ((c : Thread nD τ).loc main_arg0) : FVec Ideal S16384x2048 .bf16) (m ((c : Thread nD τ).loc main_arg1) : FVec Ideal S2048x2048 .f32)
    (m ((c : Thread nD τ).loc main_arg2) : FVec Ideal S16384x2048 .f32) (m ((c : Thread nD τ).loc main_arg3) : FVec Ideal S2048 .f32)
    (m ((c : Thread nD τ).loc main_arg4) : FVec Ideal S2048 .f32) j

/-- What point `t` leaves at row `r` and column `j` of its block, in both results. -/
theorem block5 (r : Fin 512) (j : Fin 2048) :
    ((dats m 0 c).after 5 t : Vec Ideal S512x2048 .f32) (ix2 r j) = layerOf m c (ix2 (row t r) j) := by
  rw [after0_5, body5]
  simp only [bnormed, read0, read1, read2, read3, read4]
  rfl
theorem block6 (r : Fin 512) (j : Fin 2048) :
    ((dats m 0 c).after 6 t : Vec Ideal S512x2048 .bf16) (ix2 r j) = layerOf m c (ix2 (row t r) j) := by
  rw [after0_6, body6]
  simp only [bnormed, read0, read1, read2, read3, read4]
  rfl

/-- The two result arrays after the run. -/
theorem final5 : (dats m 0 c).arrAt 5 cfg0.N = (layerOf m c : FVec Ideal S16384x2048 .f32) := by
  refine (dats m 0 c).arrAt_eq_of_covers 5 _ (by decide +kernel) fun t hf y => ?_
  obtain ⟨-, -, ⟨e0, e1⟩, -⟩ := idx_rows t
  obtain ⟨r, j, rfl⟩ : ∃ (r : Fin 512) (j : Fin 2048), y = ix2 r j := ⟨y 0, y 1, by funext a; match a with | ⟨0, _⟩ => rfl | ⟨1, _⟩ => rfl⟩
  refine (block5 m c t r j).trans ?_
  blk_simp
  refine congrArg (layerOf m c) (funext fun a => Fin.ext ?_)
  match a with
  | ⟨0, _⟩ => blk_simp [e0, e1]
  | ⟨1, _⟩ => blk_simp [e0, e1]
theorem final6 : (dats m 0 c).arrAt 6 cfg0.N = (layerOf m c : FVec Ideal S16384x2048 .bf16) := by
  refine (dats m 0 c).arrAt_eq_of_covers 6 _ (by decide +kernel) fun t hf y => ?_
  obtain ⟨-, -, -, ⟨e0, e1⟩⟩ := idx_rows t
  obtain ⟨r, j, rfl⟩ : ∃ (r : Fin 512) (j : Fin 2048), y = ix2 r j := ⟨y 0, y 1, by funext a; match a with | ⟨0, _⟩ => rfl | ⟨1, _⟩ => rfl⟩
  refine (block6 m c t r j).trans ?_
  blk_simp
  refine congrArg (layerOf m c) (funext fun a => Fin.ext ?_)
  match a with
  | ⟨0, _⟩ => blk_simp [e0, e1]
  | ⟨1, _⟩ => blk_simp [e0, e1]

/-- The run: both results are the normalised array, the arguments are as launched. -/
theorem run (ρ : Dev nD → PrngReg) :
    θ_run defs (onTc (τ := τ) (main (F := Ideal))) ⟨m, fun _ => 0, ρ⟩ fun r => ∀ c : Dev nD,
      r.2.mem ((c : Thread nD τ).loc main_v3_0) = (layerOf m c : FVec Ideal S16384x2048 .f32)
      ∧ r.2.mem ((c : Thread nD τ).loc main_v3_1) = (layerOf m c : FVec Ideal S16384x2048 .bf16)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2⟩) (Value.run_blocks m ρ)

end Cert.Norm

end
-- ==== Proof.Norm.Claims.lean ====
module

public import proofs.«01_k».proof.Defs
public import proofs.«01_k».proof.Proof.Norm.Block
public import proofs.«01_k».proof.Proof.Gen.Reference7Ideal.Read
public import Idealize.ShloMosaic.Lib.Quiescent

/-! The reference of the projection and norm, and the claims about it: the reference runs, and kernel and reference agree
on all arguments. -/

@[expose] public section
set_option maxRecDepth 16384
noncomputable section

namespace Cert.Norm

open Idealize.ShloMosaic Idealize.SL.Sem Cert.Reference7Ideal Cert.Reference7Ideal.Read

variable (a : FVec Ideal S16384x2048 .bf16) (w : FVec Ideal S2048x2048 .f32) (x : FVec Ideal S16384x2048 .f32) (g b : FVec Ideal S2048 .f32)

/-- The reference's row before the norm. -/
theorem ref_summed (r : Fin 16384) (j : Fin 2048) :
    val_main_v4 (F := Ideal) a w x (ix2 r j) = summed (x (ix2 r j)) (fun k => a (ix2 r k)) (fun k => w (ix2 k j)) := by
  pointwise [val_main_v4, val_main_v1, val_main_v0, val_main_cst, val_main_v3, val_main_v2]
  rfl

/-- The centred entry. -/
theorem ref_centred (r : Fin 16384) (j : Fin 2048) :
    val_main_v10 (F := Ideal) a w x (ix2 r j)
      = val_main_v4 (F := Ideal) a w x (ix2 r j) - mean (fun k => val_main_v4 (F := Ideal) a w x (ix2 r k)) := by
  pointwise [val_main_v10, val_main_v9, val_main_v8, val_main_v7, val_main_v6, val_main_v5, val_main_cst_0, val_main_cst_1]
  rfl

/-- The normalised entry from the centred ones. -/
theorem ref_scaled (r : Fin 16384) (j : Fin 2048) :
    val_main_v26 (F := Ideal) a w x g b (ix2 r j)
      = val_main_v10 (F := Ideal) a w x (ix2 r j)
        * Ideal.rsqrt (mean (fun k => val_main_v10 (F := Ideal) a w x (ix2 r k) * val_main_v10 (F := Ideal) a w x (ix2 r k)) + Ideal.ofBits .f32 0x3727C5AC#32)
        * g (ix1 j) + b (ix1 j) := by
  pointwise [val_main_v26, val_main_v25, val_main_v24, val_main_v23, val_main_v22, val_main_v21, val_main_v20, val_main_v19, val_main_v18, val_main_v17,
    val_main_v16, val_main_v15, val_main_v14, val_main_v13, val_main_v12, val_main_v11, val_main_cst_2, val_main_cst_3, val_main_cst_4]
  rfl

/-- The reference's result is the normalised array. -/
theorem ref_layer : val_main_v26 (F := Ideal) a w x g b = (layer a w x g b : FVec Ideal S16384x2048 .f32) := by
  funext i
  obtain ⟨r, j, rfl⟩ : ∃ (r : Fin 16384) (j : Fin 2048), i = ix2 r j := ⟨i 0, i 1, by funext a; match a with | ⟨0, _⟩ => rfl | ⟨1, _⟩ => rfl⟩
  rw [ref_scaled]
  simp only [ref_centred, ref_summed]
  rfl

/-- The reference runs, leaves its arguments as they were and every counter at zero: it declares none. -/
theorem reference_frame : Cert.quiescent_Reference7Ideal := fun m ρ _ =>
  (θ_run Cert.Reference7Ideal.defs _ _).mono (fun _ h => ⟨fun c => (h c).2.2, sem_eq_zero_of_no_sems (by decide) _⟩) (Cert.Reference7Ideal.Value.run m ρ)

/-- Kernel and reference end with the same two arrays: the layer norm of the scaled input plus the projection. -/
theorem algebraic : Cert.algebraic_Kernel7Ideal_Reference7Ideal := fun m ρ m' ρ' _ harg =>
  ⟨fun c => layerOf m c, fun c => layerOf m c, run m ρ,
    (θ_run Cert.Reference7Ideal.defs _ _).mono (fun _ h c => by
      obtain ⟨e0, e1, e2, e3, e4⟩ := harg c
      obtain ⟨h0, h1, ha⟩ := h c
      rw [e0, e1, e2, e3, e4] at h0 h1
      exact ⟨h0.trans ((val_main_v26_eq _ _ _ _ _).trans (ref_layer _ _ _ _ _)), h1.trans ((val_main_v27_eq _ _ _ _ _).trans (ref_layer _ _ _ _ _)), ha⟩)
      (Cert.Reference7Ideal.Value.run m' ρ')⟩

end Cert.Norm

end
-- ==== Proof.lean ====
module

public import proofs.«01_k».proof.Proof.Gen.KernelIdeal.Value
public import proofs.«01_k».proof.Proof.Gen.ReferenceIdeal.Read
public import proofs.«01_k».proof.Defs
public import proofs.«01_k».proof.Proof.Fox.Claims
public import proofs.«01_k».proof.Proof.Gate.Claims
public import proofs.«01_k».proof.Proof.Expert.Claims
public import proofs.«01_k».proof.Proof.Hidden.Claims
public import proofs.«01_k».proof.Proof.Project.Claims
public import proofs.«01_k».proof.Proof.Memory.Claims
public import proofs.«01_k».proof.Proof.Norm.Claims
public import proofs.«01_k».proof.Proof.Gen.Kernel5
public import proofs.«01_k».proof.Proof.Gen.Kernel5Ideal
public import proofs.«01_k».proof.Proof.Gen.Reference5Ideal
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Read
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
  Cert.Fox.reference_frame, fun m ρ _ => Cert.Fox.reference_frame m ρ trivial,
  fun m ρ _ => Cert.Kernel2.Gen.frame m ρ, fun m ρ _ => Cert.Kernel2Ideal.Gen.frame m ρ, Cert.Gate.reference_frame,
  Cert.Kernel3Ideal.Expert.kernel_frame, Cert.Kernel3Ideal.Expert.ideal_frame, Cert.Kernel3Ideal.Expert.reference_frame,
  Cert.Kernel4Ideal.Hidden.kernel_frame, Cert.Kernel4Ideal.Hidden.ideal_frame, Cert.Kernel4Ideal.Hidden.reference_frame,
  fun m ρ _ => Cert.Kernel5.Gen.frame m ρ, fun m ρ _ => Cert.Kernel5Ideal.Gen.frame m ρ, Cert.Kernel5Ideal.Project.reference_frame,
  fun m ρ _ => Cert.Kernel6.Gen.frame m ρ, fun m ρ _ => Cert.Kernel6Ideal.Gen.frame m ρ, Cert.Kernel6Ideal.Memory.reference_frame,
  fun m ρ _ => Cert.Kernel7.Gen.frame m ρ, fun m ρ _ => Cert.Kernel7Ideal.Gen.frame m ρ, Cert.Norm.reference_frame,
  trivial, Cert.Fox.algebraic, trivial, Cert.Gate.algebraic,
  trivial, Cert.Kernel3Ideal.Expert.algebraic,
  trivial, Cert.Kernel4Ideal.Hidden.algebraic,
  trivial, Cert.Kernel5Ideal.Project.algebraic,
  trivial, Cert.Kernel6Ideal.Memory.algebraic,
  trivial, Cert.Norm.algebraic⟩

end Cert.Proof

end
